-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_v9) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4096x512 : Shape := ⟨2, ![4096, 512]⟩
abbrev S4x4096 : Shape := ⟨2, ![4, 4096]⟩
abbrev S_ : Shape := ⟨0, ![]⟩

class Facts : Prop where
  bcast_S_S4096x512 : S_.BroadcastsInDim S4096x512 (![] : Fin 0 → Fin S4096x512.rank)
  bcast_S_S4x4096 : S_.BroadcastsInDim S4x4096 (![] : Fin 0 → Fin S4x4096.rank)

variable [Facts]

def fn {F : FTy → Type} [FloatOps F] (main_arg0 : FVec F S4096x512 .f32) (main_arg1 : FVec F S4096x512 .f32) (main_arg2 : FVec F S4096x512 .f32) (main_arg3 : FVec F S4x4096 .f32) (main_arg4 : FVec F S4096x512 .f32) : IVec S4096x512 1 × IVec S4096x512 1 × IVec S4096x512 1 × IVec S4x4096 1 × IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4x4096 .f32 := Host.absf main_arg3
  let main_cst_2 : FVec F S_ .f32 := constant S_ .f32 0x7F800000#32
  let main_v10 : FVec F S4x4096 .f32 := broadcastInDim S4x4096 ![] bcast_S_S4x4096 main_cst_2
  let main_v11 : IVec S4x4096 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  (main_v2, main_v5, main_v8, main_v11, main_v14)
-- ==== Pre_finite7.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S4096x2048 1 × IVec S5632x2048 1 × IVec S4096x5632 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4096x5632 .f32 := (extf .f32 · bitsLt_bf16_f32) main_arg2
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  let main_v12 : FVec F S4096x5632 .f32 := (extf .f32 · bitsLt_bf16_f32) main_arg3
  let main_v13 : FVec F S4096x5632 .f32 := Host.absf main_v12
  let main_cst_2 : FVec F S_ .f32 := constant S_ .f32 0x7F800000#32
  let main_v14 : FVec F S4096x5632 .f32 := broadcastInDim S4096x5632 ![] bcast_S_S4096x5632 main_cst_2
  let main_v15 : IVec S4096x5632 1 := cmpf .olt main_v13 main_v14
  (main_v3, main_v7, main_v11, main_v15)
-- ==== Kernel.lean ====
abbrev S4096x512 : Shape := ⟨2, ![4096, 512]⟩
abbrev S4x4096 : Shape := ⟨2, ![4, 4096]⟩
abbrev S144 : Shape := ⟨1, ![144]⟩
abbrev S4096x1536 : Shape := ⟨2, ![4096, 1536]⟩
abbrev S4x4096x1 : Shape := ⟨3, ![4, 4096, 1]⟩
abbrev S4x1x4096 : Shape := ⟨3, ![4, 1, 4096]⟩
abbrev S4096x4x128 : Shape := ⟨3, ![4096, 4, 128]⟩
abbrev S4x4096x128 : Shape := ⟨3, ![4, 4096, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S512x128 : Shape := ⟨2, ![512, 128]⟩
abbrev S1 : Shape := ⟨1, ![1]⟩
abbrev S1x512x1 : Shape := ⟨3, ![1, 512, 1]⟩
abbrev S1x1x512 : Shape := ⟨3, ![1, 1, 512]⟩
abbrev S512x1 : Shape := ⟨2, ![512, 1]⟩
abbrev S512 : Shape := ⟨1, ![512]⟩
abbrev S1x512 : Shape := ⟨2, ![1, 512]⟩
abbrev S512x512 : Shape := ⟨2, ![512, 512]⟩

abbrev nBuf : Space → Nat
  | .hbm => 93
  | .vmem => 23
  | .smem => 4
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4x4096, .f32⟩
  | .hbm, ⟨4, _⟩ => ⟨S4096x512, .f32⟩
  | .hbm, ⟨5, _⟩ => ⟨S4096x1536, .f32⟩
  | .hbm, ⟨6, _⟩ => ⟨S4096x1536, .bf16⟩
  | .hbm, ⟨7, _⟩ => ⟨S4x4096x1, .f32⟩
  | .hbm, ⟨8, _⟩ => ⟨S4x1x4096, .f32⟩
  | .hbm, ⟨9, _⟩ => ⟨S4096x4x128, .f32⟩
  | .hbm, ⟨10, _⟩ => ⟨S4x4096x128, .f32⟩
  | .hbm, ⟨11, _⟩ => ⟨S4096x4x128, .f32⟩
  | .hbm, ⟨12, _⟩ => ⟨S4x4096x128, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x1, .f32⟩
  | .hbm, ⟨18, _⟩ => ⟨S4x1x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S4x4096x4096, .i1⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x4096, .f32⟩
  | .hbm, ⟨47, _⟩ => ⟨S4x4096x4096, .f32⟩
  | .hbm, ⟨48, _⟩ => ⟨S4096x4x128, .f32⟩
  | .hbm, ⟨49, _⟩ => ⟨S4x4096x128, .f32⟩
  | .hbm, ⟨50, _⟩ => ⟨S4x4096x128, .f32⟩
  | .hbm, ⟨51, _⟩ => ⟨S4096x4x128, .f32⟩
  | .hbm, ⟨52, _⟩ => ⟨S4096x512, .f32⟩
  | .hbm, ⟨53, _⟩ => ⟨S4096x512, .bf16⟩
  | .hbm, ⟨54, _⟩ => ⟨S4096x512, .bf16⟩
  | .hbm, ⟨55, _⟩ => ⟨S4096x4x128, .f32⟩
  | .hbm, ⟨56, _⟩ => ⟨S4x4096x128, .f32⟩
  | .hbm, ⟨57, _⟩ => ⟨S4096x4x128, .f32⟩
  | .hbm, ⟨58, _⟩ => ⟨S4x4096x128, .f32⟩
  | .hbm, ⟨59, _⟩ => ⟨S4x4096x4096, .f32⟩
  | .hbm, ⟨60, _⟩ => ⟨S_, .f32⟩
  | .hbm, ⟨61, _⟩ => ⟨S4x4096x4096, .f32⟩
  | .hbm, ⟨62, _⟩ => ⟨S4x4096x4096, .f32⟩
  | .hbm, ⟨63, _⟩ => ⟨S4x4096x1, .f32⟩
  | .hbm, ⟨64, _⟩ => ⟨S4x1x4096, .f32⟩
  | .hbm, ⟨65, _⟩ => ⟨S4x4096x4096, .f32⟩
  | .hbm, ⟨66, _⟩ => ⟨S4x4096x4096, .f32⟩
  | .hbm, ⟨67, _⟩ => ⟨S4x4096x4096, .f32⟩
  | .hbm, ⟨68, _⟩ => ⟨S4x4096x4096, .f32⟩
  | .hbm, ⟨69, _⟩ => ⟨S4096, .i32⟩
  | .hbm, ⟨70, _⟩ => ⟨S1x4096, .i32⟩
  | .hbm, ⟨71, _⟩ => ⟨S4096x1, .i32⟩
  | .hbm, ⟨72, _⟩ => ⟨S4096x4096, .i32⟩
  | .hbm, ⟨73, _⟩ => ⟨S4096x4096, .i32⟩
  | .hbm, ⟨74, _⟩ => ⟨S4096x4096, .i1⟩
  | .hbm, ⟨75, _⟩ => ⟨S_, .f32⟩
  | .hbm, ⟨76, _⟩ => ⟨S_, .f32⟩
  | .hbm, ⟨77, _⟩ => ⟨S4x4096x4096, .i1⟩
  | .hbm, ⟨78, _⟩ => ⟨S4x4096x4096, .f32⟩
  | .hbm, ⟨79, _⟩ => ⟨S4x4096x4096, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S4x4096x4096, .f32⟩
  | .hbm, ⟨84, _⟩ => ⟨S4x4096x4096, .f32⟩
  | .hbm, ⟨85, _⟩ => ⟨S4x4096x4096, .f32⟩
  | .hbm, ⟨86, _⟩ => ⟨S_, .f32⟩
  | .hbm, ⟨87, _⟩ => ⟨S4x4096, .f32⟩
  | .hbm, ⟨88, _⟩ => ⟨S4x4096x1, .f32⟩
  | .hbm, ⟨89, _⟩ => ⟨S4x4096x1, .f32⟩
  | .hbm, ⟨90, _⟩ => ⟨S4x4096x1, .f32⟩
  | .hbm, ⟨91, _⟩ => ⟨S4096x512, .bf16⟩
  | .hbm, ⟨92, _⟩ => ⟨S4x4096x1, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x512x1, .f32⟩
  | .local _ .vmem, ⟨7, _⟩ => ⟨S1x512x1, .f32⟩
  | .local _ .vmem, ⟨8, _⟩ => ⟨S1x1x512, .f32⟩
  | .local _ .vmem, ⟨9, _⟩ => ⟨S1x1x512, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S1x512x1, .f32⟩
  | .local _ .vmem, ⟨15, _⟩ => ⟨S1x512x1, .f32⟩
  | .local _ .vmem, ⟨16, _⟩ => ⟨S512x128, .bf16⟩
  | .local _ .vmem, ⟨17, _⟩ => ⟨S512x128, .bf16⟩
  | .local _ .vmem, ⟨18, _⟩ => ⟨S1x512x1, .f32⟩
  | .local _ .vmem, ⟨19, _⟩ => ⟨S1x512x1, .f32⟩
  | .local _ .vmem, ⟨20, _⟩ => ⟨S512x128, .f32⟩
  | .local _ .vmem, ⟨21, _⟩ => ⟨S512x1, .f32⟩
  | .local _ .vmem, ⟨22, _⟩ => ⟨S512x1, .f32⟩
  | .local _ .smem, ⟨0, _⟩ => ⟨S144, .i32⟩
  | .local _ .smem, ⟨1, _⟩ => ⟨S144, .i32⟩
  | .local _ .smem, ⟨2, _⟩ => ⟨S144, .i32⟩
  | .local _ .smem, ⟨3, _⟩ => ⟨S144, .i32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71_0 : Ref sig .tc := ⟨.hbm, 91, rfl⟩
abbrev main_v71_1 : Ref sig .tc := ⟨.hbm, 92, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![144], ![false]⟩

abbrev pre0 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (v1 : BitVec 32) (v3 : BitVec 32) : BitVec 1 :=
  let v15 : BitVec 1 := Scalar.cmpi .eq v3 v1
  let v16 : BitVec 32 := Scalar.extui v15
  let c0_i32_2 : BitVec 32 := 0#32
  let v17 : BitVec 1 := Scalar.cmpi .ne v16 c0_i32_2
  v17

def cc0_transform_0 (k0_off1_inb : ∀ i : grid0.Coords, ∀ a, (k0_off1 i) a + S1.size a ≤ S144.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S144) ![v0.toNat] S1.size (k0_off1_inb i)) numel1_S1
  let v2 : Index := Scalar.indexCast arg0
  let v3 : BitVec 32 := pf.at 0 (Rect.unit (s := S144) ![v2.toNat] S1.size (k0_off1_inb i)) numel1_S1
  let c0_i32 : BitVec 32 := 0#32
  let v4 : BitVec 32 := Scalar.addi c0_i32 v3
  let c0_i32_0 : BitVec 32 := 0#32
  ![v1.toNat, v4.toNat]

def cc0_transform_1 (k0_off1_inb : ∀ i : grid0.Coords, ∀ a, (k0_off1 i) a + S1.size a ≤ S144.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S144) ![v0.toNat] S1.size (k0_off1_inb i)) numel1_S1
  let v2 : Index := Scalar.indexCast arg0
  let v3 : BitVec 32 := pf.at 0 (Rect.unit (s := S144) ![v2.toNat] S1.size (k0_off1_inb i)) numel1_S1
  let c4_i32 : BitVec 32 := 4#32
  let v4 : BitVec 32 := Scalar.addi c4_i32 v3
  let c0_i32 : BitVec 32 := 0#32
  ![v1.toNat, v4.toNat]

def cc0_transform_2 (k0_off1_inb : ∀ i : grid0.Coords, ∀ a, (k0_off1 i) a + S1.size a ≤ S144.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S144) ![v0.toNat] S1.size (k0_off1_inb i)) numel1_S1
  let v2 : Index := Scalar.indexCast arg0
  let v3 : BitVec 32 := pf.at 0 (Rect.unit (s := S144) ![v2.toNat] S1.size (k0_off1_inb i)) numel1_S1
  let c8_i32 : BitVec 32 := 8#32
  let v4 : BitVec 32 := Scalar.addi c8_i32 v3
  let c0_i32 : BitVec 32 := 0#32
  ![v1.toNat, v4.toNat]

def cc0_transform_3 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let v2 : Index := Scalar.indexCast arg0
  let v3 : BitVec 32 := pf.at 1 (Rect.unit (s := S144) ![v2.toNat] S1.size (k0_off1_inb i)) numel1_S1
  let c0_i32 : BitVec 32 := 0#32
  let c0_i32_0 : BitVec 32 := 0#32
  ![v1.toNat, v3.toNat, c0_i32.toNat]

def cc0_transform_4 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let v2 : Index := Scalar.indexCast arg0
  let v3 : BitVec 32 := pf.at 2 (Rect.unit (s := S144) ![v2.toNat] S1.size (k0_off1_inb i)) numel1_S1
  let c0_i32 : BitVec 32 := 0#32
  let c0_i32_0 : BitVec 32 := 0#32
  ![v1.toNat, c0_i32.toNat, v3.toNat]

def cc0_transform_5 (k0_off1_inb : ∀ i : grid0.Coords, ∀ a, (k0_off1 i) a + S1.size a ≤ S144.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S144) ![v0.toNat] S1.size (k0_off1_inb i)) numel1_S1
  let v2 : Index := Scalar.indexCast arg0
  let v3 : BitVec 32 := pf.at 0 (Rect.unit (s := S144) ![v2.toNat] S1.size (k0_off1_inb i)) numel1_S1
  let c0_i32 : BitVec 32 := 0#32
  let v4 : BitVec 32 := Scalar.addi c0_i32 v3
  let c0_i32_0 : BitVec 32 := 0#32
  ![v1.toNat, v4.toNat]

def cc0_transform_6 (k0_off1_inb : ∀ i : grid0.Coords, ∀ a, (k0_off1 i) a + S1.size a ≤ S144.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S144) ![v0.toNat] S1.size (k0_off1_inb i)) numel1_S1
  let v2 : Index := Scalar.indexCast arg0
  let v3 : BitVec 32 := pf.at 0 (Rect.unit (s := S144) ![v2.toNat] S1.size (k0_off1_inb i)) numel1_S1
  let c0_i32 : BitVec 32 := 0#32
  let v4 : BitVec 32 := Scalar.addi c0_i32 v3
  let c0_i32_0 : BitVec 32 := 0#32
  ![v1.toNat, v4.toNat]

def cc0_transform_7 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let v2 : Index := Scalar.indexCast arg0
  let v3 : BitVec 32 := pf.at 1 (Rect.unit (s := S144) ![v2.toNat] S1.size (k0_off1_inb i)) numel1_S1
  let c0_i32 : BitVec 32 := 0#32
  let c0_i32_0 : BitVec 32 := 0#32
  ![v1.toNat, v3.toNat, c0_i32.toNat]

def cc0_transform_8 (k0_off1_inb : ∀ i : grid0.Coords, ∀ a, (k0_off1 i) a + S1.size a ≤ S144.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S144) ![v0.toNat] S1.size (k0_off1_inb i)) numel1_S1
  let v2 : Index := Scalar.indexCast arg0
  let v3 : BitVec 32 := pf.at 0 (Rect.unit (s := S144) ![v2.toNat] S1.size (k0_off1_inb i)) numel1_S1
  let c0_i32 : BitVec 32 := 0#32
  ![v1.toNat, v3.toNat]

def cc0_transform_9 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let v2 : Index := Scalar.indexCast arg0
  let v3 : BitVec 32 := pf.at 1 (Rect.unit (s := S144) ![v2.toNat] S1.size (k0_off1_inb i)) numel1_S1
  let c0_i32 : BitVec 32 := 0#32
  let c0_i32_0 : BitVec 32 := 0#32
  ![v1.toNat, v3.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4096x512 : Shape := ⟨2, ![4096, 512]⟩
abbrev S4x4096 : Shape := ⟨2, ![4, 4096]⟩
abbrev S4096x4x128 : Shape := ⟨3, ![4096, 4, 128]⟩
abbrev S4x4096x128 : Shape := ⟨3, ![4, 4096, 128]⟩
abbrev S4x4096x4096 : Shape := ⟨3, ![4, 4096, 4096]⟩
abbrev S_ : Shape := ⟨0, ![]⟩
abbrev S4x4096x1 : Shape := ⟨3, ![4, 4096, 1]⟩
abbrev S4x1x4096 : Shape := ⟨3, ![4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x128x4096 : Shape := ⟨3, ![4, 128, 4096]⟩

abbrev nBuf : Space → Nat
  | .hbm => 121
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4x4096, .f32⟩
  | .hbm, ⟨4, _⟩ => ⟨S4096x512, .f32⟩
  | .hbm, ⟨5, _⟩ => ⟨S4096x4x128, .f32⟩
  | .hbm, ⟨6, _⟩ => ⟨S4x4096x128, .f32⟩
  | .hbm, ⟨7, _⟩ => ⟨S4096x4x128, .f32⟩
  | .hbm, ⟨8, _⟩ => ⟨S4x4096x128, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x1, .f32⟩
  | .hbm, ⟨14, _⟩ => ⟨S4x1x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S4096, .i32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4x4096x4096, .i1⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .i1⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S_, .f32⟩
  | .hbm, ⟨41, _⟩ => ⟨S4x4096, .f32⟩
  | .hbm, ⟨42, _⟩ => ⟨S4x4096, .f32⟩
  | .hbm, ⟨43, _⟩ => ⟨S_, .f32⟩
  | .hbm, ⟨44, _⟩ => ⟨S4x4096, .f32⟩
  | .hbm, ⟨45, _⟩ => ⟨S4x4096, .i1⟩
  | .hbm, ⟨46, _⟩ => ⟨S_, .f32⟩
  | .hbm, ⟨47, _⟩ => ⟨S4x4096, .f32⟩
  | .hbm, ⟨48, _⟩ => ⟨S4x4096, .i1⟩
  | .hbm, ⟨49, _⟩ => ⟨S_, .f32⟩
  | .hbm, ⟨50, _⟩ => ⟨S4x4096, .f32⟩
  | .hbm, ⟨51, _⟩ => ⟨S_, .f32⟩
  | .hbm, ⟨52, _⟩ => ⟨S4x4096, .f32⟩
  | .hbm, ⟨53, _⟩ => ⟨S_, .f32⟩
  | .hbm, ⟨54, _⟩ => ⟨S4x4096, .f32⟩
  | .hbm, ⟨55, _⟩ => ⟨S4x4096, .f32⟩
  | .hbm, ⟨56, _⟩ => ⟨S4x4096, .f32⟩
  | .hbm, ⟨57, _⟩ => ⟨S4x4096x1, .f32⟩
  | .hbm, ⟨58, _⟩ => ⟨S4x4096x4096, .f32⟩
  | .hbm, ⟨59, _⟩ => ⟨S4x4096x4096, .f32⟩
  | .hbm, ⟨60, _⟩ => ⟨S4x4096x4096, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S4x4096x4096, .f32⟩
  | .hbm, ⟨65, _⟩ => ⟨S4x4096x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4096x4x128, .f32⟩
  | .hbm, ⟨71, _⟩ => ⟨S4x4096x128, .f32⟩
  | .hbm, ⟨72, _⟩ => ⟨S4x4096x128, .f32⟩
  | .hbm, ⟨73, _⟩ => ⟨S4096x4x128, .f32⟩
  | .hbm, ⟨74, _⟩ => ⟨S4096x512, .f32⟩
  | .hbm, ⟨75, _⟩ => ⟨S4096x4x128, .f32⟩
  | .hbm, ⟨76, _⟩ => ⟨S4x4096x128, .f32⟩
  | .hbm, ⟨77, _⟩ => ⟨S4x128x4096, .f32⟩
  | .hbm, ⟨78, _⟩ => ⟨S4x4096x128, .f32⟩
  | .hbm, ⟨79, _⟩ => ⟨S4x4096x4096, .f32⟩
  | .hbm, ⟨80, _⟩ => ⟨S4096x4x128, .f32⟩
  | .hbm, ⟨81, _⟩ => ⟨S4096x512, .f32⟩
  | .hbm, ⟨82, _⟩ => ⟨S4x4096x4096, .f32⟩
  | .hbm, ⟨83, _⟩ => ⟨S4x4096x4096, .f32⟩
  | .hbm, ⟨84, _⟩ => ⟨S4x4096x4096, .f32⟩
  | .hbm, ⟨85, _⟩ => ⟨S_, .f32⟩
  | .hbm, ⟨86, _⟩ => ⟨S4x4096, .f32⟩
  | .hbm, ⟨87, _⟩ => ⟨S4x4096x1, .f32⟩
  | .hbm, ⟨88, _⟩ => ⟨S4x4096x1, .f32⟩
  | .hbm, ⟨89, _⟩ => ⟨S4x4096x4096, .f32⟩
  | .hbm, ⟨90, _⟩ => ⟨S4x4096x4096, .f32⟩
  | .hbm, ⟨91, _⟩ => ⟨S_, .f32⟩
  | .hbm, ⟨92, _⟩ => ⟨S4x4096, .f32⟩
  | .hbm, ⟨93, _⟩ => ⟨S4x4096x4096, .f32⟩
  | .hbm, ⟨94, _⟩ => ⟨S4x4096x4096, .f32⟩
  | .hbm, ⟨95, _⟩ => ⟨S4x4096x4096, .f32⟩
  | .hbm, ⟨96, _⟩ => ⟨S_, .f32⟩
  | .hbm, ⟨97, _⟩ => ⟨S4x4096x4096, .f32⟩
  | .hbm, ⟨98, _⟩ => ⟨S4x4096x4096, .f32⟩
  | .hbm, ⟨99, _⟩ => ⟨S_, .f32⟩
  | .hbm, ⟨100, _⟩ => ⟨S4x4096, .f32⟩
  | .hbm, ⟨101, _⟩ => ⟨S4x4096x1, .f32⟩
  | .hbm, ⟨102, _⟩ => ⟨S4x4096x4096, .f32⟩
  | .hbm, ⟨103, _⟩ => ⟨S_, .f32⟩
  | .hbm, ⟨104, _⟩ => ⟨S4x4096, .f32⟩
  | .hbm, ⟨105, _⟩ => ⟨S4x1x4096, .f32⟩
  | .hbm, ⟨106, _⟩ => ⟨S_, .f32⟩
  | .hbm, ⟨107, _⟩ => ⟨S4x4096, .f32⟩
  | .hbm, ⟨108, _⟩ => ⟨S_, .f32⟩
  | .hbm, ⟨109, _⟩ => ⟨S4x4096, .f32⟩
  | .hbm, ⟨110, _⟩ => ⟨S_, .f32⟩
  | .hbm, ⟨111, _⟩ => ⟨S4x4096x4096, .f32⟩
  | .hbm, ⟨112, _⟩ => ⟨S4x4096x4096, .f32⟩
  | .hbm, ⟨113, _⟩ => ⟨S4x4096x128, .f32⟩
  | .hbm, ⟨114, _⟩ => ⟨S4x4096x128, .f32⟩
  | .hbm, ⟨115, _⟩ => ⟨S4096x4x128, .f32⟩
  | .hbm, ⟨116, _⟩ => ⟨S4096x512, .f32⟩
  | .hbm, ⟨117, _⟩ => ⟨S4096x4x128, .f32⟩
  | .hbm, ⟨118, _⟩ => ⟨S4096x512, .f32⟩
  | .hbm, ⟨119, _⟩ => ⟨S4096x512, .bf16⟩
  | .hbm, ⟨120, _⟩ => ⟨S4x4096x1, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]
-- ==== Kernel2.lean ====
abbrev S4096x2048 : Shape := ⟨2, ![4096, 2048]⟩
abbrev S4096x5632 : Shape := ⟨2, ![4096, 5632]⟩
abbrev S2048x5632 : Shape := ⟨2, ![2048, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S2048x5632, .f32⟩
  | .hbm, ⟨14, _⟩ => ⟨S5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S4096x5632 : Shape := ⟨2, ![4096, 5632]⟩
abbrev S2048x5632 : Shape := ⟨2, ![2048, 5632]⟩
abbrev S4096x2048 : Shape := ⟨2, ![4096, 2048]⟩
abbrev S1024x1408 : Shape := ⟨2, ![1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S_, .f32⟩
  | .hbm, ⟨5, _⟩ => ⟨S4096x2048, .f32⟩
  | .hbm, ⟨6, _⟩ => ⟨S2048x5632, .f32⟩
  | .hbm, ⟨7, _⟩ => ⟨S4096x5632, .f32⟩
  | .hbm, ⟨8, _⟩ => ⟨S2048x5632, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S4096x2048 : Shape := ⟨2, ![4096, 2048]⟩
abbrev S2048x5632 : Shape := ⟨2, ![2048, 5632]⟩
abbrev S4096x5632 : Shape := ⟨2, ![4096, 5632]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S2048x5632, .f32⟩
  | .hbm, ⟨7, _⟩ => ⟨S4096x5632, .f32⟩
  | .hbm, ⟨8, _⟩ => ⟨S4096x5632, .bf16⟩
  | .hbm, ⟨9, _⟩ => ⟨S4096x5632, .bf16⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel6.lean ====
abbrev S4096x2048 : Shape := ⟨2, ![4096, 2048]⟩
abbrev S4096x5632 : Shape := ⟨2, ![4096, 5632]⟩
abbrev S5632x2048 : Shape := ⟨2, ![5632, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S5632x2048, .bf16⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x2048 : Shape := ⟨2, ![4096, 2048]⟩
abbrev S4096x5632 : Shape := ⟨2, ![4096, 5632]⟩
abbrev S5632x2048 : Shape := ⟨2, ![5632, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S5632x2048, .bf16⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S4096x2048 : Shape := ⟨2, ![4096, 2048]⟩
abbrev S5632x2048 : Shape := ⟨2, ![5632, 2048]⟩
abbrev S4096x5632 : Shape := ⟨2, ![4096, 5632]⟩
abbrev S512x2048 : Shape := ⟨2, ![512, 2048]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S5632x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .bf16⟩
  | .hbm, ⟨37, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel8.lean ====
abbrev S4096x2048 : Shape := ⟨2, ![4096, 2048]⟩
abbrev S4096x4096 : Shape := ⟨2, ![4096, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x4096 : Shape := ⟨2, ![4096, 4096]⟩
abbrev S2048x4096 : Shape := ⟨2, ![2048, 4096]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x2048, .f32⟩
  | .hbm, ⟨3, _⟩ => ⟨S2048x4096, .f32⟩
  | .hbm, ⟨4, _⟩ => ⟨S4096x4096, .f32⟩
  | .hbm, ⟨5, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.FoxQ.Tables.lean ====
/-
  The step tables of the forgetting attention's query-gradient call, as plain functions: which head, which query
  block, which key block a grid point handles, and whether it is the first point of its query block. The call's index
  maps in those terms, its side condition, and where an output block is written back.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Tactic

@[expose] public section

noncomputable section

namespace Cert.FoxQ

open Cert.KernelIdeal Cert.KernelIdeal.Gen
open Idealize.ShloMosaic Idealize.ShloMosaic.TcCoe
open Idealize.SL Idealize.SL.Sem

variable {F : FTy → Type} [FloatOps F]

/-! ## The words -/

/-- Head, query block, key block and first-flag of point `t`. -/
def hN (t : Fin 144) : ℕ := (lit0 t).toNat
def qN (t : Fin 144) : ℕ := (lit1 t).toNat
def kN (t : Fin 144) : ℕ := (lit2 t).toNat

theorem hN_lt : ∀ t : Fin 144, hN t < 4 := by decide
theorem qN_lt : ∀ t : Fin 144, qN t < 8 := by decide
theorem kN_le : ∀ t : Fin 144, kN t ≤ qN t := by decide
theorem first_iff : ∀ t : Fin 144, lit3 t = 1#32 ↔ kN t = 0 := by decide
theorem last_iff : ∀ t : Fin 144, lit2 t = lit1 t ↔ kN t = qN t := by decide
/-- Within a query block the points run through the key blocks in order. -/
theorem step_same : ∀ t : Fin 144, (h : kN t ≠ qN t) →
    ∃ h' : t.val + 1 < 144, hN ⟨t.val + 1, h'⟩ = hN t ∧ qN ⟨t.val + 1, h'⟩ = qN t ∧ kN ⟨t.val + 1, h'⟩ = kN t + 1 := by decide
/-- After the diagonal block the next point starts another query block. -/
theorem step_next : ∀ t : Fin 144, kN t = qN t → ∀ h' : t.val + 1 < 144,
    kN ⟨t.val + 1, h'⟩ = 0 ∧ (hN ⟨t.val + 1, h'⟩ ≠ hN t ∨ qN ⟨t.val + 1, h'⟩ ≠ qN t) := by decide

/-- The grid point of head `h`, query block `i`, key block `k`. -/
def ptN (h i k : ℕ) : ℕ := 36 * h + i * (i + 1) / 2 + k
theorem pt_lt : ∀ h : Fin 4, ∀ i : Fin 8, ∀ k : Fin 8, k.val ≤ i.val → ptN h i k < 144 := by decide
theorem pt_spec : ∀ h : Fin 4, ∀ i : Fin 8, ∀ k : Fin 8, (hk : k.val ≤ i.val) →
    hN ⟨ptN h i k, pt_lt h i k hk⟩ = h.val ∧ qN ⟨ptN h i k, pt_lt h i k hk⟩ = i.val ∧ kN ⟨ptN h i k, pt_lt h i k hk⟩ = k.val := by decide

/-! ## The tables' contents -/

theorem fin1 (x : Fin 1) : x.val = 0 := by omega

/-- The contents of the four tables. -/
def T : pre0.Contents (Elt F) := fun
  | 0 => fun i => lit0 (S144.rowMajor i)
  | 1 => fun i => lit1 (S144.rowMajor i)
  | 2 => fun i => lit2 (S144.rowMajor i)
  | 3 => fun i => lit3 (S144.rowMajor i)
  | ⟨_ + 4, h⟩ => absurd h (Nat.not_lt.2 (Nat.le_add_left _ _))

theorem rowMajor144 (x : S144.Idx) : S144.rowMajor x = x 0 := Fin.ext (Shape.rowMajor_val_one x)

theorem coord_lt (i : grid0.Coords) : (i 0).val < 144 := (i 0).isLt

theorem off_eq (i : grid0.Coords) : k0_off1 i = ![(i 0).val] := by
  have := coord_lt i
  unfold k0_off1
  funext a
  fin_cases a
  simp [Scalar.indexCast, BitVec.toNat_ofNat]
  omega

theorem at_0 (i : grid0.Coords) (off : Fin 1 → ℕ) (h : off = ![(i 0).val]) (hb) (hn) :
    (T (F := F)).at 0 (Rect.unit (s := S144) off S1.size hb) hn = lit0 ⟨(i 0).val, coord_lt i⟩ := by
  subst h
  refine (congrArg lit0 (rowMajor144 _)).trans (congrArg lit0 (Fin.ext ?_))
  refine (Rect.emb_apply _ _ _).trans ?_
  refine (congrArg (fun z => (i 0).val + 1 * z) (fin1 _)).trans (by simp)
theorem at_1 (i : grid0.Coords) (off : Fin 1 → ℕ) (h : off = ![(i 0).val]) (hb) (hn) :
    (T (F := F)).at 1 (Rect.unit (s := S144) off S1.size hb) hn = lit1 ⟨(i 0).val, coord_lt i⟩ := by
  subst h
  refine (congrArg lit1 (rowMajor144 _)).trans (congrArg lit1 (Fin.ext ?_))
  refine (Rect.emb_apply _ _ _).trans ?_
  refine (congrArg (fun z => (i 0).val + 1 * z) (fin1 _)).trans (by simp)
theorem at_2 (i : grid0.Coords) (off : Fin 1 → ℕ) (h : off = ![(i 0).val]) (hb) (hn) :
    (T (F := F)).at 2 (Rect.unit (s := S144) off S1.size hb) hn = lit2 ⟨(i 0).val, coord_lt i⟩ := by
  subst h
  refine (congrArg lit2 (rowMajor144 _)).trans (congrArg lit2 (Fin.ext ?_))
  refine (Rect.emb_apply _ _ _).trans ?_
  refine (congrArg (fun z => (i 0).val + 1 * z) (fin1 _)).trans (by simp)
theorem at_3 (i : grid0.Coords) (off : Fin 1 → ℕ) (h : off = ![(i 0).val]) (hb) (hn) :
    (T (F := F)).at 3 (Rect.unit (s := S144) off S1.size hb) hn = lit3 ⟨(i 0).val, coord_lt i⟩ := by
  subst h
  refine (congrArg lit3 (rowMajor144 _)).trans (congrArg lit3 (Fin.ext ?_))
  refine (Rect.emb_apply _ _ _).trans ?_
  refine (congrArg (fun z => (i 0).val + 1 * z) (fin1 _)).trans (by simp)

theorem atD_1 (i : grid0.Coords) : (T (F := F)).atD 1 (k0_off1 i) = lit1 ⟨(i 0).val, coord_lt i⟩ := by
  have h : ∀ a : Fin 1, k0_off1 i a < S144.size a := by
    intro a; obtain rfl := Subsingleton.elim a 0; exact (congrFun (off_eq i) 0).trans_lt (coord_lt i)
  refine (dif_pos h).trans ?_
  exact (congrArg lit1 (rowMajor144 _)).trans (congrArg lit1 (Fin.ext (congrFun (off_eq i) 0)))
theorem atD_2 (i : grid0.Coords) : (T (F := F)).atD 2 (k0_off1 i) = lit2 ⟨(i 0).val, coord_lt i⟩ := by
  have h : ∀ a : Fin 1, k0_off1 i a < S144.size a := by
    intro a; obtain rfl := Subsingleton.elim a 0; exact (congrFun (off_eq i) 0).trans_lt (coord_lt i)
  refine (dif_pos h).trans ?_
  exact (congrArg lit2 (rowMajor144 _)).trans (congrArg lit2 (Fin.ext (congrFun (off_eq i) 0)))
theorem off_val (i : grid0.Coords) : (![(Scalar.indexCast (BitVec.ofNat 32 (i 0).val)).toNat] : Fin 1 → ℕ) = ![(i 0).val] := off_eq i

/-- The point a grid coordinate names. -/
def pc (i : grid0.Coords) : Fin 144 := ⟨(i 0).val, coord_lt i⟩

theorem tr_0 (i : grid0.Coords) : cc0_transform_0 k0_off1_inb numel1_S1 (T (F := F)) i = ![qN (pc i), hN (pc i)] := by
  refine (congrArg₂ (fun w0 w1 : BitVec 32 => (![w1.toNat, (Scalar.addi 0#32 w0).toNat])) (at_0 i _ (off_val i) (k0_off1_inb i) numel1_S1) (at_1 i _ (off_val i) (k0_off1_inb i) numel1_S1)).trans ?_
  have h0 := hN_lt (pc i); have h1 := qN_lt (pc i); have h2 := kN_le (pc i); unfold hN at h0; unfold qN at h1 h2; unfold kN at h2; unfold pc at h0 h1 h2
  simp [Scalar.addi, IntOp.addi, BitVec.toNat_add, qN, hN, kN, pc, -BitVec.ofNat_eq_ofNat]
theorem tr_1 (i : grid0.Coords) : cc0_transform_1 k0_off1_inb numel1_S1 (T (F := F)) i = ![kN (pc i), 4 + hN (pc i)] := by
  refine (congrArg₂ (fun w0 w2 : BitVec 32 => (![w2.toNat, (Scalar.addi 4#32 w0).toNat])) (at_0 i _ (off_val i) (k0_off1_inb i) numel1_S1) (at_2 i _ (off_val i) (k0_off1_inb i) numel1_S1)).trans ?_
  have h0 := hN_lt (pc i); have h1 := qN_lt (pc i); have h2 := kN_le (pc i); unfold hN at h0; unfold qN at h1 h2; unfold kN at h2; unfold pc at h0 h1 h2
  simp [Scalar.addi, IntOp.addi, BitVec.toNat_add, qN, hN, kN, pc, -BitVec.ofNat_eq_ofNat]
  omega
theorem tr_2 (i : grid0.Coords) : cc0_transform_2 k0_off1_inb numel1_S1 (T (F := F)) i = ![kN (pc i), 8 + hN (pc i)] := by
  refine (congrArg₂ (fun w0 w2 : BitVec 32 => (![w2.toNat, (Scalar.addi 8#32 w0).toNat])) (at_0 i _ (off_val i) (k0_off1_inb i) numel1_S1) (at_2 i _ (off_val i) (k0_off1_inb i) numel1_S1)).trans ?_
  have h0 := hN_lt (pc i); have h1 := qN_lt (pc i); have h2 := kN_le (pc i); unfold hN at h0; unfold qN at h1 h2; unfold kN at h2; unfold pc at h0 h1 h2
  simp [Scalar.addi, IntOp.addi, BitVec.toNat_add, qN, hN, kN, pc, -BitVec.ofNat_eq_ofNat]
  omega
theorem tr_3 (i : grid0.Coords) : cc0_transform_3 k0_off1_inb numel1_S1 (T (F := F)) i = ![hN (pc i), qN (pc i), 0] := by
  refine (congrArg₂ (fun w0 w1 : BitVec 32 => (![w0.toNat, w1.toNat, (0#32).toNat])) (at_0 i _ (off_val i) (k0_off1_inb i) numel1_S1) (at_1 i _ (off_val i) (k0_off1_inb i) numel1_S1)).trans ?_
  have h0 := hN_lt (pc i); have h1 := qN_lt (pc i); have h2 := kN_le (pc i); unfold hN at h0; unfold qN at h1 h2; unfold kN at h2; unfold pc at h0 h1 h2
  simp [Scalar.addi, IntOp.addi, BitVec.toNat_add, qN, hN, kN, pc, -BitVec.ofNat_eq_ofNat]
theorem tr_4 (i : grid0.Coords) : cc0_transform_4 k0_off1_inb numel1_S1 (T (F := F)) i = ![hN (pc i), 0, kN (pc i)] := by
  refine (congrArg₂ (fun w0 w2 : BitVec 32 => (![w0.toNat, (0#32).toNat, w2.toNat])) (at_0 i _ (off_val i) (k0_off1_inb i) numel1_S1) (at_2 i _ (off_val i) (k0_off1_inb i) numel1_S1)).trans ?_
  have h0 := hN_lt (pc i); have h1 := qN_lt (pc i); have h2 := kN_le (pc i); unfold hN at h0; unfold qN at h1 h2; unfold kN at h2; unfold pc at h0 h1 h2
  simp [Scalar.addi, IntOp.addi, BitVec.toNat_add, qN, hN, kN, pc, -BitVec.ofNat_eq_ofNat]
theorem tr_5 (i : grid0.Coords) : cc0_transform_5 k0_off1_inb numel1_S1 (T (F := F)) i = ![qN (pc i), hN (pc i)] := by
  refine (congrArg₂ (fun w0 w1 : BitVec 32 => (![w1.toNat, (Scalar.addi 0#32 w0).toNat])) (at_0 i _ (off_val i) (k0_off1_inb i) numel1_S1) (at_1 i _ (off_val i) (k0_off1_inb i) numel1_S1)).trans ?_
  have h0 := hN_lt (pc i); have h1 := qN_lt (pc i); have h2 := kN_le (pc i); unfold hN at h0; unfold qN at h1 h2; unfold kN at h2; unfold pc at h0 h1 h2
  simp [Scalar.addi, IntOp.addi, BitVec.toNat_add, qN, hN, kN, pc, -BitVec.ofNat_eq_ofNat]
theorem tr_6 (i : grid0.Coords) : cc0_transform_6 k0_off1_inb numel1_S1 (T (F := F)) i = ![qN (pc i), hN (pc i)] := by
  refine (congrArg₂ (fun w0 w1 : BitVec 32 => (![w1.toNat, (Scalar.addi 0#32 w0).toNat])) (at_0 i _ (off_val i) (k0_off1_inb i) numel1_S1) (at_1 i _ (off_val i) (k0_off1_inb i) numel1_S1)).trans ?_
  have h0 := hN_lt (pc i); have h1 := qN_lt (pc i); have h2 := kN_le (pc i); unfold hN at h0; unfold qN at h1 h2; unfold kN at h2; unfold pc at h0 h1 h2
  simp [Scalar.addi, IntOp.addi, BitVec.toNat_add, qN, hN, kN, pc, -BitVec.ofNat_eq_ofNat]
theorem tr_7 (i : grid0.Coords) : cc0_transform_7 k0_off1_inb numel1_S1 (T (F := F)) i = ![hN (pc i), qN (pc i), 0] := by
  refine (congrArg₂ (fun w0 w1 : BitVec 32 => (![w0.toNat, w1.toNat, (0#32).toNat])) (at_0 i _ (off_val i) (k0_off1_inb i) numel1_S1) (at_1 i _ (off_val i) (k0_off1_inb i) numel1_S1)).trans ?_
  have h0 := hN_lt (pc i); have h1 := qN_lt (pc i); have h2 := kN_le (pc i); unfold hN at h0; unfold qN at h1 h2; unfold kN at h2; unfold pc at h0 h1 h2
  simp [Scalar.addi, IntOp.addi, BitVec.toNat_add, qN, hN, kN, pc, -BitVec.ofNat_eq_ofNat]
theorem tr_8 (i : grid0.Coords) : cc0_transform_8 k0_off1_inb numel1_S1 (T (F := F)) i = ![qN (pc i), hN (pc i)] := by
  refine (congrArg₂ (fun w0 w1 : BitVec 32 => (![w1.toNat, w0.toNat])) (at_0 i _ (off_val i) (k0_off1_inb i) numel1_S1) (at_1 i _ (off_val i) (k0_off1_inb i) numel1_S1)).trans ?_
  have h0 := hN_lt (pc i); have h1 := qN_lt (pc i); have h2 := kN_le (pc i); unfold hN at h0; unfold qN at h1 h2; unfold kN at h2; unfold pc at h0 h1 h2
  simp [Scalar.addi, IntOp.addi, BitVec.toNat_add, qN, hN, kN, pc, -BitVec.ofNat_eq_ofNat]
theorem tr_9 (i : grid0.Coords) : cc0_transform_9 k0_off1_inb numel1_S1 (T (F := F)) i = ![hN (pc i), qN (pc i), 0] := by
  refine (congrArg₂ (fun w0 w1 : BitVec 32 => (![w0.toNat, w1.toNat, (0#32).toNat])) (at_0 i _ (off_val i) (k0_off1_inb i) numel1_S1) (at_1 i _ (off_val i) (k0_off1_inb i) numel1_S1)).trans ?_
  have h0 := hN_lt (pc i); have h1 := qN_lt (pc i); have h2 := kN_le (pc i); unfold hN at h0; unfold qN at h1 h2; unfold kN at h2; unfold pc at h0 h1 h2
  simp [Scalar.addi, IntOp.addi, BitVec.toNat_add, qN, hN, kN, pc, -BitVec.ofNat_eq_ofNat]

end Cert.FoxQ
end
-- ==== Proof.FoxQ.Kit.lean ====
/-
  The query-gradient call at its tables: the tables' side condition, the call's grid points, where its output blocks
  are written back, the arrays as the call finds them and the windows' blocks.
-/
module

public import proofs.«01_k».proof.Proof.FoxQ.Tables
public import Idealize.ShloMosaic.Lib.Claim
public import Idealize.ShloMosaic.Lib.StableHlo.RunRead

@[expose] public section

set_option maxRecDepth 16384

noncomputable section

namespace Cert.FoxQ

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The side condition -/

theorem wwA (ix : Fin 2 → ℕ) (h) : (Rect.block (s := S4096x1536) S512x128.size ix h).WholeWords (EltTy.packing .bf16) :=
  .inl (.inr ⟨by decide, rfl, .inl ⟨Dvd.dvd.mul_left (show 2 ∣ 512 by decide) _, by show 2 ∣ 512; decide⟩⟩)
theorem wwB (ix : Fin 2 → ℕ) (h) : (Rect.block (s := S4096x512) S512x128.size ix h).WholeWords (EltTy.packing .bf16) :=
  .inl (.inr ⟨by decide, rfl, .inl ⟨Dvd.dvd.mul_left (show 2 ∣ 512 by decide) _, by show 2 ∣ 512; decide⟩⟩)

theorem ok : ok0 (T (F := F)) := by
  unfold ok0
  refine ⟨?_, ?_, ?_, ?_, ?_, ?_, ?_, ?_, ?_, ?_⟩ <;> intro i <;>
    have h0 := hN_lt (pc i) <;> have h1 := qN_lt (pc i) <;> have h2 := kN_le (pc i)
  · refine ⟨?_, Or.inr (wwA _ _)⟩
    rw [tr_0]; intro a; fin_cases a <;> simp [S512x128, S4096x1536] <;> omega
  · refine ⟨?_, Or.inr (wwA _ _)⟩
    rw [tr_1]; intro a; fin_cases a <;> simp [S512x128, S4096x1536] <;> omega
  · refine ⟨?_, Or.inr (wwA _ _)⟩
    rw [tr_2]; intro a; fin_cases a <;> simp [S512x128, S4096x1536] <;> omega
  · refine ⟨?_, Or.inl rfl⟩
    rw [tr_3]; intro a; fin_cases a <;> simp [S1x512x1, S4x4096x1] <;> omega
  · refine ⟨?_, Or.inl rfl⟩
    rw [tr_4]; intro a; fin_cases a <;> simp [S1x1x512, S4x1x4096] <;> omega
  · refine ⟨?_, Or.inr (wwB _ _)⟩
    rw [tr_5]; intro a; fin_cases a <;> simp [S512x128, S4096x512] <;> omega
  · refine ⟨?_, Or.inr (wwB _ _)⟩
    rw [tr_6]; intro a; fin_cases a <;> simp [S512x128, S4096x512] <;> omega
  · refine ⟨?_, Or.inl rfl⟩
    rw [tr_7]; intro a; fin_cases a <;> simp [S1x512x1, S4x4096x1] <;> omega
  · refine ⟨?_, Or.inr (wwB _ _)⟩
    rw [tr_8]; intro a; fin_cases a <;> simp [S512x128, S4096x512] <;> omega
  · refine ⟨?_, Or.inl rfl⟩
    rw [tr_9]; intro a; fin_cases a <;> simp [S1x512x1, S4x4096x1] <;> omega

/-- The tables' contents as admissible contents, and the pipeline at them. -/
abbrev adm : (pcfg0 (F := F)).Adm := ⟨T, ok⟩
abbrev cfgT : Pipeline.Cfg sig Λ₀ := cfg0 (F := F) adm

/-! ## The grid points -/

theorem N_T : (cfgT (F := F)).N = 144 := N_0
theorem lt_T (t : Fin (cfgT (F := F)).N) : t.val < 144 := t.isLt.trans_eq N_T
/-- A point of the pipeline as a row of the tables. -/
def tp (t : Fin (cfgT (F := F)).N) : Fin 144 := ⟨t.val, lt_T t⟩
theorem coords_0 (t : Fin grid0.N) : (grid0.coords t 0).val = t.val := by
  have h : t.val < 144 := t.isLt.trans_eq N_0
  rw [Pipeline.Grid.coords_val t 0 (S := 1) (B := 144) (by decide) (by decide), Nat.div_one, Nat.mod_eq_of_lt h]
theorem pc_coords (t : Fin (cfgT (F := F)).N) : pc (grid0.coords t) = tp t := Fin.ext (coords_0 t)

theorem index_0 (t : Fin (cfgT (F := F)).N) : ((cfgT (F := F)).win 0).index t = ![qN (tp t), hN (tp t)] :=
  (tr_0 (grid0.coords t)).trans (by rw [pc_coords])
theorem index_1 (t : Fin (cfgT (F := F)).N) : ((cfgT (F := F)).win 1).index t = ![kN (tp t), 4 + hN (tp t)] :=
  (tr_1 (grid0.coords t)).trans (by rw [pc_coords])
theorem index_2 (t : Fin (cfgT (F := F)).N) : ((cfgT (F := F)).win 2).index t = ![kN (tp t), 8 + hN (tp t)] :=
  (tr_2 (grid0.coords t)).trans (by rw [pc_coords])
theorem index_3 (t : Fin (cfgT (F := F)).N) : ((cfgT (F := F)).win 3).index t = ![hN (tp t), qN (tp t), 0] :=
  (tr_3 (grid0.coords t)).trans (by rw [pc_coords])
theorem index_4 (t : Fin (cfgT (F := F)).N) : ((cfgT (F := F)).win 4).index t = ![hN (tp t), 0, kN (tp t)] :=
  (tr_4 (grid0.coords t)).trans (by rw [pc_coords])
theorem index_5 (t : Fin (cfgT (F := F)).N) : ((cfgT (F := F)).win 5).index t = ![qN (tp t), hN (tp t)] :=
  (tr_5 (grid0.coords t)).trans (by rw [pc_coords])
theorem index_6 (t : Fin (cfgT (F := F)).N) : ((cfgT (F := F)).win 6).index t = ![qN (tp t), hN (tp t)] :=
  (tr_6 (grid0.coords t)).trans (by rw [pc_coords])
theorem index_7 (t : Fin (cfgT (F := F)).N) : ((cfgT (F := F)).win 7).index t = ![hN (tp t), qN (tp t), 0] :=
  (tr_7 (grid0.coords t)).trans (by rw [pc_coords])
theorem index_8 (t : Fin (cfgT (F := F)).N) : ((cfgT (F := F)).win 8).index t = ![qN (tp t), hN (tp t)] :=
  (tr_8 (grid0.coords t)).trans (by rw [pc_coords])
theorem index_9 (t : Fin (cfgT (F := F)).N) : ((cfgT (F := F)).win 9).index t = ![hN (tp t), qN (tp t), 0] :=
  (tr_9 (grid0.coords t)).trans (by rw [pc_coords])

/-! ## Where the output blocks are written back -/

/-- The row of the tables is the last of its query block. -/
def lastB (t : Fin (cfgT (F := F)).N) : Bool := decide (kN (tp t) = qN (tp t))

theorem flush_8 (t : Fin (cfgT (F := F)).N) : ((cfgT (F := F)).win 8).flush t = lastB t := by
  have hN := N_T (F := F)
  rw [Pipeline.Window.flush_eq_flushF, Bool.eq_iff_iff]
  unfold Pipeline.Window.flushF lastB
  simp only [decide_eq_true_eq, Bool.and_eq_true, Bool.or_eq_true]
  constructor
  · rintro ⟨-, h | ⟨h, a, ha⟩⟩
    · by_contra hc
      obtain ⟨h', -⟩ := step_same (tp t) hc
      have : (tp t).val + 1 = 144 := h.trans hN
      omega
    · by_contra hc
      obtain ⟨h', e0, e1, -⟩ := step_same (tp t) hc
      refine ha ?_
      rw [index_8, index_8]
      have e : tp (F := F) ⟨t.val + 1, h⟩ = ⟨(tp t).val + 1, h'⟩ := rfl
      rw [e, e0, e1]
  · intro h
    refine ⟨rfl, ?_⟩
    by_cases h' : t.val + 1 = 144
    · exact Or.inl (h'.trans hN.symm)
    · have hlt := lt_T t
      have h1 : (tp t).val + 1 < 144 := by show t.val + 1 < 144; omega
      have h2 : t.val + 1 < (cfgT (F := F)).N := h1.trans_eq hN.symm
      refine Or.inr ⟨h2, ?_⟩
      have e : tp (F := F) ⟨t.val + 1, h2⟩ = ⟨(tp t).val + 1, h1⟩ := rfl
      obtain ⟨-, h3 | h3⟩ := step_next (tp t) h h1
      · refine ⟨(1 : Fin 2), ?_⟩; rw [index_8, index_8, e]; exact h3
      · refine ⟨(0 : Fin 2), ?_⟩; rw [index_8, index_8, e]; exact h3
theorem flush_9 (t : Fin (cfgT (F := F)).N) : ((cfgT (F := F)).win 9).flush t = lastB t := by
  have hN := N_T (F := F)
  rw [Pipeline.Window.flush_eq_flushF, Bool.eq_iff_iff]
  unfold Pipeline.Window.flushF lastB
  simp only [decide_eq_true_eq, Bool.and_eq_true, Bool.or_eq_true]
  constructor
  · rintro ⟨-, h | ⟨h, a, ha⟩⟩
    · by_contra hc
      obtain ⟨h', -⟩ := step_same (tp t) hc
      have : (tp t).val + 1 = 144 := h.trans hN
      omega
    · by_contra hc
      obtain ⟨h', e0, e1, -⟩ := step_same (tp t) hc
      refine ha ?_
      rw [index_9, index_9]
      have e : tp (F := F) ⟨t.val + 1, h⟩ = ⟨(tp t).val + 1, h'⟩ := rfl
      rw [e, e0, e1]
  · intro h
    refine ⟨rfl, ?_⟩
    by_cases h' : t.val + 1 = 144
    · exact Or.inl (h'.trans hN.symm)
    · have hlt := lt_T t
      have h1 : (tp t).val + 1 < 144 := by show t.val + 1 < 144; omega
      have h2 : t.val + 1 < (cfgT (F := F)).N := h1.trans_eq hN.symm
      refine Or.inr ⟨h2, ?_⟩
      have e : tp (F := F) ⟨t.val + 1, h2⟩ = ⟨(tp t).val + 1, h1⟩ := rfl
      obtain ⟨-, h3 | h3⟩ := step_next (tp t) h h1
      · refine ⟨(0 : Fin 3), ?_⟩; rw [index_9, index_9, e]; exact h3
      · refine ⟨(1 : Fin 3), ?_⟩; rw [index_9, index_9, e]; exact h3

/-! ## The arrays as the call finds them -/

variable (m : (ℓ : Loc nD τ sig) → Buf (Elt F) ℓ) (ρ : Dev nD → PrngReg)

/-- The device's buffers when the call starts: after the host lines before it. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- The program up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host line before the call writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the call writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the call writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the call writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host line before the call writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- What the tables hold when the call starts. -/
theorem V_pre (c : Dev nD) : (j : Fin 4) → V m c (pre0.ref j) = T j
  | 0 => by show V m c main_c = _; unfold_abbrev_sides; after_reads_simp; rfl
  | 1 => by show V m c main_c_0 = _; unfold_abbrev_sides; after_reads_simp; rfl
  | 2 => by show V m c main_c_1 = _; unfold_abbrev_sides; after_reads_simp; rfl
  | 3 => by show V m c main_c_2 = _; unfold_abbrev_sides; after_reads_simp; rfl

/-- Each table as the body is handed it: its whole buffer as a memref, and that memref's wholeness. -/
abbrev tbM0_0 : Memref sig .tc .smem S144 .i32 := Memref.whole main_c
abbrev htbM0_0 : tbM0_0.IsWhole := Memref.isWhole_whole _
abbrev tbM0_1 : Memref sig .tc .smem S144 .i32 := Memref.whole main_c_0
abbrev htbM0_1 : tbM0_1.IsWhole := Memref.isWhole_whole _
abbrev tbM0_2 : Memref sig .tc .smem S144 .i32 := Memref.whole main_c_1
abbrev htbM0_2 : tbM0_2.IsWhole := Memref.isWhole_whole _
abbrev tbM0_3 : Memref sig .tc .smem S144 .i32 := Memref.whole main_c_2
abbrev htbM0_3 : tbM0_3.IsWhole := Memref.isWhole_whole _

/-- A table's contents on core `c`, and the half of it that the body reads. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves, table by table. -/
theorem PhiT0_eq (c : Dev nD) : (Pipeline.ΦT pre0 T c : sProp 𝕄) = iprop(tbPt0 c tbM0_0 (T 0) ∗ tbPt0 c tbM0_1 (T 1) ∗ tbPt0 c tbM0_2 (T 2) ∗ tbPt0 c tbM0_3 (T 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the call finds it. -/
def iblk (c : Dev nD) (w : Fin (cfgT (F := F)).W) (t : Fin (cfgT (F := F)).N) : (((cfgT (F := F)).win w).xblock ((cfgT (F := F)).grid.coords t)).Idx → Elt F ((cfgT (F := F)).win w).elt :=
  (((cfgT (F := F)).win w).blk t).view.read (Elt F) (V m c (Pipeline.arrRef spec0 w))

/-- The body finds input window 0's block in its staging buffer. -/
theorem before0_0_of {c : Dev nD} (dat : Dat τ (Elt F) Unit ℕ (UR sig nD τ) ℕ (cfgT (F := F)) c) (hA : dat.A 0 = V m c (Pipeline.arrRef spec0 0))
    (hafter : ∀ t, dat.after 0 t = iblk m c 0 t) (t : Fin (cfgT (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The body finds input window 1's block in its staging buffer. -/
theorem before0_1_of {c : Dev nD} (dat : Dat τ (Elt F) Unit ℕ (UR sig nD τ) ℕ (cfgT (F := F)) c) (hA : dat.A 1 = V m c (Pipeline.arrRef spec0 1))
    (hafter : ∀ t, dat.after 1 t = iblk m c 1 t) (t : Fin (cfgT (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The body finds input window 2's block in its staging buffer. -/
theorem before0_2_of {c : Dev nD} (dat : Dat τ (Elt F) Unit ℕ (UR sig nD τ) ℕ (cfgT (F := F)) c) (hA : dat.A 2 = V m c (Pipeline.arrRef spec0 2))
    (hafter : ∀ t, dat.after 2 t = iblk m c 2 t) (t : Fin (cfgT (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The body finds input window 3's block in its staging buffer. -/
theorem before0_3_of {c : Dev nD} (dat : Dat τ (Elt F) Unit ℕ (UR sig nD τ) ℕ (cfgT (F := F)) c) (hA : dat.A 3 = V m c (Pipeline.arrRef spec0 3))
    (hafter : ∀ t, dat.after 3 t = iblk m c 3 t) (t : Fin (cfgT (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The body finds input window 4's block in its staging buffer. -/
theorem before0_4_of {c : Dev nD} (dat : Dat τ (Elt F) Unit ℕ (UR sig nD τ) ℕ (cfgT (F := F)) c) (hA : dat.A 4 = V m c (Pipeline.arrRef spec0 4))
    (hafter : ∀ t, dat.after 4 t = iblk m c 4 t) (t : Fin (cfgT (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The body finds input window 5's block in its staging buffer. -/
theorem before0_5_of {c : Dev nD} (dat : Dat τ (Elt F) Unit ℕ (UR sig nD τ) ℕ (cfgT (F := F)) c) (hA : dat.A 5 = V m c (Pipeline.arrRef spec0 5))
    (hafter : ∀ t, dat.after 5 t = iblk m c 5 t) (t : Fin (cfgT (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The body finds input window 6's block in its staging buffer. -/
theorem before0_6_of {c : Dev nD} (dat : Dat τ (Elt F) Unit ℕ (UR sig nD τ) ℕ (cfgT (F := F)) c) (hA : dat.A 6 = V m c (Pipeline.arrRef spec0 6))
    (hafter : ∀ t, dat.after 6 t = iblk m c 6 t) (t : Fin (cfgT (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The body finds input window 7's block in its staging buffer. -/
theorem before0_7_of {c : Dev nD} (dat : Dat τ (Elt F) Unit ℕ (UR sig nD τ) ℕ (cfgT (F := F)) c) (hA : dat.A 7 = V m c (Pipeline.arrRef spec0 7))
    (hafter : ∀ t, dat.after 7 t = iblk m c 7 t) (t : Fin (cfgT (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

end Cert.FoxQ
end
-- ==== Proof.FoxQ.Body.lean ====
/-
  One grid point of the query-gradient call: what the body leaves in the two output blocks and the three carried buffers.
-/
module

public import proofs.«01_k».proof.Proof.FoxQ.Kit
public import Idealize.ShloMosaic.Lib.VecWindow
public import Idealize.ShloMosaic.Lib.Tactic.Stretches

@[expose] public section

set_option maxRecDepth 16384

noncomputable section

namespace Cert.FoxQ

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev acM : Memref sig .tc .vmem S512x128 .f32 := Memref.whole cc0_scratch0
abbrev deM : Memref sig .tc .vmem S512x1 .f32 := Memref.whole cc0_scratch1
abbrev roM : Memref sig .tc .vmem S512x1 .f32 := Memref.whole cc0_scratch2

/-! ## The words the body reads, and what it asks of them -/

/-- The three words at a point: query block, key block, first flag. -/
abbrev rd1 (i : grid0.Coords) : BitVec 32 :=
  View.readAt (Elt F) tbM0_1.view (Rect.unit (s := S144) (k0_off1 i) S1.size (k0_off1_inb i)).toLoadRect (T (F := F) 1) (Shape.Idx.first (numel1_S1 ▸ Nat.one_pos))
abbrev rd2 (i : grid0.Coords) : BitVec 32 :=
  View.readAt (Elt F) tbM0_2.view (Rect.unit (s := S144) (k0_off1 i) S1.size (k0_off1_inb i)).toLoadRect (T (F := F) 2) (Shape.Idx.first (numel1_S1 ▸ Nat.one_pos))
abbrev rd3 (i : grid0.Coords) : BitVec 32 :=
  View.readAt (Elt F) tbM0_3.view (Rect.unit (s := S144) (k0_off1 i) S1.size (k0_off1_inb i)).toLoadRect (T (F := F) 3) (Shape.Idx.first (numel1_S1 ▸ Nat.one_pos))

theorem rd1_eq (i : grid0.Coords) : rd1 (F := F) i = lit1 (pc i) := at_1 (F := F) i _ (off_eq i) (k0_off1_inb i) numel1_S1
theorem rd2_eq (i : grid0.Coords) : rd2 (F := F) i = lit2 (pc i) := at_2 (F := F) i _ (off_eq i) (k0_off1_inb i) numel1_S1
theorem rd3_eq (i : grid0.Coords) : rd3 (F := F) i = lit3 (pc i) := at_3 (F := F) i _ (off_eq i) (k0_off1_inb i) numel1_S1

theorem c1_iff (w : BitVec 32) : (Scalar.cmpi .ne (Scalar.extui (Scalar.cmpi .eq w 1#32) : BitVec 32) 0#32 : BitVec 1) = 1#1 ↔ w = 1#32 := by
  by_cases h : w = 1#32
  · subst h; decide
  · have hb : (w == 1#32) = false := beq_eq_false_iff_ne.mpr h
    simp only [Scalar.cmpi, Scalar.extui, IntOp.cmpi, hb]; exact iff_of_false (by decide) h
theorem c2_iff (v w : BitVec 32) : (Scalar.cmpi .ne (Scalar.extui (Scalar.xori (Scalar.cmpi .eq w v) 1#1) : BitVec 32) 0#32 : BitVec 1) = 1#1 ↔ ¬ w = v := by
  by_cases h : w = v
  · have hb : (w == v) = true := beq_iff_eq.mpr h
    simp only [Scalar.cmpi, Scalar.extui, Scalar.xori, IntOp.cmpi, hb]; exact iff_of_false (by decide) (not_not.mpr h)
  · have hb : (w == v) = false := beq_eq_false_iff_ne.mpr h
    simp only [Scalar.cmpi, Scalar.extui, Scalar.xori, IntOp.cmpi, hb]; exact iff_of_true (by decide) h
theorem c3_iff (v w : BitVec 32) : (Scalar.cmpi .ne (Scalar.extui (Scalar.cmpi .eq w v) : BitVec 32) 0#32 : BitVec 1) = 1#1 ↔ w = v := by
  by_cases h : w = v
  · have hb : (w == v) = true := beq_iff_eq.mpr h
    simp only [Scalar.cmpi, Scalar.extui, IntOp.cmpi, hb]; exact iff_of_true (by decide) h
  · have hb : (w == v) = false := beq_eq_false_iff_ne.mpr h
    simp only [Scalar.cmpi, Scalar.extui, IntOp.cmpi, hb]; exact iff_of_false (by decide) h
theorem c4_iff (v w : BitVec 32) : k0_cond4 v w = 1#1 ↔ w = v := c3_iff v w

section Full
variable {Val : EltTy → Type} {κ : Kind} {sp : Space} {s : Shape} {e : EltTy} [∀ e, Nonempty (Val e)]

theorem ra_full (v : View sig κ sp s e) (f : v.ty.Contents Val) {off : Fin s.rank → ℕ} (inb : ∀ a, off a + s.size a ≤ s.size a) :
    v.readAt Val (Rect.unit off (no_index s.size) inb).toLoadRect f = v.read Val f := View.readAt_full v f inb
theorem ra_rep (v : View sig κ sp s e) (x : s.Idx → Val e) {off : Fin s.rank → ℕ} (inb : ∀ a, off a + s.size a ≤ s.size a) :
    v.readAt Val (Rect.unit off (no_index s.size) inb).toLoadRect (v.rep x) = x := View.readAt_rep_full v x inb
theorem rw_full (v : View sig κ sp s e) (f : v.ty.Contents Val) {off : Fin s.rank → ℕ} (inb : ∀ a, off a + s.size a ≤ s.size a)
    (w : s.Idx → Val e) (L : List (View.Piece Val s e)) :
    v.read Val (v.writes Val f ((⟨Rect.unit off (no_index s.size) inb, w⟩ : View.Piece Val s e) :: L)) = w := View.read_writes_full v f inb w L
theorem raw_full (v : View sig κ sp s e) (f : v.ty.Contents Val) {off off' : Fin s.rank → ℕ} (inb : ∀ a, off a + s.size a ≤ s.size a)
    (inb' : ∀ a, off' a + s.size a ≤ s.size a) (w : s.Idx → Val e) (L : List (View.Piece Val s e)) :
    v.readAt Val (Rect.unit off (no_index s.size) inb).toLoadRect (v.writes Val f ((⟨Rect.unit off' (no_index s.size) inb', w⟩ : View.Piece Val s e) :: L)) = w :=
  View.readAt_writes_full v f inb inb' w L
theorem rc_full (v : View sig κ sp s e) {off off' : Fin s.rank → ℕ} (inb : ∀ a, off a + s.size a ≤ s.size a)
    (inb' : ∀ a, off' a + s.size a ≤ s.size a) (w : s.Idx → Val e) (L : List (View.Piece Val s e)) :
    v.readCov ((⟨Rect.unit off' (no_index s.size) inb', w⟩ : View.Piece Val s e) :: L) (Rect.unit off (no_index s.size) inb).toLoadRect = w :=
  View.readCov_full v inb inb' w L
end Full

/-- A carried buffer held whole, reading `v`. -/
def scOwn (c : Dev nD) {sh : Shape} {e : EltTy} (M : Memref sig .tc .vmem sh e) (v : sh.Idx → Elt F e) : sProp 𝕄 :=
  iprop(∃ f, ⌜M.view.read (Elt F) f = v⌝ ∗ (M.view.loc (c : Thread nD τ) ↦{fullShare} f))

theorem hS0 : acM.IsWhole := Memref.isWhole_whole _
theorem hS1 : deM.IsWhole := Memref.isWhole_whole _
theorem hS2 : roM.IsWhole := Memref.isWhole_whole _

set_option maxHeartbeats 8000000 in
theorem run_first_below (c : Dev nD) (t : Fin 144) (i : grid0.Coords) (hi : pc i = t) (hf : lit3 t = 1#32) (hd : ¬ lit2 t = lit1 t)
    (M5 : Memref sig .tc .vmem S512x128 .bf16) (h5 : M5.IsWhole)
    (M6 : Memref sig .tc .vmem S512x128 .bf16) (h6 : M6.IsWhole)
    (M7 : Memref sig .tc .vmem S512x128 .bf16) (h7 : M7.IsWhole)
    (M8 : Memref sig .tc .vmem S1x512x1 .f32) (h8 : M8.IsWhole)
    (M9 : Memref sig .tc .vmem S1x1x512 .f32) (h9 : M9.IsWhole)
    (M10 : Memref sig .tc .vmem S512x128 .bf16) (h10 : M10.IsWhole)
    (M11 : Memref sig .tc .vmem S512x128 .bf16) (h11 : M11.IsWhole)
    (M12 : Memref sig .tc .vmem S1x512x1 .f32) (h12 : M12.IsWhole)
    (M13 : Memref sig .tc .vmem S512x128 .bf16) (h13 : M13.IsWhole)
    (M14 : Memref sig .tc .vmem S1x512x1 .f32) (h14 : M14.IsWhole)
    (x5 : Vec F S512x128 .bf16) (x6 : Vec F S512x128 .bf16) (x7 : Vec F S512x128 .bf16) (x8 : Vec F S1x512x1 .f32) (x9 : Vec F S1x1x512 .f32) (x10 : Vec F S512x128 .bf16) (x11 : Vec F S512x128 .bf16) (x12 : Vec F S1x512x1 .f32) (x13 : Vec F S512x128 .bf16) (x14 : Vec F S1x512x1 .f32)
    (A : acM.view.ty.Contents (Elt F)) (D : deM.view.ty.Contents (Elt F)) (R : roM.view.ty.Contents (Elt F)) (K : PUnit → sProp 𝕄) :
    iprop((M5.view.loc (c : Thread nD τ) ↦[M5.view.set]{fullShare} M5.view.rep x5)
        ∗ (M6.view.loc (c : Thread nD τ) ↦[M6.view.set]{fullShare} M6.view.rep x6)
        ∗ (M7.view.loc (c : Thread nD τ) ↦[M7.view.set]{fullShare} M7.view.rep x7)
        ∗ (M8.view.loc (c : Thread nD τ) ↦[M8.view.set]{fullShare} M8.view.rep x8)
        ∗ (M9.view.loc (c : Thread nD τ) ↦[M9.view.set]{fullShare} M9.view.rep x9)
        ∗ (M10.view.loc (c : Thread nD τ) ↦[M10.view.set]{fullShare} M10.view.rep x10)
        ∗ (M11.view.loc (c : Thread nD τ) ↦[M11.view.set]{fullShare} M11.view.rep x11)
        ∗ (M12.view.loc (c : Thread nD τ) ↦[M12.view.set]{fullShare} M12.view.rep x12)
        ∗ tbPt0 c tbM0_0 (T 0)
        ∗ tbPt0 c tbM0_1 (T 1)
        ∗ tbPt0 c tbM0_2 (T 2)
        ∗ tbPt0 c tbM0_3 (T 3)
        ∗ owns (c : Thread nD τ) M13 fullShare x13
        ∗ owns (c : Thread nD τ) M14 fullShare x14
        ∗ (acM.view.loc (c : Thread nD τ) ↦{fullShare} A)
        ∗ (deM.view.loc (c : Thread nD τ) ↦{fullShare} D)
        ∗ (roM.view.loc (c : Thread nD τ) ↦{fullShare} R)
        ∗ (iprop((M5.view.loc (c : Thread nD τ) ↦[M5.view.set]{fullShare} M5.view.rep x5)
        ∗ (M6.view.loc (c : Thread nD τ) ↦[M6.view.set]{fullShare} M6.view.rep x6)
        ∗ (M7.view.loc (c : Thread nD τ) ↦[M7.view.set]{fullShare} M7.view.rep x7)
        ∗ (M8.view.loc (c : Thread nD τ) ↦[M8.view.set]{fullShare} M8.view.rep x8)
        ∗ (M9.view.loc (c : Thread nD τ) ↦[M9.view.set]{fullShare} M9.view.rep x9)
        ∗ (M10.view.loc (c : Thread nD τ) ↦[M10.view.set]{fullShare} M10.view.rep x10)
        ∗ (M11.view.loc (c : Thread nD τ) ↦[M11.view.set]{fullShare} M11.view.rep x11)
        ∗ (M12.view.loc (c : Thread nD τ) ↦[M12.view.set]{fullShare} M12.view.rep x12)
        ∗ tbPt0 c tbM0_0 (T 0)
        ∗ tbPt0 c tbM0_1 (T 1)
        ∗ tbPt0 c tbM0_2 (T 2)
        ∗ tbPt0 c tbM0_3 (T 3)
        ∗ owns (c : Thread nD τ) M13 fullShare x13
        ∗ owns (c : Thread nD τ) M14 fullShare x14
        ∗ scOwn c acM (k0_pay5 (k0_pay11 x6) (k0_pay13 x5 x6 x7 x8 x9 x12 x11 (k0_pay3 x10 x11)) k0_pay1)
        ∗ scOwn c deM (k0_pay3 x10 x11)
        ∗ scOwn c roM (k0_pay4 (k0_pay14 x5 x6 x7 x8 x9 x12 x11 (k0_pay3 x10 x11) k0_pay2))) -∗ K ⟨⟩))
      ⊢ wp frame (wpE (defs₀ (F := F)) Variants.none c none) Set.univ (cc0_fox_bwd_q i tbM0_0 htbM0_0 tbM0_1 htbM0_1 tbM0_2 htbM0_2 tbM0_3 htbM0_3 M5 h5 M6 h6 M7 h7 M8 h8 M9 h9 M10 h10 M11 h11 M12 h12 M13 h13 M14 h14 acM hS0 deM hS1 roM hS2) K := by
  subst hi
  rw [cc0_fox_bwd_q_eq_skeleton]; unfold cc0_fox_bwd_q_skel

  unfold scOwn
  iintro ⟨H5, H6, H7, H8, H9, H10, H11, H12, HT0, HT1, HT2, HT3, HO13, HO14, HA, HD, HR, Hk⟩

  have hT1 : tbM0_1.IsWhole := Memref.isWhole_whole _
  have hT2 : tbM0_2.IsWhole := Memref.isWhole_whole _
  have hT3 : tbM0_3.IsWhole := Memref.isWhole_whole _
  have k1 := (c1_iff (rd3 (F := F) i)).mpr (by rw [rd3_eq]; exact hf)
  have k2 := (c2_iff (rd1 (F := F) i) (rd2 (F := F) i)).mpr (by rw [rd1_eq, rd2_eq]; exact hd)
  have k3 := (c3_iff (rd1 (F := F) i) (rd2 (F := F) i)).not.mpr (by rw [rd1_eq, rd2_eq]; exact hd)
  have k4 := (c4_iff (rd1 (F := F) i) (rd2 (F := F) i)).not.mpr (by rw [rd1_eq, rd2_eq]; exact hd)
  sl_exec! (disch := first | exact k1 | exact k2 | exact k3 | exact k4)
  sl_step
  iapply Hk
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HT0]; · iexact HT0
  isplitl [HT1]; · iexact HT1
  isplitl [HT2]; · iexact HT2
  isplitl [HT3]; · iexact HT3
  isplitl [HO13]; · iexact HO13
  isplitl [HO14]; · iexact HO14
  isplitl [HA]
  · iexists _; isplitr; swap; · iexact HA
    ipureintro; sl_open_run; simp only [ra_full, raw_full, rw_full, ra_rep, rc_full, View.read_rep]; try rfl
  isplitl [HD]
  · iexists _; isplitr; swap; · iexact HD
    ipureintro; sl_open_run; simp only [ra_full, raw_full, rw_full, ra_rep, rc_full, View.read_rep]; try rfl
  · iexists _; isplitr; swap; · iexact HR
    ipureintro; sl_open_run; simp only [ra_full, raw_full, rw_full, ra_rep, rc_full, View.read_rep]; try rfl

set_option maxHeartbeats 8000000 in
theorem run_first_diag (c : Dev nD) (t : Fin 144) (i : grid0.Coords) (hi : pc i = t) (hf : lit3 t = 1#32) (hd : lit2 t = lit1 t)
    (M5 : Memref sig .tc .vmem S512x128 .bf16) (h5 : M5.IsWhole)
    (M6 : Memref sig .tc .vmem S512x128 .bf16) (h6 : M6.IsWhole)
    (M7 : Memref sig .tc .vmem S512x128 .bf16) (h7 : M7.IsWhole)
    (M8 : Memref sig .tc .vmem S1x512x1 .f32) (h8 : M8.IsWhole)
    (M9 : Memref sig .tc .vmem S1x1x512 .f32) (h9 : M9.IsWhole)
    (M10 : Memref sig .tc .vmem S512x128 .bf16) (h10 : M10.IsWhole)
    (M11 : Memref sig .tc .vmem S512x128 .bf16) (h11 : M11.IsWhole)
    (M12 : Memref sig .tc .vmem S1x512x1 .f32) (h12 : M12.IsWhole)
    (M13 : Memref sig .tc .vmem S512x128 .bf16) (h13 : M13.IsWhole)
    (M14 : Memref sig .tc .vmem S1x512x1 .f32) (h14 : M14.IsWhole)
    (x5 : Vec F S512x128 .bf16) (x6 : Vec F S512x128 .bf16) (x7 : Vec F S512x128 .bf16) (x8 : Vec F S1x512x1 .f32) (x9 : Vec F S1x1x512 .f32) (x10 : Vec F S512x128 .bf16) (x11 : Vec F S512x128 .bf16) (x12 : Vec F S1x512x1 .f32) (x13 : Vec F S512x128 .bf16) (x14 : Vec F S1x512x1 .f32)
    (A : acM.view.ty.Contents (Elt F)) (D : deM.view.ty.Contents (Elt F)) (R : roM.view.ty.Contents (Elt F)) (K : PUnit → sProp 𝕄) :
    iprop((M5.view.loc (c : Thread nD τ) ↦[M5.view.set]{fullShare} M5.view.rep x5)
        ∗ (M6.view.loc (c : Thread nD τ) ↦[M6.view.set]{fullShare} M6.view.rep x6)
        ∗ (M7.view.loc (c : Thread nD τ) ↦[M7.view.set]{fullShare} M7.view.rep x7)
        ∗ (M8.view.loc (c : Thread nD τ) ↦[M8.view.set]{fullShare} M8.view.rep x8)
        ∗ (M9.view.loc (c : Thread nD τ) ↦[M9.view.set]{fullShare} M9.view.rep x9)
        ∗ (M10.view.loc (c : Thread nD τ) ↦[M10.view.set]{fullShare} M10.view.rep x10)
        ∗ (M11.view.loc (c : Thread nD τ) ↦[M11.view.set]{fullShare} M11.view.rep x11)
        ∗ (M12.view.loc (c : Thread nD τ) ↦[M12.view.set]{fullShare} M12.view.rep x12)
        ∗ tbPt0 c tbM0_0 (T 0)
        ∗ tbPt0 c tbM0_1 (T 1)
        ∗ tbPt0 c tbM0_2 (T 2)
        ∗ tbPt0 c tbM0_3 (T 3)
        ∗ owns (c : Thread nD τ) M13 fullShare x13
        ∗ owns (c : Thread nD τ) M14 fullShare x14
        ∗ (acM.view.loc (c : Thread nD τ) ↦{fullShare} A)
        ∗ (deM.view.loc (c : Thread nD τ) ↦{fullShare} D)
        ∗ (roM.view.loc (c : Thread nD τ) ↦{fullShare} R)
        ∗ (iprop((M5.view.loc (c : Thread nD τ) ↦[M5.view.set]{fullShare} M5.view.rep x5)
        ∗ (M6.view.loc (c : Thread nD τ) ↦[M6.view.set]{fullShare} M6.view.rep x6)
        ∗ (M7.view.loc (c : Thread nD τ) ↦[M7.view.set]{fullShare} M7.view.rep x7)
        ∗ (M8.view.loc (c : Thread nD τ) ↦[M8.view.set]{fullShare} M8.view.rep x8)
        ∗ (M9.view.loc (c : Thread nD τ) ↦[M9.view.set]{fullShare} M9.view.rep x9)
        ∗ (M10.view.loc (c : Thread nD τ) ↦[M10.view.set]{fullShare} M10.view.rep x10)
        ∗ (M11.view.loc (c : Thread nD τ) ↦[M11.view.set]{fullShare} M11.view.rep x11)
        ∗ (M12.view.loc (c : Thread nD τ) ↦[M12.view.set]{fullShare} M12.view.rep x12)
        ∗ tbPt0 c tbM0_0 (T 0)
        ∗ tbPt0 c tbM0_1 (T 1)
        ∗ tbPt0 c tbM0_2 (T 2)
        ∗ tbPt0 c tbM0_3 (T 3)
        ∗ owns (c : Thread nD τ) M13 fullShare (k0_pay9 (k0_pay8 (k0_pay15 x6) (k0_pay16 x7) (k0_pay17 (rd1 (F := F) i) (rd2 (F := F) i) x5 x6 x8 x9 x12) x11 (k0_pay3 x10 x11) k0_pay1))
        ∗ owns (c : Thread nD τ) M14 fullShare (k0_pay10 (k0_pay7 (k0_pay16 x7) (k0_pay17 (rd1 (F := F) i) (rd2 (F := F) i) x5 x6 x8 x9 x12) x11 (k0_pay3 x10 x11) k0_pay2))
        ∗ scOwn c acM (k0_pay8 (k0_pay15 x6) (k0_pay16 x7) (k0_pay17 (rd1 (F := F) i) (rd2 (F := F) i) x5 x6 x8 x9 x12) x11 (k0_pay3 x10 x11) k0_pay1)
        ∗ scOwn c deM (k0_pay3 x10 x11)
        ∗ scOwn c roM (k0_pay7 (k0_pay16 x7) (k0_pay17 (rd1 (F := F) i) (rd2 (F := F) i) x5 x6 x8 x9 x12) x11 (k0_pay3 x10 x11) k0_pay2)) -∗ K ⟨⟩))
      ⊢ wp frame (wpE (defs₀ (F := F)) Variants.none c none) Set.univ (cc0_fox_bwd_q i tbM0_0 htbM0_0 tbM0_1 htbM0_1 tbM0_2 htbM0_2 tbM0_3 htbM0_3 M5 h5 M6 h6 M7 h7 M8 h8 M9 h9 M10 h10 M11 h11 M12 h12 M13 h13 M14 h14 acM hS0 deM hS1 roM hS2) K := by
  subst hi
  rw [cc0_fox_bwd_q_eq_skeleton]; unfold cc0_fox_bwd_q_skel
  unfold owns
  unfold scOwn
  iintro ⟨H5, H6, H7, H8, H9, H10, H11, H12, HT0, HT1, HT2, HT3, ⟨%f13, %hf13, HO13⟩, ⟨%f14, %hf14, HO14⟩, HA, HD, HR, Hk⟩
  obtain rfl := h13.eq_unread hf13; obtain rfl := h14.eq_unread hf14
  have hT1 : tbM0_1.IsWhole := Memref.isWhole_whole _
  have hT2 : tbM0_2.IsWhole := Memref.isWhole_whole _
  have hT3 : tbM0_3.IsWhole := Memref.isWhole_whole _
  have k1 := (c1_iff (rd3 (F := F) i)).mpr (by rw [rd3_eq]; exact hf)
  have k2 := (c2_iff (rd1 (F := F) i) (rd2 (F := F) i)).not.mpr (by rw [rd1_eq, rd2_eq]; exact not_not.mpr hd)
  have k3 := (c3_iff (rd1 (F := F) i) (rd2 (F := F) i)).mpr (by rw [rd1_eq, rd2_eq]; exact hd)
  have k4 := (c4_iff (rd1 (F := F) i) (rd2 (F := F) i)).mpr (by rw [rd1_eq, rd2_eq]; exact hd)
  sl_exec! (disch := first | exact k1 | exact k2 | exact k3 | exact k4)
  sl_step
  iapply Hk
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HT0]; · iexact HT0
  isplitl [HT1]; · iexact HT1
  isplitl [HT2]; · iexact HT2
  isplitl [HT3]; · iexact HT3
  isplitl [HO13]
  · iexists _; isplitr; swap; · iexact HO13
    ipureintro; exact (by sl_open_run; simp only [ra_full, raw_full, rw_full, ra_rep, rc_full, View.read_rep]; try rfl)
  isplitl [HO14]
  · iexists _; isplitr; swap; · iexact HO14
    ipureintro; exact (by sl_open_run; simp only [ra_full, raw_full, rw_full, ra_rep, rc_full, View.read_rep]; try rfl)
  isplitl [HA]
  · iexists _; isplitr; swap; · iexact HA
    ipureintro; sl_open_run; simp only [ra_full, raw_full, rw_full, ra_rep, rc_full, View.read_rep]; try rfl
  isplitl [HD]
  · iexists _; isplitr; swap; · iexact HD
    ipureintro; sl_open_run; simp only [ra_full, raw_full, rw_full, ra_rep, rc_full, View.read_rep]; try rfl
  · iexists _; isplitr; swap; · iexact HR
    ipureintro; sl_open_run; simp only [ra_full, raw_full, rw_full, ra_rep, rc_full, View.read_rep]; try rfl

set_option maxHeartbeats 8000000 in
theorem run_later_below (c : Dev nD) (t : Fin 144) (i : grid0.Coords) (hi : pc i = t) (hf : ¬ lit3 t = 1#32) (hd : ¬ lit2 t = lit1 t)
    (M5 : Memref sig .tc .vmem S512x128 .bf16) (h5 : M5.IsWhole)
    (M6 : Memref sig .tc .vmem S512x128 .bf16) (h6 : M6.IsWhole)
    (M7 : Memref sig .tc .vmem S512x128 .bf16) (h7 : M7.IsWhole)
    (M8 : Memref sig .tc .vmem S1x512x1 .f32) (h8 : M8.IsWhole)
    (M9 : Memref sig .tc .vmem S1x1x512 .f32) (h9 : M9.IsWhole)
    (M10 : Memref sig .tc .vmem S512x128 .bf16) (h10 : M10.IsWhole)
    (M11 : Memref sig .tc .vmem S512x128 .bf16) (h11 : M11.IsWhole)
    (M12 : Memref sig .tc .vmem S1x512x1 .f32) (h12 : M12.IsWhole)
    (M13 : Memref sig .tc .vmem S512x128 .bf16) (h13 : M13.IsWhole)
    (M14 : Memref sig .tc .vmem S1x512x1 .f32) (h14 : M14.IsWhole)
    (x5 : Vec F S512x128 .bf16) (x6 : Vec F S512x128 .bf16) (x7 : Vec F S512x128 .bf16) (x8 : Vec F S1x512x1 .f32) (x9 : Vec F S1x1x512 .f32) (x10 : Vec F S512x128 .bf16) (x11 : Vec F S512x128 .bf16) (x12 : Vec F S1x512x1 .f32) (x13 : Vec F S512x128 .bf16) (x14 : Vec F S1x512x1 .f32)
    (A : Vec F S512x128 .f32) (D R : Vec F S512x1 .f32) (K : PUnit → sProp 𝕄) :
    iprop((M5.view.loc (c : Thread nD τ) ↦[M5.view.set]{fullShare} M5.view.rep x5)
        ∗ (M6.view.loc (c : Thread nD τ) ↦[M6.view.set]{fullShare} M6.view.rep x6)
        ∗ (M7.view.loc (c : Thread nD τ) ↦[M7.view.set]{fullShare} M7.view.rep x7)
        ∗ (M8.view.loc (c : Thread nD τ) ↦[M8.view.set]{fullShare} M8.view.rep x8)
        ∗ (M9.view.loc (c : Thread nD τ) ↦[M9.view.set]{fullShare} M9.view.rep x9)
        ∗ (M10.view.loc (c : Thread nD τ) ↦[M10.view.set]{fullShare} M10.view.rep x10)
        ∗ (M11.view.loc (c : Thread nD τ) ↦[M11.view.set]{fullShare} M11.view.rep x11)
        ∗ (M12.view.loc (c : Thread nD τ) ↦[M12.view.set]{fullShare} M12.view.rep x12)
        ∗ tbPt0 c tbM0_0 (T 0)
        ∗ tbPt0 c tbM0_1 (T 1)
        ∗ tbPt0 c tbM0_2 (T 2)
        ∗ tbPt0 c tbM0_3 (T 3)
        ∗ owns (c : Thread nD τ) M13 fullShare x13
        ∗ owns (c : Thread nD τ) M14 fullShare x14
        ∗ scOwn c acM A
        ∗ scOwn c deM D
        ∗ scOwn c roM R
        ∗ (iprop((M5.view.loc (c : Thread nD τ) ↦[M5.view.set]{fullShare} M5.view.rep x5)
        ∗ (M6.view.loc (c : Thread nD τ) ↦[M6.view.set]{fullShare} M6.view.rep x6)
        ∗ (M7.view.loc (c : Thread nD τ) ↦[M7.view.set]{fullShare} M7.view.rep x7)
        ∗ (M8.view.loc (c : Thread nD τ) ↦[M8.view.set]{fullShare} M8.view.rep x8)
        ∗ (M9.view.loc (c : Thread nD τ) ↦[M9.view.set]{fullShare} M9.view.rep x9)
        ∗ (M10.view.loc (c : Thread nD τ) ↦[M10.view.set]{fullShare} M10.view.rep x10)
        ∗ (M11.view.loc (c : Thread nD τ) ↦[M11.view.set]{fullShare} M11.view.rep x11)
        ∗ (M12.view.loc (c : Thread nD τ) ↦[M12.view.set]{fullShare} M12.view.rep x12)
        ∗ tbPt0 c tbM0_0 (T 0)
        ∗ tbPt0 c tbM0_1 (T 1)
        ∗ tbPt0 c tbM0_2 (T 2)
        ∗ tbPt0 c tbM0_3 (T 3)
        ∗ owns (c : Thread nD τ) M13 fullShare x13
        ∗ owns (c : Thread nD τ) M14 fullShare x14
        ∗ scOwn c acM (k0_pay5 (k0_pay11 x6) (k0_pay13 x5 x6 x7 x8 x9 x12 x11 D) A)
        ∗ scOwn c deM D
        ∗ scOwn c roM (k0_pay4 (k0_pay14 x5 x6 x7 x8 x9 x12 x11 D R))) -∗ K ⟨⟩))
      ⊢ wp frame (wpE (defs₀ (F := F)) Variants.none c none) Set.univ (cc0_fox_bwd_q i tbM0_0 htbM0_0 tbM0_1 htbM0_1 tbM0_2 htbM0_2 tbM0_3 htbM0_3 M5 h5 M6 h6 M7 h7 M8 h8 M9 h9 M10 h10 M11 h11 M12 h12 M13 h13 M14 h14 acM hS0 deM hS1 roM hS2) K := by
  subst hi
  rw [cc0_fox_bwd_q_eq_skeleton]; unfold cc0_fox_bwd_q_skel

  unfold scOwn
  iintro ⟨H5, H6, H7, H8, H9, H10, H11, H12, HT0, HT1, HT2, HT3, HO13, HO14, ⟨%fA, %hA, HA⟩, ⟨%fD, %hD, HD⟩, ⟨%fR, %hR, HR⟩, Hk⟩

  have hT1 : tbM0_1.IsWhole := Memref.isWhole_whole _
  have hT2 : tbM0_2.IsWhole := Memref.isWhole_whole _
  have hT3 : tbM0_3.IsWhole := Memref.isWhole_whole _
  have k1 := (c1_iff (rd3 (F := F) i)).not.mpr (by rw [rd3_eq]; exact hf)
  have k2 := (c2_iff (rd1 (F := F) i) (rd2 (F := F) i)).mpr (by rw [rd1_eq, rd2_eq]; exact hd)
  have k3 := (c3_iff (rd1 (F := F) i) (rd2 (F := F) i)).not.mpr (by rw [rd1_eq, rd2_eq]; exact hd)
  have k4 := (c4_iff (rd1 (F := F) i) (rd2 (F := F) i)).not.mpr (by rw [rd1_eq, rd2_eq]; exact hd)
  have hA' : (View.whole cc0_scratch0).read (Elt F) fA = A := hA
  have hD' : (View.whole cc0_scratch1).read (Elt F) fD = D := hD
  have hR' : (View.whole cc0_scratch2).read (Elt F) fR = R := hR
  sl_exec! (disch := first | exact k1 | exact k2 | exact k3 | exact k4)
  sl_step
  iapply Hk
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HT0]; · iexact HT0
  isplitl [HT1]; · iexact HT1
  isplitl [HT2]; · iexact HT2
  isplitl [HT3]; · iexact HT3
  isplitl [HO13]; · iexact HO13
  isplitl [HO14]; · iexact HO14
  isplitl [HA]
  · iexists _; isplitr; swap; · iexact HA
    ipureintro; sl_open_run; simp only [ra_full, raw_full, rw_full, ra_rep, rc_full, View.read_rep, hA', hD', hR']; try rfl
  isplitl [HD]
  · iexists _; isplitr; swap; · iexact HD
    ipureintro; sl_open_run; simp only [ra_full, raw_full, rw_full, ra_rep, rc_full, View.read_rep, hA', hD', hR']; try rfl
  · iexists _; isplitr; swap; · iexact HR
    ipureintro; sl_open_run; simp only [ra_full, raw_full, rw_full, ra_rep, rc_full, View.read_rep, hA', hD', hR']; try rfl

set_option maxHeartbeats 8000000 in
theorem run_later_diag (c : Dev nD) (t : Fin 144) (i : grid0.Coords) (hi : pc i = t) (hf : ¬ lit3 t = 1#32) (hd : lit2 t = lit1 t)
    (M5 : Memref sig .tc .vmem S512x128 .bf16) (h5 : M5.IsWhole)
    (M6 : Memref sig .tc .vmem S512x128 .bf16) (h6 : M6.IsWhole)
    (M7 : Memref sig .tc .vmem S512x128 .bf16) (h7 : M7.IsWhole)
    (M8 : Memref sig .tc .vmem S1x512x1 .f32) (h8 : M8.IsWhole)
    (M9 : Memref sig .tc .vmem S1x1x512 .f32) (h9 : M9.IsWhole)
    (M10 : Memref sig .tc .vmem S512x128 .bf16) (h10 : M10.IsWhole)
    (M11 : Memref sig .tc .vmem S512x128 .bf16) (h11 : M11.IsWhole)
    (M12 : Memref sig .tc .vmem S1x512x1 .f32) (h12 : M12.IsWhole)
    (M13 : Memref sig .tc .vmem S512x128 .bf16) (h13 : M13.IsWhole)
    (M14 : Memref sig .tc .vmem S1x512x1 .f32) (h14 : M14.IsWhole)
    (x5 : Vec F S512x128 .bf16) (x6 : Vec F S512x128 .bf16) (x7 : Vec F S512x128 .bf16) (x8 : Vec F S1x512x1 .f32) (x9 : Vec F S1x1x512 .f32) (x10 : Vec F S512x128 .bf16) (x11 : Vec F S512x128 .bf16) (x12 : Vec F S1x512x1 .f32) (x13 : Vec F S512x128 .bf16) (x14 : Vec F S1x512x1 .f32)
    (A : Vec F S512x128 .f32) (D R : Vec F S512x1 .f32) (K : PUnit → sProp 𝕄) :
    iprop((M5.view.loc (c : Thread nD τ) ↦[M5.view.set]{fullShare} M5.view.rep x5)
        ∗ (M6.view.loc (c : Thread nD τ) ↦[M6.view.set]{fullShare} M6.view.rep x6)
        ∗ (M7.view.loc (c : Thread nD τ) ↦[M7.view.set]{fullShare} M7.view.rep x7)
        ∗ (M8.view.loc (c : Thread nD τ) ↦[M8.view.set]{fullShare} M8.view.rep x8)
        ∗ (M9.view.loc (c : Thread nD τ) ↦[M9.view.set]{fullShare} M9.view.rep x9)
        ∗ (M10.view.loc (c : Thread nD τ) ↦[M10.view.set]{fullShare} M10.view.rep x10)
        ∗ (M11.view.loc (c : Thread nD τ) ↦[M11.view.set]{fullShare} M11.view.rep x11)
        ∗ (M12.view.loc (c : Thread nD τ) ↦[M12.view.set]{fullShare} M12.view.rep x12)
        ∗ tbPt0 c tbM0_0 (T 0)
        ∗ tbPt0 c tbM0_1 (T 1)
        ∗ tbPt0 c tbM0_2 (T 2)
        ∗ tbPt0 c tbM0_3 (T 3)
        ∗ owns (c : Thread nD τ) M13 fullShare x13
        ∗ owns (c : Thread nD τ) M14 fullShare x14
        ∗ scOwn c acM A
        ∗ scOwn c deM D
        ∗ scOwn c roM R
        ∗ (iprop((M5.view.loc (c : Thread nD τ) ↦[M5.view.set]{fullShare} M5.view.rep x5)
        ∗ (M6.view.loc (c : Thread nD τ) ↦[M6.view.set]{fullShare} M6.view.rep x6)
        ∗ (M7.view.loc (c : Thread nD τ) ↦[M7.view.set]{fullShare} M7.view.rep x7)
        ∗ (M8.view.loc (c : Thread nD τ) ↦[M8.view.set]{fullShare} M8.view.rep x8)
        ∗ (M9.view.loc (c : Thread nD τ) ↦[M9.view.set]{fullShare} M9.view.rep x9)
        ∗ (M10.view.loc (c : Thread nD τ) ↦[M10.view.set]{fullShare} M10.view.rep x10)
        ∗ (M11.view.loc (c : Thread nD τ) ↦[M11.view.set]{fullShare} M11.view.rep x11)
        ∗ (M12.view.loc (c : Thread nD τ) ↦[M12.view.set]{fullShare} M12.view.rep x12)
        ∗ tbPt0 c tbM0_0 (T 0)
        ∗ tbPt0 c tbM0_1 (T 1)
        ∗ tbPt0 c tbM0_2 (T 2)
        ∗ tbPt0 c tbM0_3 (T 3)
        ∗ owns (c : Thread nD τ) M13 fullShare (k0_pay9 (k0_pay8 (k0_pay15 x6) (k0_pay16 x7) (k0_pay17 (rd1 (F := F) i) (rd2 (F := F) i) x5 x6 x8 x9 x12) x11 D A))
        ∗ owns (c : Thread nD τ) M14 fullShare (k0_pay10 (k0_pay7 (k0_pay16 x7) (k0_pay17 (rd1 (F := F) i) (rd2 (F := F) i) x5 x6 x8 x9 x12) x11 D R))
        ∗ scOwn c acM (k0_pay8 (k0_pay15 x6) (k0_pay16 x7) (k0_pay17 (rd1 (F := F) i) (rd2 (F := F) i) x5 x6 x8 x9 x12) x11 D A)
        ∗ scOwn c deM D
        ∗ scOwn c roM (k0_pay7 (k0_pay16 x7) (k0_pay17 (rd1 (F := F) i) (rd2 (F := F) i) x5 x6 x8 x9 x12) x11 D R)) -∗ K ⟨⟩))
      ⊢ wp frame (wpE (defs₀ (F := F)) Variants.none c none) Set.univ (cc0_fox_bwd_q i tbM0_0 htbM0_0 tbM0_1 htbM0_1 tbM0_2 htbM0_2 tbM0_3 htbM0_3 M5 h5 M6 h6 M7 h7 M8 h8 M9 h9 M10 h10 M11 h11 M12 h12 M13 h13 M14 h14 acM hS0 deM hS1 roM hS2) K := by
  subst hi
  rw [cc0_fox_bwd_q_eq_skeleton]; unfold cc0_fox_bwd_q_skel
  unfold owns
  unfold scOwn
  iintro ⟨H5, H6, H7, H8, H9, H10, H11, H12, HT0, HT1, HT2, HT3, ⟨%f13, %hf13, HO13⟩, ⟨%f14, %hf14, HO14⟩, ⟨%fA, %hA, HA⟩, ⟨%fD, %hD, HD⟩, ⟨%fR, %hR, HR⟩, Hk⟩
  obtain rfl := h13.eq_unread hf13; obtain rfl := h14.eq_unread hf14
  have hT1 : tbM0_1.IsWhole := Memref.isWhole_whole _
  have hT2 : tbM0_2.IsWhole := Memref.isWhole_whole _
  have hT3 : tbM0_3.IsWhole := Memref.isWhole_whole _
  have k1 := (c1_iff (rd3 (F := F) i)).not.mpr (by rw [rd3_eq]; exact hf)
  have k2 := (c2_iff (rd1 (F := F) i) (rd2 (F := F) i)).not.mpr (by rw [rd1_eq, rd2_eq]; exact not_not.mpr hd)
  have k3 := (c3_iff (rd1 (F := F) i) (rd2 (F := F) i)).mpr (by rw [rd1_eq, rd2_eq]; exact hd)
  have k4 := (c4_iff (rd1 (F := F) i) (rd2 (F := F) i)).mpr (by rw [rd1_eq, rd2_eq]; exact hd)
  have hA' : (View.whole cc0_scratch0).read (Elt F) fA = A := hA
  have hD' : (View.whole cc0_scratch1).read (Elt F) fD = D := hD
  have hR' : (View.whole cc0_scratch2).read (Elt F) fR = R := hR
  sl_exec! (disch := first | exact k1 | exact k2 | exact k3 | exact k4)
  sl_step
  iapply Hk
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HT0]; · iexact HT0
  isplitl [HT1]; · iexact HT1
  isplitl [HT2]; · iexact HT2
  isplitl [HT3]; · iexact HT3
  isplitl [HO13]
  · iexists _; isplitr; swap; · iexact HO13
    ipureintro; exact (by sl_open_run; simp only [ra_full, raw_full, rw_full, ra_rep, rc_full, View.read_rep, hA', hD', hR']; try rfl)
  isplitl [HO14]
  · iexists _; isplitr; swap; · iexact HO14
    ipureintro; exact (by sl_open_run; simp only [ra_full, raw_full, rw_full, ra_rep, rc_full, View.read_rep, hA', hD', hR']; try rfl)
  isplitl [HA]
  · iexists _; isplitr; swap; · iexact HA
    ipureintro; sl_open_run; simp only [ra_full, raw_full, rw_full, ra_rep, rc_full, View.read_rep, hA', hD', hR']; try rfl
  isplitl [HD]
  · iexists _; isplitr; swap; · iexact HD
    ipureintro; sl_open_run; simp only [ra_full, raw_full, rw_full, ra_rep, rc_full, View.read_rep, hA', hD', hR']; try rfl
  · iexists _; isplitr; swap; · iexact HR
    ipureintro; sl_open_run; simp only [ra_full, raw_full, rw_full, ra_rep, rc_full, View.read_rep, hA', hD', hR']; try rfl

end Cert.FoxQ
end
-- ==== Proof.FoxQ.Points.lean ====
/-
  The query-gradient call's run: what the accumulators hold between grid points, one theorem per grid point, and the
  whole program's run from it.
-/
module

public import proofs.«01_k».proof.Proof.FoxQ.Body
public import Idealize.ShloMosaic.Lib.Pipeline.TableIdle
public import Idealize.ShloMosaic.Lib.Pipeline.Frame

@[expose] public section

set_option maxRecDepth 16384

noncomputable section

namespace Cert.FoxQ

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the staging buffers -/

abbrev b0 (c : Dev nD) (t : Fin (cfgT (F := F)).N) : Vec F S512x128 .bf16 := iblk m c 0 t
abbrev b1 (c : Dev nD) (t : Fin (cfgT (F := F)).N) : Vec F S512x128 .bf16 := iblk m c 1 t
abbrev b2 (c : Dev nD) (t : Fin (cfgT (F := F)).N) : Vec F S512x128 .bf16 := iblk m c 2 t
abbrev b3 (c : Dev nD) (t : Fin (cfgT (F := F)).N) : Vec F S1x512x1 .f32 := iblk m c 3 t
abbrev b4 (c : Dev nD) (t : Fin (cfgT (F := F)).N) : Vec F S1x1x512 .f32 := iblk m c 4 t
abbrev b5 (c : Dev nD) (t : Fin (cfgT (F := F)).N) : Vec F S512x128 .bf16 := iblk m c 5 t
abbrev b6 (c : Dev nD) (t : Fin (cfgT (F := F)).N) : Vec F S512x128 .bf16 := iblk m c 6 t
abbrev b7 (c : Dev nD) (t : Fin (cfgT (F := F)).N) : Vec F S1x512x1 .f32 := iblk m c 7 t
abbrev st0 (t : Fin (cfgT (F := F)).N) := spec0_0.stage ((cfgT (F := F)).slots t 0)
abbrev hst0 (t : Fin (cfgT (F := F)).N) : (st0 t).IsWhole := hstage0_0 (((cfgT (F := F)).slots t 0).cast nbuf0_0)
abbrev st1 (t : Fin (cfgT (F := F)).N) := spec0_1.stage ((cfgT (F := F)).slots t 1)
abbrev hst1 (t : Fin (cfgT (F := F)).N) : (st1 t).IsWhole := hstage0_1 (((cfgT (F := F)).slots t 1).cast nbuf0_1)
abbrev st2 (t : Fin (cfgT (F := F)).N) := spec0_2.stage ((cfgT (F := F)).slots t 2)
abbrev hst2 (t : Fin (cfgT (F := F)).N) : (st2 t).IsWhole := hstage0_2 (((cfgT (F := F)).slots t 2).cast nbuf0_2)
abbrev st3 (t : Fin (cfgT (F := F)).N) := spec0_3.stage ((cfgT (F := F)).slots t 3)
abbrev hst3 (t : Fin (cfgT (F := F)).N) : (st3 t).IsWhole := hstage0_3 (((cfgT (F := F)).slots t 3).cast nbuf0_3)
abbrev st4 (t : Fin (cfgT (F := F)).N) := spec0_4.stage ((cfgT (F := F)).slots t 4)
abbrev hst4 (t : Fin (cfgT (F := F)).N) : (st4 t).IsWhole := hstage0_4 (((cfgT (F := F)).slots t 4).cast nbuf0_4)
abbrev st5 (t : Fin (cfgT (F := F)).N) := spec0_5.stage ((cfgT (F := F)).slots t 5)
abbrev hst5 (t : Fin (cfgT (F := F)).N) : (st5 t).IsWhole := hstage0_5 (((cfgT (F := F)).slots t 5).cast nbuf0_5)
abbrev st6 (t : Fin (cfgT (F := F)).N) := spec0_6.stage ((cfgT (F := F)).slots t 6)
abbrev hst6 (t : Fin (cfgT (F := F)).N) : (st6 t).IsWhole := hstage0_6 (((cfgT (F := F)).slots t 6).cast nbuf0_6)
abbrev st7 (t : Fin (cfgT (F := F)).N) := spec0_7.stage ((cfgT (F := F)).slots t 7)
abbrev hst7 (t : Fin (cfgT (F := F)).N) : (st7 t).IsWhole := hstage0_7 (((cfgT (F := F)).slots t 7).cast nbuf0_7)
abbrev st8 (t : Fin (cfgT (F := F)).N) := spec0_8.stage ((cfgT (F := F)).slots t 8)
abbrev hst8 (t : Fin (cfgT (F := F)).N) : (st8 t).IsWhole := hstage0_8 (((cfgT (F := F)).slots t 8).cast nbuf0_8)
abbrev st9 (t : Fin (cfgT (F := F)).N) := spec0_9.stage ((cfgT (F := F)).slots t 9)
abbrev hst9 (t : Fin (cfgT (F := F)).N) : (st9 t).IsWhole := hstage0_9 (((cfgT (F := F)).slots t 9).cast nbuf0_9)

/-- The body at a grid point. -/
abbrev bodyAt (t : Fin (cfgT (F := F)).N) : Prog (TpuEff nD τ sig (Elt F) Λ₀ .tc) PUnit :=
  cc0_fox_bwd_q (grid0.coords t) tbM0_0 htbM0_0 tbM0_1 htbM0_1 tbM0_2 htbM0_2 tbM0_3 htbM0_3 (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) acM hS0 deM hS1 roM hS2

/-! ## The accumulators -/

/-- A point starts a query block. -/
def fstB (t : Fin (cfgT (F := F)).N) : Bool := decide (kN (tp t) = 0)

/-- What the three scratch buffers hold: the gradient's accumulator, the row sums of output times cotangent, the
    accumulated row sums. -/
structure Scr (F : FTy → Type) [FloatOps F] where
  acc : Vec F S512x128 .f32
  del : Vec F S512x1 .f32
  row : Vec F S512x1 .f32

/-- The buffers when the point's own products start: fresh at a query block's first point. -/
def ini (c : Dev nD) (t : Fin (cfgT (F := F)).N) (s : Scr F) : Scr F :=
  match fstB t with
  | true => ⟨k0_pay1, k0_pay3 (b5 m c t) (b6 m c t), k0_pay2⟩
  | false => s

/-- The buffers after the point's products. -/
def upd (c : Dev nD) (t : Fin (cfgT (F := F)).N) (s : Scr F) : Scr F :=
  match lastB t with
  | false => ⟨k0_pay5 (k0_pay11 (b1 m c t)) (k0_pay13 (b0 m c t) (b1 m c t) (b2 m c t) (b3 m c t) (b4 m c t) (b7 m c t) (b6 m c t) s.del) s.acc, s.del,
      k0_pay4 (k0_pay14 (b0 m c t) (b1 m c t) (b2 m c t) (b3 m c t) (b4 m c t) (b7 m c t) (b6 m c t) s.del s.row)⟩
  | true => ⟨k0_pay8 (k0_pay15 (b1 m c t)) (k0_pay16 (b2 m c t)) (k0_pay17 (rd1 (F := F) (grid0.coords t)) (rd2 (F := F) (grid0.coords t)) (b0 m c t) (b1 m c t) (b3 m c t) (b4 m c t) (b7 m c t)) (b6 m c t) s.del s.acc, s.del,
      k0_pay7 (k0_pay16 (b2 m c t)) (k0_pay17 (rd1 (F := F) (grid0.coords t)) (rd2 (F := F) (grid0.coords t)) (b0 m c t) (b1 m c t) (b3 m c t) (b4 m c t) (b7 m c t)) (b6 m c t) s.del s.row⟩

/-- The buffers before point `n`. -/
def scr (c : Dev nD) : ℕ → Scr F
  | 0 => ⟨k0_pay1, k0_pay2, k0_pay2⟩
  | n + 1 => if h : n < (cfgT (F := F)).N then upd m c ⟨n, h⟩ (ini m c ⟨n, h⟩ (scr c n)) else scr c n

theorem scr_succ (c : Dev nD) (t : Fin (cfgT (F := F)).N) : scr m c (t.val + 1) = upd m c t (ini m c t (scr m c t.val)) := by
  rw [scr, dif_pos t.isLt]

theorem ini_first (c : Dev nD) (t : Fin (cfgT (F := F)).N) (s) (h : fstB t = true) : ini m c t s = ⟨k0_pay1, k0_pay3 (b5 m c t) (b6 m c t), k0_pay2⟩ := by
  unfold ini; rw [h]
theorem ini_later (c : Dev nD) (t : Fin (cfgT (F := F)).N) (s) (h : fstB t = false) : ini m c t s = s := by
  unfold ini; rw [h]
theorem upd_below (c : Dev nD) (t : Fin (cfgT (F := F)).N) (s) (h : lastB t = false) : upd m c t s =
    ⟨k0_pay5 (k0_pay11 (b1 m c t)) (k0_pay13 (b0 m c t) (b1 m c t) (b2 m c t) (b3 m c t) (b4 m c t) (b7 m c t) (b6 m c t) s.del) s.acc, s.del,
      k0_pay4 (k0_pay14 (b0 m c t) (b1 m c t) (b2 m c t) (b3 m c t) (b4 m c t) (b7 m c t) (b6 m c t) s.del s.row)⟩ := by
  unfold upd; rw [h]
theorem upd_diag (c : Dev nD) (t : Fin (cfgT (F := F)).N) (s) (h : lastB t = true) : upd m c t s =
    ⟨k0_pay8 (k0_pay15 (b1 m c t)) (k0_pay16 (b2 m c t)) (k0_pay17 (rd1 (F := F) (grid0.coords t)) (rd2 (F := F) (grid0.coords t)) (b0 m c t) (b1 m c t) (b3 m c t) (b4 m c t) (b7 m c t)) (b6 m c t) s.del s.acc, s.del,
      k0_pay7 (k0_pay16 (b2 m c t)) (k0_pay17 (rd1 (F := F) (grid0.coords t)) (rd2 (F := F) (grid0.coords t)) (b0 m c t) (b1 m c t) (b3 m c t) (b4 m c t) (b7 m c t)) (b6 m c t) s.del s.row⟩ := by
  unfold upd; rw [h]

/-- What the scratch buffers hold before point `n`: anything at the start, the trajectory afterwards. -/
def scrAt (c : Dev nD) (n : ℕ) : sProp 𝕄 :=
  iprop(∃ s : Scr F, ⌜n ≠ 0 → s = scr m c n⌝ ∗ scOwn c acM s.acc ∗ scOwn c deM s.del ∗ scOwn c roM s.row)

/-- What is kept from point to point beside the windows. -/
def Phi (c : Dev nD) (n : ℕ) : sProp 𝕄 :=
  iprop(scrAt m c n ∗ (tbPt0 c tbM0_0 (T 0) ∗ tbPt0 c tbM0_1 (T 1) ∗ tbPt0 c tbM0_2 (T 2) ∗ tbPt0 c tbM0_3 (T 3)) ∗ ∃ r, Idealize.ShloMosaic.prngReg c r)

/-- The pipeline's data: every input left as found, the two outputs at the accumulators. -/
def dat (c : Dev nD) : Dat τ (Elt F) Unit ℕ (UR sig nD τ) ℕ (cfgT (F := F)) c where
  A w := V m c (Pipeline.arrRef spec0 w)
  after w t := match w with
    | 0 => iblk m c 0 t | 1 => iblk m c 1 t | 2 => iblk m c 2 t | 3 => iblk m c 3 t | 4 => iblk m c 4 t
    | 5 => iblk m c 5 t | 6 => iblk m c 6 t | 7 => iblk m c 7 t
    | 8 => k0_pay9 (scr m c (t.val + 1)).acc
    | 9 => k0_pay10 (scr m c (t.val + 1)).row
  Φ t := Phi m c t.val
  q w := Pipeline.shareOf spec0 w
  owed _ := 0

abbrev dats (_ : Fin 1) (c : Dev nD) : Dat τ (Elt F) Unit ℕ (UR sig nD τ) ℕ (cfgT (F := F)) c := dat m c

theorem after_0 (c : Dev nD) (t : Fin (cfgT (F := F)).N) : (dat m c).after 0 t = b0 m c t := rfl
theorem before_0 (c : Dev nD) (t : Fin (cfgT (F := F)).N) (d) : (dat m c).before 0 t d = b0 m c t := before0_0_of m (dat m c) rfl (fun t => after_0 m c t) t d
theorem after_1 (c : Dev nD) (t : Fin (cfgT (F := F)).N) : (dat m c).after 1 t = b1 m c t := rfl
theorem before_1 (c : Dev nD) (t : Fin (cfgT (F := F)).N) (d) : (dat m c).before 1 t d = b1 m c t := before0_1_of m (dat m c) rfl (fun t => after_1 m c t) t d
theorem after_2 (c : Dev nD) (t : Fin (cfgT (F := F)).N) : (dat m c).after 2 t = b2 m c t := rfl
theorem before_2 (c : Dev nD) (t : Fin (cfgT (F := F)).N) (d) : (dat m c).before 2 t d = b2 m c t := before0_2_of m (dat m c) rfl (fun t => after_2 m c t) t d
theorem after_3 (c : Dev nD) (t : Fin (cfgT (F := F)).N) : (dat m c).after 3 t = b3 m c t := rfl
theorem before_3 (c : Dev nD) (t : Fin (cfgT (F := F)).N) (d) : (dat m c).before 3 t d = b3 m c t := before0_3_of m (dat m c) rfl (fun t => after_3 m c t) t d
theorem after_4 (c : Dev nD) (t : Fin (cfgT (F := F)).N) : (dat m c).after 4 t = b4 m c t := rfl
theorem before_4 (c : Dev nD) (t : Fin (cfgT (F := F)).N) (d) : (dat m c).before 4 t d = b4 m c t := before0_4_of m (dat m c) rfl (fun t => after_4 m c t) t d
theorem after_5 (c : Dev nD) (t : Fin (cfgT (F := F)).N) : (dat m c).after 5 t = b5 m c t := rfl
theorem before_5 (c : Dev nD) (t : Fin (cfgT (F := F)).N) (d) : (dat m c).before 5 t d = b5 m c t := before0_5_of m (dat m c) rfl (fun t => after_5 m c t) t d
theorem after_6 (c : Dev nD) (t : Fin (cfgT (F := F)).N) : (dat m c).after 6 t = b6 m c t := rfl
theorem before_6 (c : Dev nD) (t : Fin (cfgT (F := F)).N) (d) : (dat m c).before 6 t d = b6 m c t := before0_6_of m (dat m c) rfl (fun t => after_6 m c t) t d
theorem after_7 (c : Dev nD) (t : Fin (cfgT (F := F)).N) : (dat m c).after 7 t = b7 m c t := rfl
theorem before_7 (c : Dev nD) (t : Fin (cfgT (F := F)).N) (d) : (dat m c).before 7 t d = b7 m c t := before0_7_of m (dat m c) rfl (fun t => after_7 m c t) t d
theorem after_8 (c : Dev nD) (t : Fin (cfgT (F := F)).N) : (dat m c).after 8 t = k0_pay9 (scr m c (t.val + 1)).acc := rfl
theorem after_9 (c : Dev nD) (t : Fin (cfgT (F := F)).N) : (dat m c).after 9 t = k0_pay10 (scr m c (t.val + 1)).row := rfl

/-! ## Which points leave the output blocks alone -/

theorem idle_8 (t : Fin (cfgT (F := F)).N) : (cfgT (F := F)).idle 8 ((cfgT (F := F)).grid.coords t) = !lastB t := by
  show (!(k0_cond4 _ _ == 1#1)) = _
  have e := pc_coords t
  unfold pc at e
  rw [atD_1, atD_2]
  rw [e]
  congr 1
  rw [Bool.eq_iff_iff, beq_iff_eq, c4_iff, last_iff]
  unfold lastB; simp
theorem idle_9 (t : Fin (cfgT (F := F)).N) : (cfgT (F := F)).idle 9 ((cfgT (F := F)).grid.coords t) = !lastB t := idle_8 t

/-! ## One grid point -/

theorem scOwn_any (c : Dev nD) {S : Shape} {e : EltTy} (M : Memref sig .tc .vmem S e) (v : Vec F S e) :
    (scOwn c M v : sProp 𝕄) ⊢ iprop(∃ f, M.view.loc (c : Thread nD τ) ↦{fullShare} f) := by
  unfold scOwn
  iintro ⟨%f, -, H⟩
  iexists f; iexact H
theorem scrAt_any (c : Dev nD) (n : ℕ) : scrAt m c n ⊢ iprop((∃ f, acM.view.loc (c : Thread nD τ) ↦{fullShare} f) ∗ (∃ f, deM.view.loc (c : Thread nD τ) ↦{fullShare} f) ∗ (∃ f, roM.view.loc (c : Thread nD τ) ↦{fullShare} f)) := by
  unfold scrAt
  iintro ⟨%s, -, HA, HD, HR⟩
  isplitl [HA]; · iapply scOwn_any; iexact HA
  isplitl [HD]; · iapply scOwn_any; iexact HD
  iapply scOwn_any; iexact HR
theorem scrAt_intro (c : Dev nD) (n : ℕ) (s : Scr F) (h : s = scr m c n) : iprop(scOwn c acM s.acc ∗ scOwn c deM s.del ∗ scOwn c roM s.row) ⊢ scrAt m c n := by
  unfold scrAt
  iintro H
  iexists s
  isplitr; · ipureintro; exact fun _ => h
  iexact H

theorem sound_00 (c : Dev nD) (t : Fin (cfgT (F := F)).N) (hf : fstB t = false) (hl : lastB t = false) (x8 : Vec F S512x128 .bf16) (x9 : Vec F S1x512x1 .f32) (K : PUnit → sProp 𝕄) :
    iprop(Phi m c t.val ∗ owns c (st0 t) fullShare (b0 m c t) ∗ owns c (st1 t) fullShare (b1 m c t) ∗ owns c (st2 t) fullShare (b2 m c t) ∗ owns c (st3 t) fullShare (b3 m c t) ∗ owns c (st4 t) fullShare (b4 m c t) ∗ owns c (st5 t) fullShare (b5 m c t) ∗ owns c (st6 t) fullShare (b6 m c t) ∗ owns c (st7 t) fullShare (b7 m c t) ∗ owns c (st8 t) fullShare x8 ∗ owns c (st9 t) fullShare x9 ∗ (iprop(Phi m c (t.val + 1) ∗ owns c (st0 t) fullShare (b0 m c t) ∗ owns c (st1 t) fullShare (b1 m c t) ∗ owns c (st2 t) fullShare (b2 m c t) ∗ owns c (st3 t) fullShare (b3 m c t) ∗ owns c (st4 t) fullShare (b4 m c t) ∗ owns c (st5 t) fullShare (b5 m c t) ∗ owns c (st6 t) fullShare (b6 m c t) ∗ owns c (st7 t) fullShare (b7 m c t) ∗ owns c (st8 t) fullShare x8 ∗ owns c (st9 t) fullShare x9) -∗ K ⟨⟩))
      ⊢ wp frame (wpE (defs₀ (F := F)) Variants.none c none) Set.univ (bodyAt t) K := by
  have hf' : ¬ lit3 (tp t) = 1#32 := by rw [first_iff]; unfold fstB at hf; simpa using hf
  have hd' : ¬ lit2 (tp t) = lit1 (tp t) := by rw [last_iff]; unfold lastB at hl; simpa using hl
  have hn : t.val ≠ 0 := by
    intro h0
    have : fstB t = true := by unfold fstB; have e : tp t = ⟨0, by decide⟩ := Fin.ext h0; rw [e]; decide
    rw [hf] at this; exact Bool.noConfusion this
  have es := scr_succ m c t
  rw [ini_later m c t _ hf, upd_below m c t _ hl] at es
  unfold Phi; rw [scrAt]
  iintro ⟨⟨⟨%s, %hs, HA, HD, HR⟩, ⟨HT0, HT1, HT2, HT3⟩, HP⟩, H0, H1, H2, H3, H4, H5, H6, H7, H8, H9, Hk⟩
  obtain rfl := hs hn
  iapply (run_later_below c (tp t) (grid0.coords t) (pc_coords t) hf' hd' (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (b0 m c t) (b1 m c t) (b2 m c t) (b3 m c t) (b4 m c t) (b5 m c t) (b6 m c t) (b7 m c t) x8 x9 _ _ _ _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [HT0]; · iexact HT0
  isplitl [HT1]; · iexact HT1
  isplitl [HT2]; · iexact HT2
  isplitl [HT3]; · iexact HT3
  isplitl [H8]; · iexact H8
  isplitl [H9]; · iexact H9
  isplitl [HA]; · iexact HA
  isplitl [HD]; · iexact HD
  isplitl [HR]; · iexact HR
  iintro ⟨H0, H1, H2, H3, H4, H5, H6, H7, HT0, HT1, HT2, HT3, H8, H9, HA, HD, HR⟩
  iapply Hk
  isplitl [HA HD HR HT0 HT1 HT2 HT3 HP]
  · isplitl [HA HD HR]
    · iapply (scrAt_intro m c (t.val + 1) _ es.symm)
      isplitl [HA]; · iexact HA
      isplitl [HD]; · iexact HD
      iexact HR
    · isplitl [HT0 HT1 HT2 HT3]
      · isplitl [HT0]; · iexact HT0
        isplitl [HT1]; · iexact HT1
        isplitl [HT2]; · iexact HT2
        iexact HT3
      · iexact HP
  isplitl [H0]; · rw [owns_eq_rep]; iexact H0
  isplitl [H1]; · rw [owns_eq_rep]; iexact H1
  isplitl [H2]; · rw [owns_eq_rep]; iexact H2
  isplitl [H3]; · rw [owns_eq_rep]; iexact H3
  isplitl [H4]; · rw [owns_eq_rep]; iexact H4
  isplitl [H5]; · rw [owns_eq_rep]; iexact H5
  isplitl [H6]; · rw [owns_eq_rep]; iexact H6
  isplitl [H7]; · rw [owns_eq_rep]; iexact H7
  isplitl [H8]; · iexact H8
  iexact H9

theorem sound_01 (c : Dev nD) (t : Fin (cfgT (F := F)).N) (hf : fstB t = false) (hl : lastB t = true) (x8 : Vec F S512x128 .bf16) (x9 : Vec F S1x512x1 .f32) (K : PUnit → sProp 𝕄) :
    iprop(Phi m c t.val ∗ owns c (st0 t) fullShare (b0 m c t) ∗ owns c (st1 t) fullShare (b1 m c t) ∗ owns c (st2 t) fullShare (b2 m c t) ∗ owns c (st3 t) fullShare (b3 m c t) ∗ owns c (st4 t) fullShare (b4 m c t) ∗ owns c (st5 t) fullShare (b5 m c t) ∗ owns c (st6 t) fullShare (b6 m c t) ∗ owns c (st7 t) fullShare (b7 m c t) ∗ owns c (st8 t) fullShare x8 ∗ owns c (st9 t) fullShare x9 ∗ (iprop(Phi m c (t.val + 1) ∗ owns c (st0 t) fullShare (b0 m c t) ∗ owns c (st1 t) fullShare (b1 m c t) ∗ owns c (st2 t) fullShare (b2 m c t) ∗ owns c (st3 t) fullShare (b3 m c t) ∗ owns c (st4 t) fullShare (b4 m c t) ∗ owns c (st5 t) fullShare (b5 m c t) ∗ owns c (st6 t) fullShare (b6 m c t) ∗ owns c (st7 t) fullShare (b7 m c t) ∗ owns c (st8 t) fullShare (k0_pay9 (scr m c (t.val + 1)).acc) ∗ owns c (st9 t) fullShare (k0_pay10 (scr m c (t.val + 1)).row)) -∗ K ⟨⟩))
      ⊢ wp frame (wpE (defs₀ (F := F)) Variants.none c none) Set.univ (bodyAt t) K := by
  have hf' : ¬ lit3 (tp t) = 1#32 := by rw [first_iff]; unfold fstB at hf; simpa using hf
  have hd' : lit2 (tp t) = lit1 (tp t) := by rw [last_iff]; unfold lastB at hl; simpa using hl
  have hn : t.val ≠ 0 := by
    intro h0
    have : fstB t = true := by unfold fstB; have e : tp t = ⟨0, by decide⟩ := Fin.ext h0; rw [e]; decide
    rw [hf] at this; exact Bool.noConfusion this
  have es := scr_succ m c t
  rw [ini_later m c t _ hf, upd_diag m c t _ hl] at es
  unfold Phi; rw [scrAt]
  iintro ⟨⟨⟨%s, %hs, HA, HD, HR⟩, ⟨HT0, HT1, HT2, HT3⟩, HP⟩, H0, H1, H2, H3, H4, H5, H6, H7, H8, H9, Hk⟩
  obtain rfl := hs hn
  iapply (run_later_diag c (tp t) (grid0.coords t) (pc_coords t) hf' hd' (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (b0 m c t) (b1 m c t) (b2 m c t) (b3 m c t) (b4 m c t) (b5 m c t) (b6 m c t) (b7 m c t) x8 x9 _ _ _ _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [HT0]; · iexact HT0
  isplitl [HT1]; · iexact HT1
  isplitl [HT2]; · iexact HT2
  isplitl [HT3]; · iexact HT3
  isplitl [H8]; · iexact H8
  isplitl [H9]; · iexact H9
  isplitl [HA]; · iexact HA
  isplitl [HD]; · iexact HD
  isplitl [HR]; · iexact HR
  iintro ⟨H0, H1, H2, H3, H4, H5, H6, H7, HT0, HT1, HT2, HT3, H8, H9, HA, HD, HR⟩
  iapply Hk
  isplitl [HA HD HR HT0 HT1 HT2 HT3 HP]
  · isplitl [HA HD HR]
    · iapply (scrAt_intro m c (t.val + 1) _ es.symm)
      isplitl [HA]; · iexact HA
      isplitl [HD]; · iexact HD
      iexact HR
    · isplitl [HT0 HT1 HT2 HT3]
      · isplitl [HT0]; · iexact HT0
        isplitl [HT1]; · iexact HT1
        isplitl [HT2]; · iexact HT2
        iexact HT3
      · iexact HP
  isplitl [H0]; · rw [owns_eq_rep]; iexact H0
  isplitl [H1]; · rw [owns_eq_rep]; iexact H1
  isplitl [H2]; · rw [owns_eq_rep]; iexact H2
  isplitl [H3]; · rw [owns_eq_rep]; iexact H3
  isplitl [H4]; · rw [owns_eq_rep]; iexact H4
  isplitl [H5]; · rw [owns_eq_rep]; iexact H5
  isplitl [H6]; · rw [owns_eq_rep]; iexact H6
  isplitl [H7]; · rw [owns_eq_rep]; iexact H7
  rw [es]
  isplitl [H8]; · iexact H8
  iexact H9

theorem sound_10 (c : Dev nD) (t : Fin (cfgT (F := F)).N) (hf : fstB t = true) (hl : lastB t = false) (x8 : Vec F S512x128 .bf16) (x9 : Vec F S1x512x1 .f32) (K : PUnit → sProp 𝕄) :
    iprop(Phi m c t.val ∗ owns c (st0 t) fullShare (b0 m c t) ∗ owns c (st1 t) fullShare (b1 m c t) ∗ owns c (st2 t) fullShare (b2 m c t) ∗ owns c (st3 t) fullShare (b3 m c t) ∗ owns c (st4 t) fullShare (b4 m c t) ∗ owns c (st5 t) fullShare (b5 m c t) ∗ owns c (st6 t) fullShare (b6 m c t) ∗ owns c (st7 t) fullShare (b7 m c t) ∗ owns c (st8 t) fullShare x8 ∗ owns c (st9 t) fullShare x9 ∗ (iprop(Phi m c (t.val + 1) ∗ owns c (st0 t) fullShare (b0 m c t) ∗ owns c (st1 t) fullShare (b1 m c t) ∗ owns c (st2 t) fullShare (b2 m c t) ∗ owns c (st3 t) fullShare (b3 m c t) ∗ owns c (st4 t) fullShare (b4 m c t) ∗ owns c (st5 t) fullShare (b5 m c t) ∗ owns c (st6 t) fullShare (b6 m c t) ∗ owns c (st7 t) fullShare (b7 m c t) ∗ owns c (st8 t) fullShare x8 ∗ owns c (st9 t) fullShare x9) -∗ K ⟨⟩))
      ⊢ wp frame (wpE (defs₀ (F := F)) Variants.none c none) Set.univ (bodyAt t) K := by
  have hf' : lit3 (tp t) = 1#32 := by rw [first_iff]; unfold fstB at hf; simpa using hf
  have hd' : ¬ lit2 (tp t) = lit1 (tp t) := by rw [last_iff]; unfold lastB at hl; simpa using hl
  have es := scr_succ m c t
  rw [ini_first m c t _ hf, upd_below m c t _ hl] at es
  unfold Phi
  iintro ⟨⟨HS, ⟨HT0, HT1, HT2, HT3⟩, HP⟩, H0, H1, H2, H3, H4, H5, H6, H7, H8, H9, Hk⟩
  icases (scrAt_any m c t.val) $$ HS with ⟨⟨%fA, HA⟩, ⟨%fD, HD⟩, ⟨%fR, HR⟩⟩
  iapply (run_first_below c (tp t) (grid0.coords t) (pc_coords t) hf' hd' (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (b0 m c t) (b1 m c t) (b2 m c t) (b3 m c t) (b4 m c t) (b5 m c t) (b6 m c t) (b7 m c t) x8 x9 fA fD fR _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [HT0]; · iexact HT0
  isplitl [HT1]; · iexact HT1
  isplitl [HT2]; · iexact HT2
  isplitl [HT3]; · iexact HT3
  isplitl [H8]; · iexact H8
  isplitl [H9]; · iexact H9
  isplitl [HA]; · iexact HA
  isplitl [HD]; · iexact HD
  isplitl [HR]; · iexact HR
  iintro ⟨H0, H1, H2, H3, H4, H5, H6, H7, HT0, HT1, HT2, HT3, H8, H9, HA, HD, HR⟩
  iapply Hk
  isplitl [HA HD HR HT0 HT1 HT2 HT3 HP]
  · isplitl [HA HD HR]
    · iapply (scrAt_intro m c (t.val + 1) _ es.symm)
      isplitl [HA]; · iexact HA
      isplitl [HD]; · iexact HD
      iexact HR
    · isplitl [HT0 HT1 HT2 HT3]
      · isplitl [HT0]; · iexact HT0
        isplitl [HT1]; · iexact HT1
        isplitl [HT2]; · iexact HT2
        iexact HT3
      · iexact HP
  isplitl [H0]; · rw [owns_eq_rep]; iexact H0
  isplitl [H1]; · rw [owns_eq_rep]; iexact H1
  isplitl [H2]; · rw [owns_eq_rep]; iexact H2
  isplitl [H3]; · rw [owns_eq_rep]; iexact H3
  isplitl [H4]; · rw [owns_eq_rep]; iexact H4
  isplitl [H5]; · rw [owns_eq_rep]; iexact H5
  isplitl [H6]; · rw [owns_eq_rep]; iexact H6
  isplitl [H7]; · rw [owns_eq_rep]; iexact H7
  isplitl [H8]; · iexact H8
  iexact H9

theorem sound_11 (c : Dev nD) (t : Fin (cfgT (F := F)).N) (hf : fstB t = true) (hl : lastB t = true) (x8 : Vec F S512x128 .bf16) (x9 : Vec F S1x512x1 .f32) (K : PUnit → sProp 𝕄) :
    iprop(Phi m c t.val ∗ owns c (st0 t) fullShare (b0 m c t) ∗ owns c (st1 t) fullShare (b1 m c t) ∗ owns c (st2 t) fullShare (b2 m c t) ∗ owns c (st3 t) fullShare (b3 m c t) ∗ owns c (st4 t) fullShare (b4 m c t) ∗ owns c (st5 t) fullShare (b5 m c t) ∗ owns c (st6 t) fullShare (b6 m c t) ∗ owns c (st7 t) fullShare (b7 m c t) ∗ owns c (st8 t) fullShare x8 ∗ owns c (st9 t) fullShare x9 ∗ (iprop(Phi m c (t.val + 1) ∗ owns c (st0 t) fullShare (b0 m c t) ∗ owns c (st1 t) fullShare (b1 m c t) ∗ owns c (st2 t) fullShare (b2 m c t) ∗ owns c (st3 t) fullShare (b3 m c t) ∗ owns c (st4 t) fullShare (b4 m c t) ∗ owns c (st5 t) fullShare (b5 m c t) ∗ owns c (st6 t) fullShare (b6 m c t) ∗ owns c (st7 t) fullShare (b7 m c t) ∗ owns c (st8 t) fullShare (k0_pay9 (scr m c (t.val + 1)).acc) ∗ owns c (st9 t) fullShare (k0_pay10 (scr m c (t.val + 1)).row)) -∗ K ⟨⟩))
      ⊢ wp frame (wpE (defs₀ (F := F)) Variants.none c none) Set.univ (bodyAt t) K := by
  have hf' : lit3 (tp t) = 1#32 := by rw [first_iff]; unfold fstB at hf; simpa using hf
  have hd' : lit2 (tp t) = lit1 (tp t) := by rw [last_iff]; unfold lastB at hl; simpa using hl
  have es := scr_succ m c t
  rw [ini_first m c t _ hf, upd_diag m c t _ hl] at es
  unfold Phi
  iintro ⟨⟨HS, ⟨HT0, HT1, HT2, HT3⟩, HP⟩, H0, H1, H2, H3, H4, H5, H6, H7, H8, H9, Hk⟩
  icases (scrAt_any m c t.val) $$ HS with ⟨⟨%fA, HA⟩, ⟨%fD, HD⟩, ⟨%fR, HR⟩⟩
  iapply (run_first_diag c (tp t) (grid0.coords t) (pc_coords t) hf' hd' (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (b0 m c t) (b1 m c t) (b2 m c t) (b3 m c t) (b4 m c t) (b5 m c t) (b6 m c t) (b7 m c t) x8 x9 fA fD fR _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [HT0]; · iexact HT0
  isplitl [HT1]; · iexact HT1
  isplitl [HT2]; · iexact HT2
  isplitl [HT3]; · iexact HT3
  isplitl [H8]; · iexact H8
  isplitl [H9]; · iexact H9
  isplitl [HA]; · iexact HA
  isplitl [HD]; · iexact HD
  isplitl [HR]; · iexact HR
  iintro ⟨H0, H1, H2, H3, H4, H5, H6, H7, HT0, HT1, HT2, HT3, H8, H9, HA, HD, HR⟩
  iapply Hk
  isplitl [HA HD HR HT0 HT1 HT2 HT3 HP]
  · isplitl [HA HD HR]
    · iapply (scrAt_intro m c (t.val + 1) _ es.symm)
      isplitl [HA]; · iexact HA
      isplitl [HD]; · iexact HD
      iexact HR
    · isplitl [HT0 HT1 HT2 HT3]
      · isplitl [HT0]; · iexact HT0
        isplitl [HT1]; · iexact HT1
        isplitl [HT2]; · iexact HT2
        iexact HT3
      · iexact HP
  isplitl [H0]; · rw [owns_eq_rep]; iexact H0
  isplitl [H1]; · rw [owns_eq_rep]; iexact H1
  isplitl [H2]; · rw [owns_eq_rep]; iexact H2
  isplitl [H3]; · rw [owns_eq_rep]; iexact H3
  isplitl [H4]; · rw [owns_eq_rep]; iexact H4
  isplitl [H5]; · rw [owns_eq_rep]; iexact H5
  isplitl [H6]; · rw [owns_eq_rep]; iexact H6
  isplitl [H7]; · rw [owns_eq_rep]; iexact H7
  rw [es]
  isplitl [H8]; · iexact H8
  iexact H9

end Cert.FoxQ
end
-- ==== Proof.FoxQ.Run.lean ====
/-
  The query-gradient call's run: the grid points' theorems put together, and the whole program's run.
-/
module

public import proofs.«01_k».proof.Proof.FoxQ.Points
public import Idealize.ShloMosaic.Lib.Pipeline.TableIdle
public import Idealize.ShloMosaic.Lib.Pipeline.Frame

@[expose] public section

set_option maxRecDepth 16384

noncomputable section

namespace Cert.FoxQ

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem ob0 (c : Dev nD) (t : Fin (cfgT (F := F)).N) (d) : (owns c (((cfgT (F := F)).win 0).stage ((cfgT (F := F)).slots t 0)) fullShare ((dat m c).before 0 t d) : sProp 𝕄) ⊢ owns c (st0 t) fullShare (b0 m c t) :=
  Entails.of_eq (by rw [before_0 m c t d]; try rfl)
theorem oa0 (c : Dev nD) (t : Fin (cfgT (F := F)).N) : (owns c (st0 t) fullShare (b0 m c t) : sProp 𝕄) ⊢ owns c (((cfgT (F := F)).win 0).stage ((cfgT (F := F)).slots t 0)) fullShare ((dat m c).after 0 t) :=
  Entails.of_eq (by rw [after_0 m c t]; try rfl)
theorem ob1 (c : Dev nD) (t : Fin (cfgT (F := F)).N) (d) : (owns c (((cfgT (F := F)).win 1).stage ((cfgT (F := F)).slots t 1)) fullShare ((dat m c).before 1 t d) : sProp 𝕄) ⊢ owns c (st1 t) fullShare (b1 m c t) :=
  Entails.of_eq (by rw [before_1 m c t d]; try rfl)
theorem oa1 (c : Dev nD) (t : Fin (cfgT (F := F)).N) : (owns c (st1 t) fullShare (b1 m c t) : sProp 𝕄) ⊢ owns c (((cfgT (F := F)).win 1).stage ((cfgT (F := F)).slots t 1)) fullShare ((dat m c).after 1 t) :=
  Entails.of_eq (by rw [after_1 m c t]; try rfl)
theorem ob2 (c : Dev nD) (t : Fin (cfgT (F := F)).N) (d) : (owns c (((cfgT (F := F)).win 2).stage ((cfgT (F := F)).slots t 2)) fullShare ((dat m c).before 2 t d) : sProp 𝕄) ⊢ owns c (st2 t) fullShare (b2 m c t) :=
  Entails.of_eq (by rw [before_2 m c t d]; try rfl)
theorem oa2 (c : Dev nD) (t : Fin (cfgT (F := F)).N) : (owns c (st2 t) fullShare (b2 m c t) : sProp 𝕄) ⊢ owns c (((cfgT (F := F)).win 2).stage ((cfgT (F := F)).slots t 2)) fullShare ((dat m c).after 2 t) :=
  Entails.of_eq (by rw [after_2 m c t]; try rfl)
theorem ob3 (c : Dev nD) (t : Fin (cfgT (F := F)).N) (d) : (owns c (((cfgT (F := F)).win 3).stage ((cfgT (F := F)).slots t 3)) fullShare ((dat m c).before 3 t d) : sProp 𝕄) ⊢ owns c (st3 t) fullShare (b3 m c t) :=
  Entails.of_eq (by rw [before_3 m c t d]; try rfl)
theorem oa3 (c : Dev nD) (t : Fin (cfgT (F := F)).N) : (owns c (st3 t) fullShare (b3 m c t) : sProp 𝕄) ⊢ owns c (((cfgT (F := F)).win 3).stage ((cfgT (F := F)).slots t 3)) fullShare ((dat m c).after 3 t) :=
  Entails.of_eq (by rw [after_3 m c t]; try rfl)
theorem ob4 (c : Dev nD) (t : Fin (cfgT (F := F)).N) (d) : (owns c (((cfgT (F := F)).win 4).stage ((cfgT (F := F)).slots t 4)) fullShare ((dat m c).before 4 t d) : sProp 𝕄) ⊢ owns c (st4 t) fullShare (b4 m c t) :=
  Entails.of_eq (by rw [before_4 m c t d]; try rfl)
theorem oa4 (c : Dev nD) (t : Fin (cfgT (F := F)).N) : (owns c (st4 t) fullShare (b4 m c t) : sProp 𝕄) ⊢ owns c (((cfgT (F := F)).win 4).stage ((cfgT (F := F)).slots t 4)) fullShare ((dat m c).after 4 t) :=
  Entails.of_eq (by rw [after_4 m c t]; try rfl)
theorem ob5 (c : Dev nD) (t : Fin (cfgT (F := F)).N) (d) : (owns c (((cfgT (F := F)).win 5).stage ((cfgT (F := F)).slots t 5)) fullShare ((dat m c).before 5 t d) : sProp 𝕄) ⊢ owns c (st5 t) fullShare (b5 m c t) :=
  Entails.of_eq (by rw [before_5 m c t d]; try rfl)
theorem oa5 (c : Dev nD) (t : Fin (cfgT (F := F)).N) : (owns c (st5 t) fullShare (b5 m c t) : sProp 𝕄) ⊢ owns c (((cfgT (F := F)).win 5).stage ((cfgT (F := F)).slots t 5)) fullShare ((dat m c).after 5 t) :=
  Entails.of_eq (by rw [after_5 m c t]; try rfl)
theorem ob6 (c : Dev nD) (t : Fin (cfgT (F := F)).N) (d) : (owns c (((cfgT (F := F)).win 6).stage ((cfgT (F := F)).slots t 6)) fullShare ((dat m c).before 6 t d) : sProp 𝕄) ⊢ owns c (st6 t) fullShare (b6 m c t) :=
  Entails.of_eq (by rw [before_6 m c t d]; try rfl)
theorem oa6 (c : Dev nD) (t : Fin (cfgT (F := F)).N) : (owns c (st6 t) fullShare (b6 m c t) : sProp 𝕄) ⊢ owns c (((cfgT (F := F)).win 6).stage ((cfgT (F := F)).slots t 6)) fullShare ((dat m c).after 6 t) :=
  Entails.of_eq (by rw [after_6 m c t]; try rfl)
theorem ob7 (c : Dev nD) (t : Fin (cfgT (F := F)).N) (d) : (owns c (((cfgT (F := F)).win 7).stage ((cfgT (F := F)).slots t 7)) fullShare ((dat m c).before 7 t d) : sProp 𝕄) ⊢ owns c (st7 t) fullShare (b7 m c t) :=
  Entails.of_eq (by rw [before_7 m c t d]; try rfl)
theorem oa7 (c : Dev nD) (t : Fin (cfgT (F := F)).N) : (owns c (st7 t) fullShare (b7 m c t) : sProp 𝕄) ⊢ owns c (((cfgT (F := F)).win 7).stage ((cfgT (F := F)).slots t 7)) fullShare ((dat m c).after 7 t) :=
  Entails.of_eq (by rw [after_7 m c t]; try rfl)
theorem oa8 (c : Dev nD) (t : Fin (cfgT (F := F)).N) : (owns c (st8 t) fullShare (k0_pay9 (scr m c (t.val + 1)).acc) : sProp 𝕄) ⊢ owns c (((cfgT (F := F)).win 8).stage ((cfgT (F := F)).slots t 8)) fullShare ((dat m c).after 8 t) :=
  Entails.of_eq (by rw [after_8 m c t]; try rfl)
theorem oa9 (c : Dev nD) (t : Fin (cfgT (F := F)).N) : (owns c (st9 t) fullShare (k0_pay10 (scr m c (t.val + 1)).row) : sProp 𝕄) ⊢ owns c (((cfgT (F := F)).win 9).stage ((cfgT (F := F)).slots t 9)) fullShare ((dat m c).after 9 t) :=
  Entails.of_eq (by rw [after_9 m c t]; try rfl)
set_option maxHeartbeats 1000000 in
/-- The body's obligation at every grid point. -/
theorem body (c : Dev nD) : Pipeline.BodyObligationLoose (dat m c) (defs₀ (F := F)) Variants.none () Set.univ := by
  intro t
  rw [bigSep_W0, bigSep_W0]
  rw [idle_8, idle_9, flush_8, flush_9]
  obtain ⟨ib, hi⟩ : ∃ ib, (!lastB t) = ib := ⟨_, rfl⟩
  rw [hi]
  show _ ⊢ wp frame (wpE (defs₀ (F := F)) Variants.none c none) Set.univ (bodyAt t) _
  rw [show (dat m c).Φ t.succ = Phi m c (t.val + 1) from rfl, show (dat m c).Φ t.castSucc = Phi m c t.val from rfl,
    show (dat m c).owesAt () t.succ = (dat m c).owesAt () t.castSucc from rfl]
  cases hf : fstB t <;> cases hl : lastB t
  · obtain rfl : ib = true := by rw [← hi, hl]; rfl
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_00 m c t hf hl _ _ _)
    isplitl [HΦ]; · iexact HΦ
    isplitl [H0]; · iapply (ob0 m c t d0); iexact H0
    isplitl [H1]; · iapply (ob1 m c t d1); iexact H1
    isplitl [H2]; · iapply (ob2 m c t d2); iexact H2
    isplitl [H3]; · iapply (ob3 m c t d3); iexact H3
    isplitl [H4]; · iapply (ob4 m c t d4); iexact H4
    isplitl [H5]; · iapply (ob5 m c t d5); iexact H5
    isplitl [H6]; · iapply (ob6 m c t d6); iexact H6
    isplitl [H7]; · iapply (ob7 m c t d7); iexact H7
    isplitl [H8]; · iexact H8
    isplitl [H9]; · iexact H9
    iintro ⟨HΦ, H0, H1, H2, H3, H4, H5, H6, H7, H8, H9⟩
    isplitl [HΦ]; · iexact HΦ
    isplitl [Ho]; · iexact Ho
    isplitl [H0]; · iapply (oa0 m c t); iexact H0
    isplitl [H1]; · iapply (oa1 m c t); iexact H1
    isplitl [H2]; · iapply (oa2 m c t); iexact H2
    isplitl [H3]; · iapply (oa3 m c t); iexact H3
    isplitl [H4]; · iapply (oa4 m c t); iexact H4
    isplitl [H5]; · iapply (oa5 m c t); iexact H5
    isplitl [H6]; · iapply (oa6 m c t); iexact H6
    isplitl [H7]; · iapply (oa7 m c t); iexact H7
    isplitl [H8]; · iexists d8; iexact H8
    iexists d9; iexact H9
  · obtain rfl : ib = false := by rw [← hi, hl]; rfl
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_01 m c t hf hl _ _ _)
    isplitl [HΦ]; · iexact HΦ
    isplitl [H0]; · iapply (ob0 m c t d0); iexact H0
    isplitl [H1]; · iapply (ob1 m c t d1); iexact H1
    isplitl [H2]; · iapply (ob2 m c t d2); iexact H2
    isplitl [H3]; · iapply (ob3 m c t d3); iexact H3
    isplitl [H4]; · iapply (ob4 m c t d4); iexact H4
    isplitl [H5]; · iapply (ob5 m c t d5); iexact H5
    isplitl [H6]; · iapply (ob6 m c t d6); iexact H6
    isplitl [H7]; · iapply (ob7 m c t d7); iexact H7
    isplitl [H8]; · iexact H8
    isplitl [H9]; · iexact H9
    iintro ⟨HΦ, H0, H1, H2, H3, H4, H5, H6, H7, H8, H9⟩
    isplitl [HΦ]; · iexact HΦ
    isplitl [Ho]; · iexact Ho
    isplitl [H0]; · iapply (oa0 m c t); iexact H0
    isplitl [H1]; · iapply (oa1 m c t); iexact H1
    isplitl [H2]; · iapply (oa2 m c t); iexact H2
    isplitl [H3]; · iapply (oa3 m c t); iexact H3
    isplitl [H4]; · iapply (oa4 m c t); iexact H4
    isplitl [H5]; · iapply (oa5 m c t); iexact H5
    isplitl [H6]; · iapply (oa6 m c t); iexact H6
    isplitl [H7]; · iapply (oa7 m c t); iexact H7
    isplitl [H8]; · iapply (oa8 m c t); iexact H8
    iapply (oa9 m c t); iexact H9
  · obtain rfl : ib = true := by rw [← hi, hl]; rfl
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_10 m c t hf hl _ _ _)
    isplitl [HΦ]; · iexact HΦ
    isplitl [H0]; · iapply (ob0 m c t d0); iexact H0
    isplitl [H1]; · iapply (ob1 m c t d1); iexact H1
    isplitl [H2]; · iapply (ob2 m c t d2); iexact H2
    isplitl [H3]; · iapply (ob3 m c t d3); iexact H3
    isplitl [H4]; · iapply (ob4 m c t d4); iexact H4
    isplitl [H5]; · iapply (ob5 m c t d5); iexact H5
    isplitl [H6]; · iapply (ob6 m c t d6); iexact H6
    isplitl [H7]; · iapply (ob7 m c t d7); iexact H7
    isplitl [H8]; · iexact H8
    isplitl [H9]; · iexact H9
    iintro ⟨HΦ, H0, H1, H2, H3, H4, H5, H6, H7, H8, H9⟩
    isplitl [HΦ]; · iexact HΦ
    isplitl [Ho]; · iexact Ho
    isplitl [H0]; · iapply (oa0 m c t); iexact H0
    isplitl [H1]; · iapply (oa1 m c t); iexact H1
    isplitl [H2]; · iapply (oa2 m c t); iexact H2
    isplitl [H3]; · iapply (oa3 m c t); iexact H3
    isplitl [H4]; · iapply (oa4 m c t); iexact H4
    isplitl [H5]; · iapply (oa5 m c t); iexact H5
    isplitl [H6]; · iapply (oa6 m c t); iexact H6
    isplitl [H7]; · iapply (oa7 m c t); iexact H7
    isplitl [H8]; · iexists d8; iexact H8
    iexists d9; iexact H9
  · obtain rfl : ib = false := by rw [← hi, hl]; rfl
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_11 m c t hf hl _ _ _)
    isplitl [HΦ]; · iexact HΦ
    isplitl [H0]; · iapply (ob0 m c t d0); iexact H0
    isplitl [H1]; · iapply (ob1 m c t d1); iexact H1
    isplitl [H2]; · iapply (ob2 m c t d2); iexact H2
    isplitl [H3]; · iapply (ob3 m c t d3); iexact H3
    isplitl [H4]; · iapply (ob4 m c t d4); iexact H4
    isplitl [H5]; · iapply (ob5 m c t d5); iexact H5
    isplitl [H6]; · iapply (ob6 m c t d6); iexact H6
    isplitl [H7]; · iapply (ob7 m c t d7); iexact H7
    isplitl [H8]; · iexact H8
    isplitl [H9]; · iexact H9
    iintro ⟨HΦ, H0, H1, H2, H3, H4, H5, H6, H7, H8, H9⟩
    isplitl [HΦ]; · iexact HΦ
    isplitl [Ho]; · iexact Ho
    isplitl [H0]; · iapply (oa0 m c t); iexact H0
    isplitl [H1]; · iapply (oa1 m c t); iexact H1
    isplitl [H2]; · iapply (oa2 m c t); iexact H2
    isplitl [H3]; · iapply (oa3 m c t); iexact H3
    isplitl [H4]; · iapply (oa4 m c t); iexact H4
    isplitl [H5]; · iapply (oa5 m c t); iexact H5
    isplitl [H6]; · iapply (oa6 m c t); iexact H6
    isplitl [H7]; · iapply (oa7 m c t); iexact H7
    isplitl [H8]; · iapply (oa8 m c t); iexact H8
    iapply (oa9 m c t); iexact H9

/-! ## The whole program -/

theorem phi_in (c : Dev nD) : iprop(Pipeline.ΦA spec0 c ∗ Pipeline.ΦT pre0 T c) ⊢ (dat m c).Φ 0 := by
  rw [PhiT0_eq, show (dat m c).Φ 0 = Phi m c 0 from rfl]
  unfold Pipeline.ΦA Phi
  rw [scopedRest0_eq]
  iintro ⟨⟨⟨⟨%fA, HA⟩, ⟨%fD, HD⟩, ⟨%fR, HR⟩⟩, HP⟩, HT⟩
  isplitl [HA HD HR]
  · rw [scrAt]
    iexists (⟨acM.view.read (Elt F) fA, deM.view.read (Elt F) fD, roM.view.read (Elt F) fR⟩ : Scr F)
    isplitr; · ipureintro; exact fun h => absurd rfl h
    unfold scOwn
    isplitl [HA]; · iexists fA; isplitr; swap; · iexact HA
                    ipureintro; rfl
    isplitl [HD]; · iexists fD; isplitr; swap; · iexact HD
                    ipureintro; rfl
    iexists fR; isplitr; swap; · iexact HR
    ipureintro; rfl
  · isplitl [HT]; · iexact HT
    iexact HP

theorem phi_out (c : Dev nD) : (dat m c).Φ (Fin.last (cfgT (F := F)).N) ⊢ Pipeline.ΦA spec0 c := by
  rw [show (dat m c).Φ (Fin.last (cfgT (F := F)).N) = Phi m c (cfgT (F := F)).N from rfl]
  unfold Pipeline.ΦA Phi
  rw [scopedRest0_eq]
  iintro ⟨HS, -, HP⟩
  isplitl [HS]; · iapply (scrAt_any m c (cfgT (F := F)).N); iexact HS
  iexact HP

set_option maxHeartbeats 1000000 in
/-- The program runs; every array ends as the pipeline's data say, every other array as the call found it, and every
    semaphore at zero. -/
theorem run_main : θ_run defs (onTc (τ := τ) (main (F := F))) (s₀ m ρ) (fun r =>
    Pipeline.FramePost (Pipeline.pin pcfgs fun _ => adm) (dats m) 0 (V m) r ∧ r.2.sem = fun _ => 0) :=
  Pipeline.θ_run_frameP_track_shared pcfgs (fun _ => adm) (dats m) 0 launch₀0 defs₀ Variants.none m ρ main
    (fun c => body m c) (fun _ _ _ => rfl) (fun _ _ => rfl) (V m) (hmain m Variants.none) (fun _ _ => rfl)
    (fun c k => V_pre m c k) (fun c => phi_in m c) (fun c => phi_out m c) _ (fun _ h => h)

end Cert.FoxQ
end
-- ==== Proof.Frames.lean ====
/-
  The frames: each program runs to its end, leaves its arguments unchanged and every semaphore counter at zero.
-/
module

public import proofs.«01_k».proof.Defs
public import proofs.«01_k».proof.Proof.Gen.ReferenceIdeal.Run
public import proofs.«01_k».proof.Proof.FoxQ.Run
public import proofs.«01_k».proof.Proof.FoxB.Run

@[expose] public section

set_option maxRecDepth 16384

noncomputable section

namespace Cert.Proof

open Idealize.ShloMosaic Idealize.ShloMosaic.TcCoe Idealize.SL.Sem

section
open Cert.KernelIdeal Cert.KernelIdeal.Gen Cert.FoxQ

variable {F : FTy → Type} [FloatOps F]
variable (m : (ℓ : Loc nD τ sig) → Buf (Elt F) ℓ) (ρ : Dev nD → PrngReg)

/-- The run's end gives the arguments unchanged on every device. -/
theorem args_of_post (r : PUnit × MemSt nD τ sig (Elt F)) (h : Pipeline.FramePost (Pipeline.pin pcfgs fun _ => adm) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c)⟩

/-- The frame, over any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => args_of_post m r h.1 c, h.2⟩) (run_main (F := F) m ρ)

end

section
open Cert.Kernel Cert.Kernel.Gen Cert.FoxB

variable (m : (ℓ : Loc nD τ sig) → Buf (Elt Bits) ℓ) (ρ : Dev nD → PrngReg)

/-- The run's end gives the arguments unchanged on every device. -/
theorem args_of_post_bits (r : PUnit × MemSt nD τ sig (Elt Bits)) (h : Pipeline.FramePost (Pipeline.pin pcfgs fun _ => adm) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c)⟩

/-- The frame, over any float values. -/
theorem frame_any_bits : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => args_of_post_bits m r h.1 c, h.2⟩) (run_main (F := Bits) m ρ)

end

theorem frame_ideal : Cert.quiescent_KernelIdeal := fun m ρ _ => frame_any (F := Ideal) m ρ

theorem frame_kernel : Cert.quiescent_Kernel := fun m ρ _ => frame_any_bits m ρ

theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof

end
-- ==== Proof.FoxQ.Model.lean ====
/-
  The query gradient over the real numbers: what the reference sums and what the call sums are the same number.
-/
module

public import Mathlib.Analysis.SpecialFunctions.Log.Basic
public import Idealize.ShloMosaic.Lib.Pointwise
public import Idealize.ShloMosaic.Lib.IdealHost
public import Idealize.ShloMosaic.Lib.WordCmp

@[expose] public section

noncomputable section

namespace Cert.FoxQ.Model

open Idealize.ShloMosaic

/-! ## Extended reals that are real -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem log_coe (x : ℝ) (h : 0 < x) : Ideal.log (x : EReal) = ((Real.log x : ℝ) : EReal) := by
  show (if x ≤ 0 then (⊥ : EReal) else ((Real.log x : ℝ) : EReal)) = _
  rw [if_neg (not_le.mpr h)]

theorem exp_bot : Ideal.exp (⊥ : EReal) = 0 := rfl
theorem exp_coe (x : ℝ) : Ideal.exp (x : EReal) = ((Real.exp x : ℝ) : EReal) := rfl
theorem bot_sub_coe (x : ℝ) : (⊥ : EReal) - (x : EReal) = ⊥ := by simp

/-- The largest of some real numbers and of `⊥`s, one at least real, is real. -/
theorem fold_max_coe {n : ℕ} (f : Fin n → EReal) (hf : ∀ i, f i ≠ ⊤) (h : ∃ i, f i ≠ ⊥) :
    ((Finset.univ.fold max ⊥ f).toReal : EReal) = Finset.univ.fold max ⊥ f := by
  have e : Finset.univ.fold max ⊥ f = Finset.univ.sup f := rfl
  rw [e]
  apply EReal.coe_toReal
  · intro ht
    obtain ⟨i, hi⟩ := h
    have : (Finset.univ : Finset (Fin n)).Nonempty := ⟨i, Finset.mem_univ i⟩
    obtain ⟨j, -, hj⟩ := Finset.exists_mem_eq_sup _ this f
    exact hf j (hj.symm.trans ht)
  · intro hb
    obtain ⟨i, hi⟩ := h
    exact hi (le_bot_iff.mp (hb ▸ Finset.le_sup (f := f) (Finset.mem_univ i)))

/-! ## The numbers -/

/-- The scale and the arguments: queries, keys, values, cumulative gates, cotangent. -/
structure Inp where
  C : ℝ
  q : Fin 4096 → Fin 512 → ℝ
  k : Fin 4096 → Fin 512 → ℝ
  v : Fin 4096 → Fin 512 → ℝ
  g : Fin 4 → Fin 4096 → ℝ
  w : Fin 4096 → Fin 512 → ℝ

/-- Column `d` of head `h`. -/
abbrev col (h : Fin 4) (d : Fin 128) : Fin 512 := ⟨h.val * 128 + d.val, by omega⟩
/-- Row `i` of block `b`. -/
abbrev row (b : Fin 8) (i : Fin 512) : Fin 4096 := ⟨b.val * 512 + i.val, by omega⟩

variable (X : Inp)

def s (h : Fin 4) (i j : Fin 4096) : ℝ := (∑ d, X.q i (col h d) * X.k j (col h d)) * X.C + (X.g h i - X.g h j)
/-- The masked scores. -/
def sm (h : Fin 4) (i j : Fin 4096) : EReal := if j ≤ i then ((s X h i j : ℝ) : EReal) else ⊥
/-- The largest score of a row. -/
def mE (h : Fin 4) (i : Fin 4096) : EReal := Finset.univ.fold max ⊥ fun j => sm X h i j
def m (h : Fin 4) (i : Fin 4096) : ℝ := (mE X h i).toReal
def e (h : Fin 4) (i j : Fin 4096) : ℝ := if j ≤ i then Real.exp (s X h i j - m X h i) else 0
def l (h : Fin 4) (i : Fin 4096) : ℝ := ∑ j, e X h i j
def dp (h : Fin 4) (i j : Fin 4096) : ℝ := ∑ d, X.w i (col h d) * X.v j (col h d)
/-- The forward output. -/
def o (h : Fin 4) (i : Fin 4096) (d : Fin 128) : ℝ := ∑ j, e X h i j / l X h i * X.v j (col h d)
def lse (h : Fin 4) (i : Fin 4096) : ℝ := m X h i + Real.log (l X h i)
def dl (h : Fin 4) (i : Fin 4096) : ℝ := ∑ d, o X h i d * X.w i (col h d)
/-- The scores' gradient as the reference has it. -/
def dsR (h : Fin 4) (i j : Fin 4096) : ℝ :=
  if j ≤ i then (dp X h i j / l X h i + -(∑ t, dp X h i t * (1 / (l X h i * l X h i)) * e X h i t)) * e X h i j else 0
/-- The scores' gradient as the call has it. -/
def ds (h : Fin 4) (i j : Fin 4096) : ℝ :=
  if j ≤ i then Real.exp (s X h i j - lse X h i) * (dp X h i j - dl X h i) else 0

theorem mE_coe (h : Fin 4) (i : Fin 4096) : mE X h i = ((m X h i : ℝ) : EReal) := by
  refine (fold_max_coe (fun j => sm X h i j) (fun j => ?_) ⟨i, ?_⟩).symm
  · unfold sm; split
    · exact EReal.coe_ne_top _
    · exact bot_ne_top
  · unfold sm; rw [if_pos le_rfl]; exact EReal.coe_ne_bot _

theorem e_nonneg (h : Fin 4) (i j : Fin 4096) : 0 ≤ e X h i j := by
  unfold e; split
  · exact (Real.exp_pos _).le
  · exact le_rfl

theorem l_pos (h : Fin 4) (i : Fin 4096) : 0 < l X h i := by
  refine Finset.sum_pos' (fun j _ => e_nonneg X h i j) ⟨i, Finset.mem_univ i, ?_⟩
  unfold e; rw [if_pos le_rfl]; exact Real.exp_pos _

theorem l_ne (h : Fin 4) (i : Fin 4096) : l X h i ≠ 0 := (l_pos X h i).ne'
theorem ll_ne (h : Fin 4) (i : Fin 4096) : l X h i * l X h i ≠ 0 := mul_ne_zero (l_ne X h i) (l_ne X h i)

/-- The masked exponentials over the extended reals. -/
theorem e_coe (h : Fin 4) (i j : Fin 4096) : Ideal.exp (sm X h i j - ((m X h i : ℝ) : EReal)) = ((e X h i j : ℝ) : EReal) := by
  unfold sm e; split
  · rw [← EReal.coe_sub, exp_coe]
  · rw [bot_sub_coe, exp_bot]; rfl

theorem exp_lse (h : Fin 4) (i j : Fin 4096) (hij : j ≤ i) : Real.exp (s X h i j - lse X h i) = e X h i j / l X h i := by
  unfold lse e
  rw [if_pos hij, ← sub_sub, Real.exp_sub, Real.exp_log (l_pos X h i)]

theorem dl_eq (h : Fin 4) (i : Fin 4096) : dl X h i = ∑ t, e X h i t / l X h i * dp X h i t := by
  unfold dl o dp
  simp only [Finset.sum_mul, Finset.mul_sum]
  rw [Finset.sum_comm]
  refine Finset.sum_congr rfl fun t _ => Finset.sum_congr rfl fun d _ => ?_
  ring

/-- The two forms of the scores' gradient agree. -/
theorem dsR_eq (h : Fin 4) (i j : Fin 4096) : dsR X h i j = ds X h i j := by
  unfold dsR ds
  split
  · next hij =>
    rw [exp_lse X h i j hij, dl_eq]
    have hl := l_ne X h i
    have e1 : (∑ t, dp X h i t * (1 / (l X h i * l X h i)) * e X h i t) = (∑ t, e X h i t / l X h i * dp X h i t) / l X h i := by
      rw [Finset.sum_div]
      refine Finset.sum_congr rfl fun t _ => ?_
      field_simp
    rw [e1]
    field_simp
    ring
  · rfl

/-! ## The terms the programs leave, as these numbers -/

theorem s_coe (h : Fin 4) (i j : Fin 4096) :
    (∑ d, ((X.q i (col h d) : ℝ) : EReal) * ((X.k j (col h d) : ℝ) : EReal)) * ((X.C : ℝ) : EReal) + (((X.g h i : ℝ) : EReal) - ((X.g h j : ℝ) : EReal))
      = ((s X h i j : ℝ) : EReal) := by
  simp only [← EReal.coe_mul, coe_sum, ← EReal.coe_sub, ← EReal.coe_add]; rfl

theorem sm_fold (h : Fin 4) (i j : Fin 4096) : (if j ≤ i then ((s X h i j : ℝ) : EReal) else ⊥) = sm X h i j := rfl

theorem max_fold (h : Fin 4) (i : Fin 4096) : Finset.fold max ⊥ (fun j => sm X h i j) Finset.univ = ((m X h i : ℝ) : EReal) := mE_coe X h i

theorem max_bot (x : EReal) : max ⊥ x = x := max_eq_right bot_le

theorem l_coe (h : Fin 4) (i : Fin 4096) : ∑ j, ((e X h i j : ℝ) : EReal) = ((l X h i : ℝ) : EReal) := coe_sum _ _

theorem el_coe (h : Fin 4) (i j : Fin 4096) : Ideal.div ((e X h i j : ℝ) : EReal) ((l X h i : ℝ) : EReal) = ((e X h i j / l X h i : ℝ) : EReal) :=
  div_coe _ _ (l_ne X h i)

theorem logl_coe (h : Fin 4) (i : Fin 4096) : Ideal.log ((l X h i : ℝ) : EReal) = ((Real.log (l X h i) : ℝ) : EReal) := log_coe _ (l_pos X h i)

theorem o_coe (h : Fin 4) (i : Fin 4096) (d : Fin 128) :
    ∑ j, ((e X h i j / l X h i : ℝ) : EReal) * ((X.v j (col h d) : ℝ) : EReal) = ((o X h i d : ℝ) : EReal) := by
  simp only [← EReal.coe_mul, coe_sum]; rfl

theorem dp_coe (h : Fin 4) (i j : Fin 4096) :
    ∑ d, ((X.w i (col h d) : ℝ) : EReal) * ((X.v j (col h d) : ℝ) : EReal) = ((dp X h i j : ℝ) : EReal) := by
  simp only [← EReal.coe_mul, coe_sum]; rfl

/-- The comparison of row and column words. -/
theorem sel_le {α : Type} (i j : Fin 4096) (a b : α) :
    Scalar.select (IntOp.cmpi CmpIPredicate.sle (BitVec.ofNat 32 j.val) (BitVec.ofNat 32 i.val)) a b = if j ≤ i then a else b := by
  have hi := i.isLt
  have hj := j.isLt
  rw [WordCmp.cmpi_sle_ofNat (by omega) (by omega)]
  by_cases h : j ≤ i
  · rw [if_pos h, decide_eq_true (show j.val ≤ i.val from h)]; rfl
  · rw [if_neg h, decide_eq_false (show ¬ j.val ≤ i.val from h)]; rfl

theorem ofBits_bot : Ideal.ofBits .f32 0xFF800000#32 = (⊥ : EReal) := by
  simp [Ideal.ofBits, Ideal.ieee]

theorem col_div (h : Fin 4) (d : Fin 128) : (h.val * 128 + d.val) / 128 = h.val := by omega
theorem col_mod (h : Fin 4) (d : Fin 128) : (h.val * 128 + d.val) % 128 = d.val := by omega

/-- A sum over rows is a sum over the blocks of a sum over a block's rows. -/
theorem sum_row (f : Fin 4096 → ℝ) : ∑ j, f j = ∑ b : Fin 8, ∑ i : Fin 512, f (row b i) := by
  rw [← Fintype.sum_prod_type']
  refine (Equiv.sum_comp (finProdFinEquiv (m := 8) (n := 512)) (fun j : Fin 4096 => f j)).symm.trans ?_
  refine Finset.sum_congr rfl fun p _ => congrArg f (Fin.ext ?_)
  show p.2.val + 512 * p.1.val = p.1.val * 512 + p.2.val
  omega

/-- Sums of the call up to block `b`. -/
def upTo (n : ℕ) (f : Fin 8 → ℝ) : ℝ := ∑ b : Fin 8, if b.val < n then f b else 0

theorem upTo_zero (f : Fin 8 → ℝ) : upTo 0 f = 0 := by simp [upTo]
theorem upTo_succ (n : Fin 8) (f : Fin 8 → ℝ) : upTo (n.val + 1) f = upTo n.val f + f n := by
  unfold upTo
  have : ∀ b : Fin 8, (if b.val < n.val + 1 then f b else 0) = (if b.val < n.val then f b else 0) + (if b = n then f b else 0) := by
    intro b
    by_cases h1 : b.val < n.val
    · rw [if_pos h1, if_pos (by omega), if_neg (by intro h; subst h; omega), add_zero]
    · by_cases h2 : b = n
      · subst h2; simp
      · rw [if_neg h1, if_neg (by intro h; exact h2 (Fin.ext (by omega))), if_neg h2, add_zero]
  simp only [this, Finset.sum_add_distrib, Finset.sum_ite_eq', Finset.mem_univ, if_true]

/-- Past the query's own block every term is zero. -/
theorem upTo_all (h : Fin 4) (b : Fin 8) (i : Fin 512) (f : Fin 4096 → ℝ) (hf : ∀ j, ¬ j ≤ row b i → f j = 0) :
    upTo (b.val + 1) (fun c => ∑ j, f (row c j)) = ∑ j, f j := by
  rw [sum_row]
  refine Finset.sum_congr rfl fun c _ => ?_
  split
  · rfl
  · next hc =>
    refine (Finset.sum_eq_zero fun j _ => hf _ ?_).symm
    intro hle
    have : c.val * 512 + j.val ≤ b.val * 512 + i.val := hle
    omega

end Cert.FoxQ.Model
end
-- ==== Proof.FoxQ.HostK.lean ====
/-
  What the host lines before the call leave in the arrays the call reads.
-/
module

public import proofs.«01_k».proof.Proof.FoxQ.Kit
public import proofs.«01_k».proof.Proof.FoxQ.Model
public import Idealize.ShloMosaic.Lib.StableHlo.ReadAt

@[expose] public section

set_option maxRecDepth 16384

noncomputable section

namespace Cert.FoxQ

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The arguments' elements are the given real numbers, on device `c`. -/
structure Args (c : Dev nD) (X : Model.Inp) : Prop where
  C : Ideal.ofBits .f32 0x3DB504F3#32 = ((X.C : ℝ) : EReal)
  q : ∀ i j, (m (c, Proc.tc.devRef main_arg0) : FVec Ideal S4096x512 .f32) (ix2 i j) = ((X.q i j : ℝ) : EReal)
  k : ∀ i j, (m (c, Proc.tc.devRef main_arg1) : FVec Ideal S4096x512 .f32) (ix2 i j) = ((X.k i j : ℝ) : EReal)
  v : ∀ i j, (m (c, Proc.tc.devRef main_arg2) : FVec Ideal S4096x512 .f32) (ix2 i j) = ((X.v i j : ℝ) : EReal)
  g : ∀ h i, (m (c, Proc.tc.devRef main_arg3) : FVec Ideal S4x4096 .f32) (ix2 h i) = ((X.g h i : ℝ) : EReal)
  w : ∀ i j, (m (c, Proc.tc.devRef main_arg4) : FVec Ideal S4096x512 .f32) (ix2 i j) = ((X.w i j : ℝ) : EReal)

variable {m} {c : Dev nD} {X : Model.Inp}

theorem v2_at (A : Args m c X) (h : Fin 4) (i : Fin 4096) :
    (V m c main_v2 : FVec Ideal S4x4096x1 .f32) (ix3 h i 0) = ((X.g h i : ℝ) : EReal) := by
  unfold V
  after_reads_at
  exact A.g h i
theorem v3_at (A : Args m c X) (h : Fin 4) (i : Fin 4096) :
    (V m c main_v3 : FVec Ideal S4x1x4096 .f32) (ix3 h 0 i) = ((X.g h i : ℝ) : EReal) := by
  unfold V
  after_reads_at
  exact A.g h i
theorem v41_at (A : Args m c X) (i : Fin 4096) (j : Fin 512) :
    (V m c main_v41 : FVec Ideal S4096x512 .bf16) (ix2 i j) = ((X.w i j : ℝ) : EReal) := by
  unfold V
  after_reads_at
  exact A.w i j

/-! ## The host lines, in stages -/

/-- The mask: column at or before row. -/
def hmask : IVec S4096x4096 1 :=
  cmpi CmpIPredicate.sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The columns cut into heads. -/
def hheads (x : FVec Ideal S4096x512 .f32) : FVec Ideal S4x4096x128 .f32 :=
  transpose S4x4096x128 [1, 0, 2] (fun i => shapeCast S4096x4x128 x shapeCasts_S4096x512_S4096x4x128 i) transposes_S4096x4x128_S4x4096x128_1_0_2

/-- The scores before the mask. -/
def hraw (x y : FVec Ideal S4x4096x128 .f32) (a3 : FVec Ideal S4x4096 .f32) : FVec Ideal S4x4096x4096 .f32 :=
  addf
    (mulf (Host.dotGeneral dot_S4x4096x128_S4x4096x128_S4x4096x4096_2_2_1_1_0_0 none x y)
      (broadcastInDim S4x4096x4096 ![] bcast_S_S4x4096x4096 (constant S_ FTy.f32 0x3DB504F3#32)))
    (subf
      (broadcastInDim S4x4096x4096 ![0, 1, 2] bcast_S4x4096x1_S4x4096x4096_0_1_2 (broadcastInDim S4x4096x1 ![0, 1] bcast_S4x4096_S4x4096x1_0_1 a3))
      (broadcastInDim S4x4096x4096 ![0, 1, 2] bcast_S4x1x4096_S4x4096x4096_0_1_2 (broadcastInDim S4x1x4096 ![0, 2] bcast_S4x4096_S4x1x4096_0_2 a3)))

/-- The masked scores. -/
def hsel (k : IVec S4096x4096 1) (r : FVec Ideal S4x4096x4096 .f32) : FVec Ideal S4x4096x4096 .f32 :=
  select (broadcastInDim S4x4096x4096 ![1, 2] bcast_S4096x4096_S4x4096x4096_1_2 k) r
    (broadcastInDim S4x4096x4096 ![] bcast_S_S4x4096x4096 (id (constant S_ FTy.f32 0xFF800000#32)))

/-- A row's largest score. -/
def hmax (s : FVec Ideal S4x4096x4096 .f32) : FVec Ideal S4x4096 .f32 :=
  Host.reduce FloatOps.maximumf s (constant S_ FTy.f32 0xFF800000#32) reducesTo_S4x4096x4096_S4x4096_d2 h_S_

/-- The exponentials of the scores less `x` of the row. -/
def hexp (s : FVec Ideal S4x4096x4096 .f32) (x : FVec Ideal S4x4096 .f32) : FVec Ideal S4x4096x4096 .f32 :=
  Host.exp (subf s (broadcastInDim S4x4096x4096 ![0, 1, 2] bcast_S4x4096x1_S4x4096x4096_0_1_2 (broadcastInDim S4x4096x1 ![0, 1] bcast_S4x4096_S4x4096x1_0_1 x)))

/-- A row's sum. -/
def hsum (e : FVec Ideal S4x4096x4096 .f32) : FVec Ideal S4x4096x1 .f32 :=
  broadcastInDim S4x4096x1 ![0, 1] bcast_S4x4096_S4x4096x1_0_1
    (Host.reduceAdd e (constant S_ FTy.f32 0x00000000#32) reducesTo_S4x4096x4096_S4x4096_d2 h_S_)

/-- The logarithm of a row's sum of exponentials, from the row's largest score and that sum. -/
def hlse (x : FVec Ideal S4x4096 .f32) (l : FVec Ideal S4x4096x1 .f32) : FVec Ideal S4x4096x1 .f32 :=
  addf (broadcastInDim S4x4096x1 ![0, 1] bcast_S4x4096_S4x4096x1_0_1 x) (Host.log l)

/-- The largest score, no less than minus infinity. -/
def hmaxb (x : FVec Ideal S4x4096 .f32) : FVec Ideal S4x4096 .f32 :=
  maximumf (broadcastInDim S4x4096 ![] bcast_S_S4x4096 (constant S_ FTy.f32 0xFF800000#32)) x

/-- The weighted values, heads side by side again. -/
def hout (e : FVec Ideal S4x4096x4096 .f32) (l : FVec Ideal S4x4096x1 .f32) (v : FVec Ideal S4x4096x128 .f32) : FVec Ideal S4096x512 .bf16 :=
  truncf .bf16
    (fun i => shapeCast S4096x512
      (transpose S4096x4x128 [1, 0, 2]
        (Host.dotGeneral dot_S4x4096x4096_S4x4096x128_S4x4096x128_2_1_1_2_0_0 none
          (Host.divf e (broadcastInDim S4x4096x4096 ![0, 1, 2] bcast_S4x4096x1_S4x4096x4096_0_1_2 l)) v)
        transposes_S4x4096x128_S4096x4x128_1_0_2) shapeCasts_S4096x4x128_S4096x512 i) bitsLt_bf16_f32

theorem hmask_at (i j : Fin 4096) : hmask (ix2 i j) = IntOp.cmpi CmpIPredicate.sle (BitVec.ofNat 32 j.val) (BitVec.ofNat 32 i.val) := by
  pointwise [hmask]

theorem hheads_at (x : FVec Ideal S4096x512 .f32) (h : Fin 4) (i : Fin 4096) (d : Fin 128) : hheads x (ix3 h i d) = x (ix2 i (Model.col h d)) := by
  pointwise [hheads]

theorem hraw_at (x y : FVec Ideal S4x4096x128 .f32) (a3 : FVec Ideal S4x4096 .f32) (h : Fin 4) (i j : Fin 4096) :
    hraw x y a3 (ix3 h i j) = (∑ d, x (ix3 h i d) * y (ix3 h j d)) * Ideal.ofBits .f32 0x3DB504F3#32 + (a3 (ix2 h i) - a3 (ix2 h j)) := by
  pointwise [hraw]

theorem hsel_at (k : IVec S4096x4096 1) (r : FVec Ideal S4x4096x4096 .f32) (h : Fin 4) (i j : Fin 4096) :
    hsel k r (ix3 h i j) = Scalar.select (k (ix2 i j)) (r (ix3 h i j)) (Ideal.ofBits .f32 0xFF800000#32) := by
  unfold hsel
  rw [id_eq]
  pointwise

theorem hmax_at (s : FVec Ideal S4x4096x4096 .f32) (h : Fin 4) (i : Fin 4096) :
    hmax s (ix2 h i) = Finset.fold max (Ideal.ofBits .f32 0xFF800000#32) (fun j => s (ix3 h i j)) Finset.univ := by
  pointwise [hmax]

theorem hexp_at (s : FVec Ideal S4x4096x4096 .f32) (x : FVec Ideal S4x4096 .f32) (h : Fin 4) (i j : Fin 4096) :
    hexp s x (ix3 h i j) = Ideal.exp (s (ix3 h i j) - x (ix2 h i)) := by
  pointwise [hexp]

theorem hsum_at (e : FVec Ideal S4x4096x4096 .f32) (h : Fin 4) (i : Fin 4096) : hsum e (ix3 h i 0) = ∑ j, e (ix3 h i j) := by
  pointwise [hsum]

theorem hlse_at (x : FVec Ideal S4x4096 .f32) (l : FVec Ideal S4x4096x1 .f32) (h : Fin 4) (i : Fin 4096) :
    hlse x l (ix3 h i 0) = x (ix2 h i) + Ideal.log (l (ix3 h i 0)) := by
  pointwise [hlse]

theorem hmaxb_at (x : FVec Ideal S4x4096 .f32) (h : Fin 4) (i : Fin 4096) : hmaxb x (ix2 h i) = max (Ideal.ofBits .f32 0xFF800000#32) (x (ix2 h i)) := by
  pointwise [hmaxb]

theorem hout_at (e : FVec Ideal S4x4096x4096 .f32) (l : FVec Ideal S4x4096x1 .f32) (v : FVec Ideal S4x4096x128 .f32) (h : Fin 4) (i : Fin 4096) (d : Fin 128) :
    hout e l v (ix2 i (Model.col h d)) = ∑ j, Ideal.div (e (ix3 h i j)) (l (ix3 h i 0)) * v (ix3 h j d) := by
  pointwise [hout]
  simp only [Model.col_div, Model.col_mod, Fin.eta]

variable (m c)

/-- The masked scores, of the arguments. -/
def hs : FVec Ideal S4x4096x4096 .f32 :=
  hsel hmask (hraw (hheads (m (c, Proc.tc.devRef main_arg0))) (hheads (m (c, Proc.tc.devRef main_arg1))) (m (c, Proc.tc.devRef main_arg3)))

theorem v70_eq : (V m c main_v70 : FVec Ideal S4x4096x1 .f32) = hlse (hmax (hs m c)) (hsum (hexp (hs m c) (hmax (hs m c)))) := by
  unfold V
  after_reads_simp
  simp -implicitDefEqProofs only [StableHlo.TRef.toBuf, StableHlo.TRef.ofBuf, cast_cast, cast_eq]
  clean_types
  exact Eq.refl _

theorem v40_eq : (V m c main_v40 : FVec Ideal S4096x512 .bf16)
    = hout (hexp (hs m c) (hmaxb (hmax (hs m c)))) (hsum (hexp (hs m c) (hmaxb (hmax (hs m c))))) (hheads (m (c, Proc.tc.devRef main_arg2))) := by
  unfold V
  after_reads_simp
  simp -implicitDefEqProofs only [StableHlo.TRef.toBuf, StableHlo.TRef.ofBuf, cast_cast, cast_eq]
  clean_types
  exact Eq.refl _

theorem up0 : StableHlo.upto (List.flatten [hostOps0, hostOps0_1, hostOps0_2, hostOps0_3, hostOps0_4]) (fun b => m (c, b)) 4 (Proc.tc.devRef main_arg0)
    = m (c, Proc.tc.devRef main_arg0) := by
  after_reads_simp

theorem up1 : StableHlo.upto (List.flatten [hostOps0, hostOps0_1, hostOps0_2, hostOps0_3, hostOps0_4]) (fun b => m (c, b)) 4 (Proc.tc.devRef main_arg1)
    = m (c, Proc.tc.devRef main_arg1) := by
  after_reads_simp

theorem up2 : StableHlo.upto (List.flatten [hostOps0, hostOps0_1, hostOps0_2, hostOps0_3, hostOps0_4]) (fun b => m (c, b)) 4 (Proc.tc.devRef main_arg2)
    = m (c, Proc.tc.devRef main_arg2) := by
  after_reads_simp

variable {m c}

theorem hs_at (A : Args m c X) (h : Fin 4) (i j : Fin 4096) : hs m c (ix3 h i j) = Model.sm X h i j := by
  unfold hs
  simp only [hsel_at, hmask_at, hraw_at, hheads_at, Model.sel_le, Model.ofBits_bot, A.q, A.k, A.g, A.C, Model.s_coe, Model.sm_fold]

theorem hmax_hs (A : Args m c X) (h : Fin 4) (i : Fin 4096) : hmax (hs m c) (ix2 h i) = ((Model.m X h i : ℝ) : EReal) := by
  simp only [hmax_at, hs_at A, Model.ofBits_bot, Model.max_fold]

/-- The row's logarithm of the sum of exponentials. -/
theorem v70_at (A : Args m c X) (h : Fin 4) (i : Fin 4096) :
    (V m c main_v70 : FVec Ideal S4x4096x1 .f32) (ix3 h i 0) = ((Model.lse X h i : ℝ) : EReal) := by
  rw [v70_eq]
  simp only [hlse_at, hsum_at, hexp_at, hmax_hs A, hs_at A, Model.e_coe, Model.l_coe, Model.logl_coe, ← EReal.coe_add]
  rfl

/-- The forward output. -/
theorem v40_at (A : Args m c X) (h : Fin 4) (i : Fin 4096) (d : Fin 128) :
    (V m c main_v40 : FVec Ideal S4096x512 .bf16) (ix2 i (Model.col h d)) = ((Model.o X h i d : ℝ) : EReal) := by
  rw [v40_eq]
  simp only [hout_at, hsum_at, hexp_at, hmaxb_at, hheads_at, hmax_hs A, hs_at A, Model.ofBits_bot, Model.max_bot, A.v,
    Model.e_coe, Model.l_coe, Model.el_coe, Model.o_coe]

/-- The query columns. -/
theorem v1_q (A : Args m c X) (i : Fin 4096) (j : Fin 512) :
    (V m c main_v1 : FVec Ideal S4096x1536 .bf16) (ix2 i ⟨j.val, by omega⟩) = ((X.q i j : ℝ) : EReal) := by
  unfold V
  after_reads_at
  exact (congrFun (up0 m c) (ix2 i j)).trans (A.q i j)

/-- The key columns. -/
theorem v1_k (A : Args m c X) (i : Fin 4096) (j : Fin 512) :
    (V m c main_v1 : FVec Ideal S4096x1536 .bf16) (ix2 i ⟨512 + j.val, by omega⟩) = ((X.k i j : ℝ) : EReal) := by
  unfold V
  after_reads_at
  exact (congrFun (up1 m c) (ix2 i j)).trans (A.k i j)

/-- The value columns. -/
theorem v1_v (A : Args m c X) (i : Fin 4096) (j : Fin 512) :
    (V m c main_v1 : FVec Ideal S4096x1536 .bf16) (ix2 i ⟨1024 + j.val, by omega⟩) = ((X.v i j : ℝ) : EReal) := by
  unfold V
  after_reads_at
  rw [dif_neg (by omega), dif_neg (by omega)]
  have e : (⟨1024 + j.val - 512 - 512, by omega⟩ : Fin 512) = j := Fin.ext (by show 1024 + j.val - 512 - 512 = j.val; omega)
  refine (congrFun (up2 m c) _).trans ?_
  rw [e]
  exact A.v i j

end Cert.FoxQ
end
-- ==== Proof.FoxQ.Blocks.lean ====
/-
  The blocks the grid points read, at an index, as the numbers of Model.lean.
-/
module

public import proofs.«01_k».proof.Proof.FoxQ.Points
public import proofs.«01_k».proof.Proof.FoxQ.HostK

@[expose] public section

set_option maxRecDepth 16384

noncomputable section

namespace Cert.FoxQ

open Cert.KernelIdeal Cert.KernelIdeal.Gen
open Idealize.ShloMosaic Idealize.ShloMosaic.TcCoe Idealize.ShloMosaic.Tactic

/-- The point's head, query block and key block. -/
def hh (t : Fin (cfgT (F := Ideal)).N) : Fin 4 := ⟨hN (tp t), hN_lt _⟩
def qq (t : Fin (cfgT (F := Ideal)).N) : Fin 8 := ⟨qN (tp t), qN_lt _⟩
def kk (t : Fin (cfgT (F := Ideal)).N) : Fin 8 := ⟨kN (tp t), lt_of_le_of_lt (kN_le _) (qN_lt _)⟩

variable {m : (ℓ : Loc nD τ sig) → Buf (Elt Ideal) ℓ} {c : Dev nD} {X : Model.Inp} (t : Fin (cfgT (F := Ideal)).N)

theorem emb_0 (i : Fin 512) (d : Fin 128) :
    (((cfgT (F := Ideal)).win 0).rect t).emb (ix2 i d) = (ix2 (Model.row (qq t) i) ⟨(Model.col (hh t) d).val, by omega⟩ : S4096x1536.Idx) := by
  funext a
  refine Fin.ext ((Pipeline.Window.rect_emb_val _ t _ a).trans ?_)
  rw [index_0]
  match a with
  | ⟨0, _⟩ => rfl
  | ⟨1, _⟩ => rfl

theorem emb_1 (i : Fin 512) (d : Fin 128) :
    (((cfgT (F := Ideal)).win 1).rect t).emb (ix2 i d) = (ix2 (Model.row (kk t) i) ⟨512 + (Model.col (hh t) d).val, by omega⟩ : S4096x1536.Idx) := by
  funext a
  refine Fin.ext ((Pipeline.Window.rect_emb_val _ t _ a).trans ?_)
  rw [index_1]
  match a with
  | ⟨0, _⟩ => rfl
  | ⟨1, _⟩ => show (4 + hN (tp t)) * 128 + d.val = 512 + (hN (tp t) * 128 + d.val); omega

theorem emb_2 (i : Fin 512) (d : Fin 128) :
    (((cfgT (F := Ideal)).win 2).rect t).emb (ix2 i d) = (ix2 (Model.row (kk t) i) ⟨1024 + (Model.col (hh t) d).val, by omega⟩ : S4096x1536.Idx) := by
  funext a
  refine Fin.ext ((Pipeline.Window.rect_emb_val _ t _ a).trans ?_)
  rw [index_2]
  match a with
  | ⟨0, _⟩ => rfl
  | ⟨1, _⟩ => show (8 + hN (tp t)) * 128 + d.val = 1024 + (hN (tp t) * 128 + d.val); omega

theorem emb_3 (i : Fin 512) :
    (((cfgT (F := Ideal)).win 3).rect t).emb (ix3 0 i 0) = (ix3 (hh t) (Model.row (qq t) i) 0 : S4x4096x1.Idx) := by
  funext a
  refine Fin.ext ((Pipeline.Window.rect_emb_val _ t _ a).trans ?_)
  rw [index_3]
  match a with
  | ⟨0, _⟩ => show hN (tp t) * 1 + 0 = hN (tp t); omega
  | ⟨1, _⟩ => rfl
  | ⟨2, _⟩ => rfl

theorem emb_7 (i : Fin 512) :
    (((cfgT (F := Ideal)).win 7).rect t).emb (ix3 0 i 0) = (ix3 (hh t) (Model.row (qq t) i) 0 : S4x4096x1.Idx) := by
  funext a
  refine Fin.ext ((Pipeline.Window.rect_emb_val _ t _ a).trans ?_)
  rw [index_7]
  match a with
  | ⟨0, _⟩ => show hN (tp t) * 1 + 0 = hN (tp t); omega
  | ⟨1, _⟩ => rfl
  | ⟨2, _⟩ => rfl

theorem emb_9 (i : Fin 512) :
    (((cfgT (F := Ideal)).win 9).rect t).emb (ix3 0 i 0) = (ix3 (hh t) (Model.row (qq t) i) 0 : S4x4096x1.Idx) := by
  funext a
  refine Fin.ext ((Pipeline.Window.rect_emb_val _ t _ a).trans ?_)
  rw [index_9]
  match a with
  | ⟨0, _⟩ => show hN (tp t) * 1 + 0 = hN (tp t); omega
  | ⟨1, _⟩ => rfl
  | ⟨2, _⟩ => rfl

theorem emb_4 (i : Fin 512) :
    (((cfgT (F := Ideal)).win 4).rect t).emb (ix3 0 0 i) = (ix3 (hh t) 0 (Model.row (kk t) i) : S4x1x4096.Idx) := by
  funext a
  refine Fin.ext ((Pipeline.Window.rect_emb_val _ t _ a).trans ?_)
  rw [index_4]
  match a with
  | ⟨0, _⟩ => show hN (tp t) * 1 + 0 = hN (tp t); omega
  | ⟨1, _⟩ => rfl
  | ⟨2, _⟩ => rfl

theorem emb_5 (i : Fin 512) (d : Fin 128) :
    (((cfgT (F := Ideal)).win 5).rect t).emb (ix2 i d) = (ix2 (Model.row (qq t) i) (Model.col (hh t) d) : S4096x512.Idx) := by
  funext a
  refine Fin.ext ((Pipeline.Window.rect_emb_val _ t _ a).trans ?_)
  rw [index_5]
  match a with
  | ⟨0, _⟩ => rfl
  | ⟨1, _⟩ => rfl

theorem emb_6 (i : Fin 512) (d : Fin 128) :
    (((cfgT (F := Ideal)).win 6).rect t).emb (ix2 i d) = (ix2 (Model.row (qq t) i) (Model.col (hh t) d) : S4096x512.Idx) := by
  funext a
  refine Fin.ext ((Pipeline.Window.rect_emb_val _ t _ a).trans ?_)
  rw [index_6]
  match a with
  | ⟨0, _⟩ => rfl
  | ⟨1, _⟩ => rfl

theorem emb_8 (i : Fin 512) (d : Fin 128) :
    (((cfgT (F := Ideal)).win 8).rect t).emb (ix2 i d) = (ix2 (Model.row (qq t) i) (Model.col (hh t) d) : S4096x512.Idx) := by
  funext a
  refine Fin.ext ((Pipeline.Window.rect_emb_val _ t _ a).trans ?_)
  rw [index_8]
  match a with
  | ⟨0, _⟩ => rfl
  | ⟨1, _⟩ => rfl

theorem read_0 (Z : FVec Ideal S4096x1536 .bf16) (i : Fin 512) (d : Fin 128) :
    (((cfgT (F := Ideal)).win 0).blk t).view.read (Elt Ideal) Z (ix2 i d) = Z (ix2 (Model.row (qq t) i) ⟨(Model.col (hh t) d).val, by omega⟩) := by
  refine Eq.trans ?_ (congrArg Z (emb_0 t i d))
  rfl

theorem b0_at (A : Args m c X) (i : Fin 512) (d : Fin 128) :
    b0 m c t (ix2 i d) = ((X.q (Model.row (qq t) i) (Model.col (hh t) d) : ℝ) : EReal) := by
  refine Eq.trans ?_ (v1_q A (Model.row (qq t) i) (Model.col (hh t) d))
  unfold b0 iblk
  exact read_0 t (V m c main_v1) i d

theorem read_1 (Z : FVec Ideal S4096x1536 .bf16) (i : Fin 512) (d : Fin 128) :
    (((cfgT (F := Ideal)).win 1).blk t).view.read (Elt Ideal) Z (ix2 i d) = Z (ix2 (Model.row (kk t) i) ⟨512 + (Model.col (hh t) d).val, by omega⟩) := by
  refine Eq.trans ?_ (congrArg Z (emb_1 t i d))
  rfl

theorem b1_at (A : Args m c X) (i : Fin 512) (d : Fin 128) :
    b1 m c t (ix2 i d) = ((X.k (Model.row (kk t) i) (Model.col (hh t) d) : ℝ) : EReal) := by
  refine Eq.trans ?_ (v1_k A (Model.row (kk t) i) (Model.col (hh t) d))
  unfold b1 iblk
  exact read_1 t (V m c main_v1) i d

theorem read_2 (Z : FVec Ideal S4096x1536 .bf16) (i : Fin 512) (d : Fin 128) :
    (((cfgT (F := Ideal)).win 2).blk t).view.read (Elt Ideal) Z (ix2 i d) = Z (ix2 (Model.row (kk t) i) ⟨1024 + (Model.col (hh t) d).val, by omega⟩) := by
  refine Eq.trans ?_ (congrArg Z (emb_2 t i d))
  rfl

theorem b2_at (A : Args m c X) (i : Fin 512) (d : Fin 128) :
    b2 m c t (ix2 i d) = ((X.v (Model.row (kk t) i) (Model.col (hh t) d) : ℝ) : EReal) := by
  refine Eq.trans ?_ (v1_v A (Model.row (kk t) i) (Model.col (hh t) d))
  unfold b2 iblk
  exact read_2 t (V m c main_v1) i d

theorem read_3 (Z : FVec Ideal S4x4096x1 .f32) (i : Fin 512) :
    (((cfgT (F := Ideal)).win 3).blk t).view.read (Elt Ideal) Z (ix3 0 i 0) = Z (ix3 (hh t) (Model.row (qq t) i) 0) := by
  refine Eq.trans ?_ (congrArg Z (emb_3 t i))
  rfl

theorem b3_at (A : Args m c X) (i : Fin 512) :
    b3 m c t (ix3 0 i 0) = ((X.g (hh t) (Model.row (qq t) i) : ℝ) : EReal) := by
  refine Eq.trans ?_ (v2_at A (hh t) (Model.row (qq t) i))
  unfold b3 iblk
  exact read_3 t (V m c main_v2) i

theorem read_4 (Z : FVec Ideal S4x1x4096 .f32) (i : Fin 512) :
    (((cfgT (F := Ideal)).win 4).blk t).view.read (Elt Ideal) Z (ix3 0 0 i) = Z (ix3 (hh t) 0 (Model.row (kk t) i)) := by
  refine Eq.trans ?_ (congrArg Z (emb_4 t i))
  rfl

theorem b4_at (A : Args m c X) (i : Fin 512) :
    b4 m c t (ix3 0 0 i) = ((X.g (hh t) (Model.row (kk t) i) : ℝ) : EReal) := by
  refine Eq.trans ?_ (v3_at A (hh t) (Model.row (kk t) i))
  unfold b4 iblk
  exact read_4 t (V m c main_v3) i

theorem read_5 (Z : FVec Ideal S4096x512 .bf16) (i : Fin 512) (d : Fin 128) :
    (((cfgT (F := Ideal)).win 5).blk t).view.read (Elt Ideal) Z (ix2 i d) = Z (ix2 (Model.row (qq t) i) (Model.col (hh t) d)) := by
  refine Eq.trans ?_ (congrArg Z (emb_5 t i d))
  rfl

theorem b5_at (A : Args m c X) (i : Fin 512) (d : Fin 128) :
    b5 m c t (ix2 i d) = ((Model.o X (hh t) (Model.row (qq t) i) d : ℝ) : EReal) := by
  refine Eq.trans ?_ (v40_at A (hh t) (Model.row (qq t) i) d)
  unfold b5 iblk
  exact read_5 t (V m c main_v40) i d

theorem read_6 (Z : FVec Ideal S4096x512 .bf16) (i : Fin 512) (d : Fin 128) :
    (((cfgT (F := Ideal)).win 6).blk t).view.read (Elt Ideal) Z (ix2 i d) = Z (ix2 (Model.row (qq t) i) (Model.col (hh t) d)) := by
  refine Eq.trans ?_ (congrArg Z (emb_6 t i d))
  rfl

theorem b6_at (A : Args m c X) (i : Fin 512) (d : Fin 128) :
    b6 m c t (ix2 i d) = ((X.w (Model.row (qq t) i) (Model.col (hh t) d) : ℝ) : EReal) := by
  refine Eq.trans ?_ (v41_at A (Model.row (qq t) i) (Model.col (hh t) d))
  unfold b6 iblk
  exact read_6 t (V m c main_v41) i d

theorem read_7 (Z : FVec Ideal S4x4096x1 .f32) (i : Fin 512) :
    (((cfgT (F := Ideal)).win 7).blk t).view.read (Elt Ideal) Z (ix3 0 i 0) = Z (ix3 (hh t) (Model.row (qq t) i) 0) := by
  refine Eq.trans ?_ (congrArg Z (emb_7 t i))
  rfl

theorem b7_at (A : Args m c X) (i : Fin 512) :
    b7 m c t (ix3 0 i 0) = ((Model.lse X (hh t) (Model.row (qq t) i) : ℝ) : EReal) := by
  refine Eq.trans ?_ (v70_at A (hh t) (Model.row (qq t) i))
  unfold b7 iblk
  exact read_7 t (V m c main_v70) i

theorem read_8 (Z : FVec Ideal S4096x512 .bf16) (i : Fin 512) (d : Fin 128) :
    (((cfgT (F := Ideal)).win 8).blk t).view.read (Elt Ideal) Z (ix2 i d) = Z (ix2 (Model.row (qq t) i) (Model.col (hh t) d)) := by
  refine Eq.trans ?_ (congrArg Z (emb_8 t i d))
  rfl

theorem read_9 (Z : FVec Ideal S4x4096x1 .f32) (i : Fin 512) :
    (((cfgT (F := Ideal)).win 9).blk t).view.read (Elt Ideal) Z (ix3 0 i 0) = Z (ix3 (hh t) (Model.row (qq t) i) 0) := by
  refine Eq.trans ?_ (congrArg Z (emb_9 t i))
  rfl

end Cert.FoxQ
end
-- ==== Proof.FoxQ.Pay.lean ====
/-
  What the call's vector operations give, read at an index over the extended reals.
-/
module

public import proofs.«01_k».proof.Proof.Gen.KernelIdeal
public import proofs.«01_k».proof.Proof.Gen.KernelIdeal.Skeleton
public import Idealize.ShloMosaic.Lib.Pointwise
public import Idealize.ShloMosaic.Lib.WordCmp

@[expose] public section

set_option maxRecDepth 16384

noncomputable section

namespace Cert.FoxQ

open Cert.KernelIdeal Cert.KernelIdeal.Gen
open Idealize.ShloMosaic

theorem pay1_at (i : Fin 512) (d : Fin 128) : k0_pay1 (F := Ideal) (ix2 i d) = 0 := by
  pointwise [k0_pay1]
theorem pay2_at (i : Fin 512) : k0_pay2 (F := Ideal) (ix2 i 0) = 0 := by
  pointwise [k0_pay2]
theorem pay3_at (x y : Vec Ideal S512x128 .bf16) (i : Fin 512) :
    k0_pay3 (F := Ideal) x y (ix2 i 0) = ∑ d : Fin 128, x (ix2 i d) * y (ix2 i d) := by
  pointwise [k0_pay3]
theorem pay4_at (x : Vec Ideal S512x1 .f32) (i : Fin 512) : k0_pay4 (F := Ideal) x (ix2 i 0) = x (ix2 i 0) := by
  pointwise [k0_pay4]
theorem pay5_at (k : Vec Ideal S512x128 .bf16) (p : Vec Ideal S512x512 .bf16) (a : Vec Ideal S512x128 .f32) (i : Fin 512) (d : Fin 128) :
    k0_pay5 (F := Ideal) k p a (ix2 i d) = a (ix2 i d) + ∑ j : Fin 512, p (ix2 i j) * k (ix2 j d) := by
  pointwise [k0_pay5]
theorem pay6_at (v : Vec Ideal S512x128 .bf16) (p : Vec Ideal S512x512 .f32) (w : Vec Ideal S512x128 .bf16) (dl : Vec Ideal S512x1 .f32) (i j : Fin 512) :
    k0_pay6 (F := Ideal) v p w dl (ix2 i j) = p (ix2 i j) * ((∑ d : Fin 128, w (ix2 i d) * v (ix2 j d)) - dl (ix2 i 0)) := by
  pointwise [k0_pay6]
theorem pay7_at (v : Vec Ideal S512x128 .bf16) (p : Vec Ideal S512x512 .f32) (w : Vec Ideal S512x128 .bf16) (dl r : Vec Ideal S512x1 .f32) (i : Fin 512) :
    k0_pay7 (F := Ideal) v p w dl r (ix2 i 0) = r (ix2 i 0) + ∑ j : Fin 512, k0_pay6 (F := Ideal) v p w dl (ix2 i j) := by
  pointwise [k0_pay7]
theorem pay8_at (k v : Vec Ideal S512x128 .bf16) (p : Vec Ideal S512x512 .f32) (w : Vec Ideal S512x128 .bf16) (dl : Vec Ideal S512x1 .f32) (a : Vec Ideal S512x128 .f32) (i : Fin 512) (d : Fin 128) :
    k0_pay8 (F := Ideal) k v p w dl a (ix2 i d) = a (ix2 i d) + ∑ j : Fin 512, k0_pay6 (F := Ideal) v p w dl (ix2 i j) * k (ix2 j d) := by
  pointwise [k0_pay8]
theorem pay9_at (a : Vec Ideal S512x128 .f32) (i : Fin 512) (d : Fin 128) :
    k0_pay9 (F := Ideal) a (ix2 i d) = a (ix2 i d) * Ideal.ofBits .f32 0x3DB504F3#32 := by
  pointwise [k0_pay9]
theorem pay10_at (r : Vec Ideal S512x1 .f32) (i : Fin 512) : k0_pay10 (F := Ideal) r (ix3 0 i 0) = r (ix2 i 0) := by
  pointwise [k0_pay10]
theorem pay11_at (k : Vec Ideal S512x128 .bf16) (i : Fin 512) (d : Fin 128) : k0_pay11 (F := Ideal) k (ix2 i d) = k (ix2 i d) := by
  pointwise [k0_pay11]
theorem pay15_at (k : Vec Ideal S512x128 .bf16) (i : Fin 512) (d : Fin 128) : k0_pay15 (F := Ideal) k (ix2 i d) = k (ix2 i d) := by
  pointwise [k0_pay15]
theorem pay16_at (k : Vec Ideal S512x128 .bf16) (i : Fin 512) (d : Fin 128) : k0_pay16 (F := Ideal) k (ix2 i d) = k (ix2 i d) := by
  pointwise [k0_pay16]
theorem pay12_at (q k v : Vec Ideal S512x128 .bf16) (gc : Vec Ideal S1x512x1 .f32) (gr : Vec Ideal S1x1x512 .f32) (ls : Vec Ideal S1x512x1 .f32)
    (w : Vec Ideal S512x128 .bf16) (dl : Vec Ideal S512x1 .f32) (i j : Fin 512) :
    k0_pay12 (F := Ideal) q k v gc gr ls w dl (ix2 i j)
      = Ideal.exp ((∑ d : Fin 128, q (ix2 i d) * k (ix2 j d)) * Ideal.ofBits .f32 0x3DB504F3#32 + (gc (ix3 0 i 0) - gr (ix3 0 0 j)) - ls (ix3 0 i 0))
        * ((∑ d : Fin 128, w (ix2 i d) * v (ix2 j d)) - dl (ix2 i 0)) := by
  pointwise [k0_pay12, k0_pay11]
theorem pay13_at (q k v : Vec Ideal S512x128 .bf16) (gc : Vec Ideal S1x512x1 .f32) (gr : Vec Ideal S1x1x512 .f32) (ls : Vec Ideal S1x512x1 .f32)
    (w : Vec Ideal S512x128 .bf16) (dl : Vec Ideal S512x1 .f32) (i j : Fin 512) :
    k0_pay13 (F := Ideal) q k v gc gr ls w dl (ix2 i j) = k0_pay12 (F := Ideal) q k v gc gr ls w dl (ix2 i j) := by
  pointwise [k0_pay13]
theorem pay14_at (q k v : Vec Ideal S512x128 .bf16) (gc : Vec Ideal S1x512x1 .f32) (gr : Vec Ideal S1x1x512 .f32) (ls : Vec Ideal S1x512x1 .f32)
    (w : Vec Ideal S512x128 .bf16) (dl r : Vec Ideal S512x1 .f32) (i : Fin 512) :
    k0_pay14 (F := Ideal) q k v gc gr ls w dl r (ix2 i 0) = r (ix2 i 0) + ∑ j : Fin 512, k0_pay12 (F := Ideal) q k v gc gr ls w dl (ix2 i j) := by
  pointwise [k0_pay14]
/-- The mask's weight inside a diagonal block, as a comparison of words. -/
theorem mask_word (x : BitVec 32) (i j : Fin 512) :
    IntOp.cmpi CmpIPredicate.sge (IntOp.addi (IntOp.subi (BitVec.ofNat 32 i.val) (BitVec.ofNat 32 j.val)) (Scalar.muli (Scalar.subi x x) 512#32)) 0#32
      = if j ≤ i then 1#1 else 0#1 := by
  have e : IntOp.addi (IntOp.subi (BitVec.ofNat 32 i.val) (BitVec.ofNat 32 j.val)) (Scalar.muli (Scalar.subi x x) 512#32)
      = BitVec.ofNat 32 i.val - BitVec.ofNat 32 j.val := by
    show (BitVec.ofNat 32 i.val - BitVec.ofNat 32 j.val) + ((x - x) * 512#32) = _
    simp
  rw [e]
  show BitVec.ofBool (decide ((0#32).toInt ≤ (BitVec.ofNat 32 i.val - BitVec.ofNat 32 j.val).toInt)) = _
  have hi := i.isLt
  have hj := j.isLt
  have e2 : (0#32).toInt ≤ (BitVec.ofNat 32 i.val - BitVec.ofNat 32 j.val).toInt ↔ j ≤ i := by
    have h0 : (0#32).toInt = 0 := rfl
    have hI : (BitVec.ofNat 32 i.val).toInt = (i.val : Int) := WordCmp.toInt_ofNat_of_lt (by omega)
    have hJ : (BitVec.ofNat 32 j.val).toInt = (j.val : Int) := WordCmp.toInt_ofNat_of_lt (by omega)
    rw [BitVec.toInt_sub, h0, hI, hJ, Fin.le_def]
    simp only [Int.bmod]
    omega
  by_cases h : j ≤ i
  · rw [if_pos h, decide_eq_true (e2.mpr h)]; rfl
  · rw [if_neg h, decide_eq_false (fun h' => h (e2.mp h'))]; rfl

/-- On the diagonal block the weights are the exponentials below the diagonal and zero above. -/
theorem pay17_at (x : BitVec 32) (q k : Vec Ideal S512x128 .bf16) (gc : Vec Ideal S1x512x1 .f32) (gr : Vec Ideal S1x1x512 .f32) (ls : Vec Ideal S1x512x1 .f32) (i j : Fin 512) :
    k0_pay17 (F := Ideal) x x q k gc gr ls (ix2 i j)
      = if j ≤ i then Ideal.exp ((∑ d : Fin 128, q (ix2 i d) * k (ix2 j d)) * Ideal.ofBits .f32 0x3DB504F3#32 + (gc (ix3 0 i 0) - gr (ix3 0 0 j)) - ls (ix3 0 i 0))
        else 0 * Ideal.exp (Ideal.ofBits .f32 0xF149F2CA#32 - ls (ix3 0 i 0)) := by
  pointwise [k0_pay17, k0_pay15]
  simp only [mask_word]
  by_cases h : j ≤ i
  · have e1 : FloatOps.sitofp (F := Ideal) FTy.f32 (BitVec.setWidth 32 (if j ≤ i then 1#1 else 0#1)) = (1 : EReal) := by
      rw [if_pos h]
      show ((((BitVec.setWidth 32 1#1).toInt : ℤ) : ℝ) : EReal) = 1
      have : (BitVec.setWidth 32 1#1).toInt = 1 := by decide
      rw [this]; simp
    rw [e1, if_pos h, if_pos (by norm_num), one_mul]
  · have e1 : FloatOps.sitofp (F := Ideal) FTy.f32 (BitVec.setWidth 32 (if j ≤ i then 1#1 else 0#1)) = (0 : EReal) := by
      rw [if_neg h]
      show ((((BitVec.setWidth 32 0#1).toInt : ℤ) : ℝ) : EReal) = 0
      have : (BitVec.setWidth 32 0#1).toInt = 0 := by decide
      rw [this]; simp
    rw [e1, if_neg h, if_neg (by simp)]

end Cert.FoxQ
end
-- ==== Proof.FoxQ.Value.lean ====
/-
  What the call leaves in its two results, as numbers: by induction on the grid point, what the three scratch buffers hold
  after it; then the write-backs, which tile both arrays.
-/
module

public import proofs.«01_k».proof.Proof.FoxQ.Blocks
public import proofs.«01_k».proof.Proof.FoxQ.Pay

@[expose] public section

set_option maxRecDepth 16384

noncomputable section

namespace Cert.FoxQ

open Cert.KernelIdeal Cert.KernelIdeal.Gen
open Idealize.ShloMosaic Idealize.ShloMosaic.TcCoe Idealize.ShloMosaic.Tactic

namespace Model

variable (X : Inp)

/-- The gradient's accumulator over the first `n` key blocks. -/
def part (h : Fin 4) (i : Fin 4096) (d : Fin 128) (n : ℕ) : ℝ :=
  upTo n fun b => ∑ j, ds X h i (row b j) * X.k (row b j) (col h d)
/-- The accumulated row sums over the first `n` key blocks. -/
def prow (h : Fin 4) (i : Fin 4096) (n : ℕ) : ℝ := upTo n fun b => ∑ j, ds X h i (row b j)

/-- The query gradient. -/
def dq (h : Fin 4) (i : Fin 4096) (d : Fin 128) : ℝ := (∑ j, ds X h i j * X.k j (col h d)) * X.C
/-- The row sums of the scores' gradient. -/
def rs (h : Fin 4) (i : Fin 4096) : ℝ := ∑ j, ds X h i j

theorem part_succ (h : Fin 4) (i : Fin 4096) (d : Fin 128) (n : Fin 8) :
    ((part X h i d n.val : ℝ) : EReal) + ∑ j, ((ds X h i (row n j) : ℝ) : EReal) * ((X.k (row n j) (col h d) : ℝ) : EReal)
      = ((part X h i d (n.val + 1) : ℝ) : EReal) := by
  simp only [← EReal.coe_mul, coe_sum, ← EReal.coe_add]
  unfold part
  rw [upTo_succ]

theorem prow_succ (h : Fin 4) (i : Fin 4096) (n : Fin 8) :
    ((prow X h i n.val : ℝ) : EReal) + ∑ j, ((ds X h i (row n j) : ℝ) : EReal) = ((prow X h i (n.val + 1) : ℝ) : EReal) := by
  simp only [coe_sum, ← EReal.coe_add]
  unfold prow
  rw [upTo_succ]

theorem ds_above (h : Fin 4) (i j : Fin 4096) (hj : ¬ j ≤ i) : ds X h i j = 0 := by unfold ds; rw [if_neg hj]

theorem part_all (h : Fin 4) (b : Fin 8) (i : Fin 512) (d : Fin 128) :
    part X h (row b i) d (b.val + 1) = ∑ j, ds X h (row b i) j * X.k j (col h d) :=
  upTo_all h b i (fun j => ds X h (row b i) j * X.k j (col h d)) fun j hj => by
    show ds X h (row b i) j * _ = 0
    rw [ds_above X h _ _ hj, zero_mul]

theorem prow_all (h : Fin 4) (b : Fin 8) (i : Fin 512) : prow X h (row b i) (b.val + 1) = rs X h (row b i) :=
  upTo_all h b i (fun j => ds X h (row b i) j) fun j hj => ds_above X h _ _ hj

end Model

variable {m : (ℓ : Loc nD τ sig) → Buf (Elt Ideal) ℓ} {c : Dev nD} {X : Model.Inp} (t : Fin (cfgT (F := Ideal)).N)

/-- What the scratch buffers hold over the first `n` key blocks of point `t`'s query block. -/
structure Holds (X : Model.Inp) (t : Fin (cfgT (F := Ideal)).N) (n : ℕ) (s : Scr Ideal) : Prop where
  acc : ∀ i d, s.acc (ix2 i d) = ((Model.part X (hh t) (Model.row (qq t) i) d n : ℝ) : EReal)
  del : ∀ i, s.del (ix2 i 0) = ((Model.dl X (hh t) (Model.row (qq t) i) : ℝ) : EReal)
  row : ∀ i, s.row (ix2 i 0) = ((Model.prow X (hh t) (Model.row (qq t) i) n : ℝ) : EReal)

/-- The scores' gradient of a block below the diagonal. -/
theorem below_at (A : Args m c X) (dl : Vec Ideal S512x1 .f32) (hd : ∀ i, dl (ix2 i 0) = ((Model.dl X (hh t) (Model.row (qq t) i) : ℝ) : EReal))
    (hlt : kN (tp t) < qN (tp t)) (i j : Fin 512) :
    k0_pay12 (F := Ideal) (b0 m c t) (b1 m c t) (b2 m c t) (b3 m c t) (b4 m c t) (b7 m c t) (b6 m c t) dl (ix2 i j)
      = ((Model.ds X (hh t) (Model.row (qq t) i) (Model.row (kk t) j) : ℝ) : EReal) := by
  have hle : Model.row (kk t) j ≤ Model.row (qq t) i := by
    show kN (tp t) * 512 + j.val ≤ qN (tp t) * 512 + i.val
    omega
  rw [pay12_at]
  simp only [b0_at t A, b1_at t A, b2_at t A, b3_at t A, b4_at t A, b6_at t A, b7_at t A, hd, A.C, Model.s_coe, Model.dp_coe]
  simp only [← EReal.coe_sub, Model.exp_coe, ← EReal.coe_mul]
  unfold Model.ds
  rw [if_pos hle]

/-- The scores' gradient of the diagonal block. -/
theorem diag_at (A : Args m c X) (dl : Vec Ideal S512x1 .f32) (hd : ∀ i, dl (ix2 i 0) = ((Model.dl X (hh t) (Model.row (qq t) i) : ℝ) : EReal))
    (heq : kN (tp t) = qN (tp t)) (i j : Fin 512) :
    k0_pay6 (F := Ideal) (k0_pay16 (b2 m c t)) (k0_pay17 (rd1 (F := Ideal) (grid0.coords t)) (rd2 (F := Ideal) (grid0.coords t)) (b0 m c t) (b1 m c t) (b3 m c t) (b4 m c t) (b7 m c t)) (b6 m c t) dl (ix2 i j)
      = ((Model.ds X (hh t) (Model.row (qq t) i) (Model.row (kk t) j) : ℝ) : EReal) := by
  have hw : rd2 (F := Ideal) (grid0.coords t) = rd1 (F := Ideal) (grid0.coords t) := by
    rw [rd1_eq, rd2_eq, pc_coords]; exact (last_iff (tp t)).mpr heq
  have hiff : Model.row (kk t) j ≤ Model.row (qq t) i ↔ j ≤ i := by
    show kN (tp t) * 512 + j.val ≤ qN (tp t) * 512 + i.val ↔ j.val ≤ i.val
    omega
  rw [hw, pay6_at, pay17_at]
  simp only [pay16_at, b0_at t A, b1_at t A, b2_at t A, b3_at t A, b4_at t A, b6_at t A, b7_at t A, hd, A.C, Model.s_coe, Model.dp_coe]
  simp only [← EReal.coe_sub, Model.exp_coe]
  unfold Model.ds
  by_cases h : j ≤ i
  · rw [if_pos h, if_pos (hiff.mpr h), ← EReal.coe_mul]
  · rw [if_neg h, if_neg (hiff.not.mpr h), zero_mul, zero_mul]; rfl

/-- One point adds its key block. -/
theorem upd_holds (A : Args m c X) (s : Scr Ideal) (hs : Holds X t (kN (tp t)) s) : Holds X t (kN (tp t) + 1) (upd m c t s) := by
  rcases Nat.lt_or_eq_of_le (kN_le (tp t)) with h | h
  · rw [upd_below m c t s (by unfold lastB; exact decide_eq_false (by omega))]
    refine ⟨fun i d => ?_, hs.del, fun i => ?_⟩
    · show k0_pay5 (F := Ideal) _ _ s.acc (ix2 i d) = _
      rw [pay5_at]
      simp only [pay13_at, pay11_at, below_at t A s.del hs.del h, b1_at t A, hs.acc]
      exact Model.part_succ X (hh t) _ d (kk t)
    · dsimp only
      rw [pay4_at, pay14_at]
      simp only [below_at t A s.del hs.del h, hs.row]
      exact Model.prow_succ X (hh t) _ (kk t)
  · rw [upd_diag m c t s (by unfold lastB; exact decide_eq_true h)]
    refine ⟨fun i d => ?_, hs.del, fun i => ?_⟩
    · show k0_pay8 (F := Ideal) _ _ _ _ s.del s.acc (ix2 i d) = _
      rw [pay8_at]
      simp only [pay15_at, diag_at t A s.del hs.del h, b1_at t A, hs.acc]
      exact Model.part_succ X (hh t) _ d (kk t)
    · show k0_pay7 (F := Ideal) _ _ _ s.del s.row (ix2 i 0) = _
      rw [pay7_at]
      simp only [diag_at t A s.del hs.del h, hs.row]
      exact Model.prow_succ X (hh t) _ (kk t)

/-- A query block's first point starts from nothing. -/
theorem first_holds (A : Args m c X) (s : Scr Ideal) (hk : kN (tp t) = 0) : Holds X t 0 (ini m c t s) := by
  rw [ini_first m c t s (by unfold fstB; exact decide_eq_true hk)]
  refine ⟨fun i d => ?_, fun i => ?_, fun i => ?_⟩
  · refine (pay1_at i d).trans ?_
    unfold Model.part
    rw [Model.upTo_zero]; rfl
  · refine (pay3_at _ _ i).trans ?_
    simp only [b5_at t A, b6_at t A, ← EReal.coe_mul, Model.coe_sum]
    rfl
  · refine (pay2_at i).trans ?_
    unfold Model.prow
    rw [Model.upTo_zero]; rfl

/-- After point `t` the scratch buffers hold the sums up to its key block. -/
theorem scr_holds (A : Args m c X) : ∀ (n : ℕ) (hn : n < (cfgT (F := Ideal)).N), Holds X ⟨n, hn⟩ (kN (tp (F := Ideal) ⟨n, hn⟩) + 1) (scr m c (n + 1)) := by
  intro n
  induction n with
  | zero =>
    intro hn
    rw [scr_succ m c ⟨0, hn⟩]
    refine upd_holds _ A _ ?_
    have hk : kN (tp (F := Ideal) ⟨0, hn⟩) = 0 := by rfl
    rw [hk]
    exact first_holds _ A _ hk
  | succ n ih =>
    intro hn
    have hn' : n < (cfgT (F := Ideal)).N := Nat.lt_of_succ_lt hn
    rw [scr_succ m c ⟨n + 1, hn⟩]
    refine upd_holds _ A _ ?_
    by_cases hk : kN (tp (F := Ideal) ⟨n + 1, hn⟩) = 0
    · rw [hk]
      exact first_holds _ A _ hk
    · rw [ini_later m c ⟨n + 1, hn⟩ _ (by unfold fstB; exact decide_eq_false hk)]
      have hne : kN (tp (F := Ideal) ⟨n, hn'⟩) ≠ qN (tp (F := Ideal) ⟨n, hn'⟩) := fun he =>
        hk (step_next (tp (F := Ideal) ⟨n, hn'⟩) he (lt_T (F := Ideal) ⟨n + 1, hn⟩)).1
      obtain ⟨_, e1, e2, e3⟩ := step_same (tp (F := Ideal) ⟨n, hn'⟩) hne
      have g1 : hh ⟨n + 1, hn⟩ = hh ⟨n, hn'⟩ := Fin.ext e1
      have g2 : qq ⟨n + 1, hn⟩ = qq ⟨n, hn'⟩ := Fin.ext e2
      have g3 : kN (tp (F := Ideal) ⟨n + 1, hn⟩) = kN (tp (F := Ideal) ⟨n, hn'⟩) + 1 := e3
      have H := ih hn'
      rw [g3]
      refine ⟨fun i d => ?_, fun i => ?_, fun i => ?_⟩
      · rw [g1, g2]; exact H.acc i d
      · rw [g1, g2]; exact H.del i
      · rw [g1, g2]; exact H.row i

/-! ## The two results -/

/-- The query gradient as an array. -/
def G8 (X : Model.Inp) : FVec Ideal S4096x512 .bf16 := fun x =>
  ((Model.dq X ⟨(x 1).val / 128, by have : (x 1).val < 512 := (x 1).isLt; omega⟩ (x 0) ⟨(x 1).val % 128, by omega⟩ : ℝ) : EReal)
/-- The row sums as an array. -/
def G9 (X : Model.Inp) : FVec Ideal S4x4096x1 .f32 := fun x => ((Model.rs X (x 0) (x 1) : ℝ) : EReal)

theorem G8_col (h : Fin 4) (i : Fin 4096) (d : Fin 128) : G8 X (ix2 i (Model.col h d)) = ((Model.dq X h i d : ℝ) : EReal) := by
  have e1 : (⟨(Model.col h d).val / 128, by omega⟩ : Fin 4) = h := Fin.ext (Model.col_div h d)
  have e2 : (⟨(Model.col h d).val % 128, by omega⟩ : Fin 128) = d := Fin.ext (Model.col_mod h d)
  show ((Model.dq X ⟨(Model.col h d).val / 128, _⟩ i ⟨(Model.col h d).val % 128, _⟩ : ℝ) : EReal) = _
  rw [e1, e2]

theorem last_eq (hf : lastB t = true) : kN (tp t) = (qq t).val := of_decide_eq_true hf

theorem flushed_8 (A : Args m c X) (hf : ((cfgT (F := Ideal)).win 8).flush t = true) :
    (dat m c).flushed 8 t = (((cfgT (F := Ideal)).win 8).blk t).view.read (Elt Ideal) (G8 X) := by
  rw [flush_8] at hf
  have H := scr_holds (m := m) (c := c) A t.val t.isLt
  have hk := last_eq t hf
  refine funext fun (y : S512x128.Idx) => ?_
  obtain ⟨i, d, rfl⟩ : ∃ i d, y = ix2 i d := ⟨y 0, y 1, funext fun a => by match a with | ⟨0, _⟩ => rfl | ⟨1, _⟩ => rfl⟩
  refine Eq.trans ?_ (read_8 t (G8 X) i d).symm
  show k0_pay9 (F := Ideal) (scr m c (t.val + 1)).acc (ix2 i d) = _
  rw [pay9_at, H.acc, G8_col, A.C, ← EReal.coe_mul]
  show ((Model.part X (hh t) (Model.row (qq t) i) d (kN (tp t) + 1) * X.C : ℝ) : EReal) = _
  rw [hk, Model.part_all]
  rfl

theorem flushed_9 (A : Args m c X) (hf : ((cfgT (F := Ideal)).win 9).flush t = true) :
    (dat m c).flushed 9 t = (((cfgT (F := Ideal)).win 9).blk t).view.read (Elt Ideal) (G9 X) := by
  rw [flush_9] at hf
  have H := scr_holds (m := m) (c := c) A t.val t.isLt
  have hk := last_eq t hf
  refine funext fun (y : S1x512x1.Idx) => ?_
  obtain ⟨i, rfl⟩ : ∃ i, y = ix3 0 i 0 := ⟨y 1, funext fun a => by
    match a with
    | ⟨0, _⟩ => exact Fin.ext (fin1 _)
    | ⟨1, _⟩ => rfl
    | ⟨2, _⟩ => exact Fin.ext (fin1 _)⟩
  refine Eq.trans ?_ (read_9 t (G9 X) i).symm
  show k0_pay10 (F := Ideal) (scr m c (t.val + 1)).row (ix3 0 i 0) = _
  rw [pay10_at, H.row]
  show ((Model.prow X (hh t) (Model.row (qq t) i) (kN (tp t) + 1) : ℝ) : EReal) = _
  rw [hk, Model.prow_all]
  rfl

/-- The point that writes head `h`, query block `q` back. -/
theorem point (h : Fin 4) (q : Fin 8) : ∃ t : Fin (cfgT (F := Ideal)).N, lastB t = true ∧ hh t = h ∧ qq t = q := by
  obtain ⟨e1, e2, e3⟩ := pt_spec h q q le_rfl
  refine ⟨⟨ptN h q q, (pt_lt h q q le_rfl).trans_eq (N_T (F := Ideal)).symm⟩, ?_, Fin.ext e1, Fin.ext e2⟩
  exact decide_eq_true (e3.trans e2.symm)

theorem cover_8 (x : S4096x512.Idx) :
    ∃ t : Fin (cfgT (F := Ideal)).N, ((cfgT (F := Ideal)).win 8).flush t = true ∧ x ∈ (((cfgT (F := Ideal)).win 8).blk t).view.set := by
  have h0 : (x 0).val < 4096 := (x 0).isLt
  have h1 : (x 1).val < 512 := (x 1).isLt
  obtain ⟨t, hl, eh, eq⟩ := point ⟨(x 1).val / 128, by omega⟩ ⟨(x 0).val / 512, by omega⟩
  refine ⟨t, (flush_8 t).trans hl, ?_⟩
  refine Finset.mem_map.mpr ⟨ix2 ⟨(x 0).val % 512, by omega⟩ ⟨(x 1).val % 128, by omega⟩, Finset.mem_univ _, ?_⟩
  refine (emb_8 t _ _).trans ?_
  rw [eh, eq]
  refine funext fun a => ?_
  match a with
  | ⟨0, _⟩ => exact Fin.ext (by show (x 0).val / 512 * 512 + (x 0).val % 512 = (x 0).val; omega)
  | ⟨1, _⟩ => exact Fin.ext (by show (x 1).val / 128 * 128 + (x 1).val % 128 = (x 1).val; omega)

theorem cover_9 (x : S4x4096x1.Idx) :
    ∃ t : Fin (cfgT (F := Ideal)).N, ((cfgT (F := Ideal)).win 9).flush t = true ∧ x ∈ (((cfgT (F := Ideal)).win 9).blk t).view.set := by
  have h1 : (x 1).val < 4096 := (x 1).isLt
  obtain ⟨t, hl, eh, eq⟩ := point (x 0) ⟨(x 1).val / 512, by omega⟩
  refine ⟨t, (flush_9 t).trans hl, ?_⟩
  refine Finset.mem_map.mpr ⟨ix3 0 ⟨(x 1).val % 512, by omega⟩ 0, Finset.mem_univ _, ?_⟩
  refine (emb_9 t _).trans ?_
  rw [eh, eq]
  refine funext fun a => ?_
  match a with
  | ⟨0, _⟩ => rfl
  | ⟨1, _⟩ => exact Fin.ext (by show (x 1).val / 512 * 512 + (x 1).val % 512 = (x 1).val; omega)
  | ⟨2, _⟩ => exact (Fin.ext (fin1 _)).symm

/-- The query gradient's array after the run. -/
theorem final_8 (A : Args m c X) : (dat m c).arrAt 8 (cfgT (F := Ideal)).N = G8 X :=
  (dat m c).arrAt_eq_of_cover 8 (G8 X) (fun t hf => flushed_8 t A hf) cover_8
/-- The row sums' array after the run. -/
theorem final_9 (A : Args m c X) : (dat m c).arrAt 9 (cfgT (F := Ideal)).N = G9 X :=
  (dat m c).arrAt_eq_of_cover 9 (G9 X) (fun t hf => flushed_9 t A hf) cover_9

end Cert.FoxQ
end
-- ==== Proof.FoxQ.RefValue.lean ====
/-
  The reference's two results, in the real numbers of the model.
-/
module

public import proofs.«01_k».proof.Proof.FoxQ.HostK
public import proofs.«01_k».proof.Proof.FoxQ.Value
public import proofs.«01_k».proof.Proof.Gen.ReferenceIdeal.Run

@[expose] public section

set_option maxRecDepth 16384

noncomputable section

namespace Cert.FoxQ.Ref

open Cert.ReferenceIdeal Cert.ReferenceIdeal.Gen Cert.FoxQ
open Idealize.ShloMosaic Idealize.ShloMosaic.TcCoe Idealize.ShloMosaic.Tactic
open Idealize.SL Idealize.SL.Sem

/-! ## The reference's lines, in stages -/

/-- The products of two heads' rows. -/
def rdp (x y : FVec Ideal S4x4096x128 .f32) : FVec Ideal S4x4096x4096 .f32 :=
  Host.dotGeneral dot_S4x4096x128_S4x4096x128_S4x4096x4096_2_2_1_1_0_0 none x y

/-- A row's correction. -/
def rrow (p e : FVec Ideal S4x4096x4096 .f32) (l : FVec Ideal S4x4096x1 .f32) : FVec Ideal S4x4096x1 .f32 :=
  Host.negf (shapeCast S4x4096x1
    (Host.reduceAdd
      (mulf (mulf p (broadcastInDim S4x4096x4096 ![0, 1, 2] bcast_S4x4096x1_S4x4096x4096_0_1_2
        (Host.divf (broadcastInDim S4x4096x1 ![] bcast_S_S4x4096x1 (constant S_ FTy.f32 0x3F800000#32)) (mulf l l)))) e)
      (constant S_ FTy.f32 0x00000000#32) reducesTo_S4x4096x4096_S4x4096_d2 h_S_) shapeCasts_S4x4096_S4x4096x1)

/-- The scores' gradient before the mask. -/
def rpre (p e : FVec Ideal S4x4096x4096 .f32) (l r : FVec Ideal S4x4096x1 .f32) : FVec Ideal S4x4096x4096 .f32 :=
  mulf
    (addf (Host.divf p (broadcastInDim S4x4096x4096 ![0, 1, 2] bcast_S4x4096x1_S4x4096x4096_0_1_2 l))
      (broadcastInDim S4x4096x4096 ![0, 1] bcast_S4x4096_S4x4096x4096_0_1
        (Host.reduceAdd r (constant S_ FTy.f32 0x00000000#32) reducesTo_S4x4096x1_S4x4096_d2 h_S_))) e

/-- The scores' gradient. -/
def rds (k : IVec S4096x4096 1) (x : FVec Ideal S4x4096x4096 .f32) : FVec Ideal S4x4096x4096 .f32 :=
  select (broadcastInDim S4x4096x4096 ![1, 2] bcast_S4096x4096_S4x4096x4096_1_2 k) x
    (broadcastInDim S4x4096x4096 ![] bcast_S_S4x4096x4096 (constant S_ FTy.f32 0x00000000#32))

/-- The query gradient, heads side by side. -/
def rdq (d : FVec Ideal S4x4096x4096 .f32) (y : FVec Ideal S4x4096x128 .f32) : FVec Ideal S4096x512 .bf16 :=
  truncf .bf16
    (shapeCast S4096x512
      (transpose S4096x4x128 [1, 0, 2]
        (Host.dotGeneral dot_S4x4096x4096_S4x4096x128_S4x4096x128_2_1_1_2_0_0 none
          (mulf d (broadcastInDim S4x4096x4096 ![] bcast_S_S4x4096x4096 (constant S_ FTy.f32 0x3DB504F3#32))) y)
        transposes_S4x4096x128_S4096x4x128_1_0_2) shapeCasts_S4096x4x128_S4096x512) bitsLt_bf16_f32

/-- The row sums. -/
def rrs (d : FVec Ideal S4x4096x4096 .f32) : FVec Ideal S4x4096x1 .f32 :=
  broadcastInDim S4x4096x1 ![0, 1] bcast_S4x4096_S4x4096x1_0_1
    (Host.reduceAdd
      (shapeCast S4x4096x1
        (Host.reduceAdd d (constant S_ FTy.f32 0x00000000#32) reducesTo_S4x4096x4096_S4x4096_d2 h_S_) shapeCasts_S4x4096_S4x4096x1)
      (constant S_ FTy.f32 0x00000000#32) reducesTo_S4x4096x1_S4x4096_d2 h_S_)

theorem rdp_at (x y : FVec Ideal S4x4096x128 .f32) (h : Fin 4) (i j : Fin 4096) :
    rdp x y (ix3 h i j) = ∑ d, x (ix3 h i d) * y (ix3 h j d) := by
  pointwise [rdp]

theorem rrow_at (p e : FVec Ideal S4x4096x4096 .f32) (l : FVec Ideal S4x4096x1 .f32) (h : Fin 4) (i : Fin 4096) :
    rrow p e l (ix3 h i 0)
      = -(∑ t, p (ix3 h i t) * Ideal.div (Ideal.ofBits .f32 0x3F800000#32) (l (ix3 h i 0) * l (ix3 h i 0)) * e (ix3 h i t)) := by
  pointwise [rrow]

theorem rpre_at (p e : FVec Ideal S4x4096x4096 .f32) (l r : FVec Ideal S4x4096x1 .f32) (h : Fin 4) (i j : Fin 4096) :
    rpre p e l r (ix3 h i j) = (Ideal.div (p (ix3 h i j)) (l (ix3 h i 0)) + r (ix3 h i 0)) * e (ix3 h i j) := by
  pointwise [rpre]
  rw [Fin.sum_univ_one]

theorem rds_at (k : IVec S4096x4096 1) (x : FVec Ideal S4x4096x4096 .f32) (h : Fin 4) (i j : Fin 4096) :
    rds k x (ix3 h i j) = Scalar.select (k (ix2 i j)) (x (ix3 h i j)) (Ideal.ofBits .f32 0x00000000#32) := by
  pointwise [rds]

theorem rdq_at (x : FVec Ideal S4x4096x4096 .f32) (y : FVec Ideal S4x4096x128 .f32) (h : Fin 4) (i : Fin 4096) (d : Fin 128) :
    rdq x y (ix2 i (Model.col h d)) = ∑ j, x (ix3 h i j) * Ideal.ofBits .f32 0x3DB504F3#32 * y (ix3 h j d) := by
  pointwise [rdq]
  simp only [Model.col_div, Model.col_mod, Fin.eta]

theorem rrs_at (x : FVec Ideal S4x4096x4096 .f32) (h : Fin 4) (i : Fin 4096) : rrs x (ix3 h i 0) = ∑ j, x (ix3 h i j) := by
  pointwise [rrs]
  rw [Fin.sum_univ_one]

/-! ## The stages put together -/

variable (a0 a1 a2 : FVec Ideal S4096x512 .f32) (a3 : FVec Ideal S4x4096 .f32) (a4 : FVec Ideal S4096x512 .f32)

/-- The exponentials, of the arguments. -/
def re : FVec Ideal S4x4096x4096 .f32 :=
  hexp (hsel hmask (hraw (hheads a0) (hheads a1) a3)) (hmaxb (hmax (hsel hmask (hraw (hheads a0) (hheads a1) a3))))

/-- The scores' gradient, of the arguments. -/
def rd : FVec Ideal S4x4096x4096 .f32 :=
  rds hmask (rpre (rdp (hheads a4) (hheads a2)) (re a0 a1 a3) (hsum (re a0 a1 a3))
    (rrow (rdp (hheads a4) (hheads a2)) (re a0 a1 a3) (hsum (re a0 a1 a3))))

theorem out0_eq (m : (ℓ : Loc nD τ sig) → Buf (Elt Ideal) ℓ) (c : Dev nD) :
    (Value.res_main_v88 m c : FVec Ideal S4096x512 .bf16)
      = rdq (rd (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))) (hheads (m ((c.tc : Thread nD τ).loc main_arg1))) := by
  unfold Value.res_main_v88
  exact Eq.refl _

theorem out1_eq (m : (ℓ : Loc nD τ sig) → Buf (Elt Ideal) ℓ) (c : Dev nD) :
    (Value.res_main_v89 m c : FVec Ideal S4x4096x1 .f32)
      = rrs (rd (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))) := by
  unfold Value.res_main_v89
  exact Eq.refl _

/-! ## In the model's numbers -/

/-- The arrays' elements are the given real numbers. -/
structure RArgs (X : Model.Inp) : Prop where
  C : Ideal.ofBits .f32 0x3DB504F3#32 = ((X.C : ℝ) : EReal)
  q : ∀ i j, a0 (ix2 i j) = ((X.q i j : ℝ) : EReal)
  k : ∀ i j, a1 (ix2 i j) = ((X.k i j : ℝ) : EReal)
  v : ∀ i j, a2 (ix2 i j) = ((X.v i j : ℝ) : EReal)
  g : ∀ h i, a3 (ix2 h i) = ((X.g h i : ℝ) : EReal)
  w : ∀ i j, a4 (ix2 i j) = ((X.w i j : ℝ) : EReal)

variable {a0 a1 a2 a3 a4} {X : Model.Inp}

theorem rs_at (A : RArgs a0 a1 a2 a3 a4 X) (h : Fin 4) (i j : Fin 4096) :
    hsel hmask (hraw (hheads a0) (hheads a1) a3) (ix3 h i j) = Model.sm X h i j := by
  simp only [hsel_at, hmask_at, hraw_at, hheads_at, Model.sel_le, Model.ofBits_bot, A.q, A.k, A.g, A.C, Model.s_coe, Model.sm_fold]

theorem re_at (A : RArgs a0 a1 a2 a3 a4 X) (h : Fin 4) (i j : Fin 4096) : re a0 a1 a3 (ix3 h i j) = ((Model.e X h i j : ℝ) : EReal) := by
  unfold re
  simp only [hexp_at, hmaxb_at, hmax_at, rs_at A, Model.ofBits_bot, Model.max_fold, Model.max_bot, Model.e_coe]

theorem rl_at (A : RArgs a0 a1 a2 a3 a4 X) (h : Fin 4) (i : Fin 4096) : hsum (re a0 a1 a3) (ix3 h i 0) = ((Model.l X h i : ℝ) : EReal) := by
  simp only [hsum_at, re_at A, Model.l_coe]

theorem rp_at (A : RArgs a0 a1 a2 a3 a4 X) (h : Fin 4) (i j : Fin 4096) :
    rdp (hheads a4) (hheads a2) (ix3 h i j) = ((Model.dp X h i j : ℝ) : EReal) := by
  simp only [rdp_at, hheads_at, A.w, A.v, Model.dp_coe]

theorem one_bits : Ideal.ofBits .f32 0x3F800000#32 = ((1 : ℝ) : EReal) := by
  simp [Ideal.ofBits, Ideal.ieee]
  rw [← EReal.coe_mul, ← EReal.coe_one]
  exact congrArg _ (by norm_num)

theorem zero_bits : Ideal.ofBits .f32 0x00000000#32 = ((0 : ℝ) : EReal) := by
  simp [Ideal.ofBits, Ideal.ieee]

theorem rr_at (A : RArgs a0 a1 a2 a3 a4 X) (h : Fin 4) (i : Fin 4096) :
    rrow (rdp (hheads a4) (hheads a2)) (re a0 a1 a3) (hsum (re a0 a1 a3)) (ix3 h i 0)
      = ((-(∑ t, Model.dp X h i t * (1 / (Model.l X h i * Model.l X h i)) * Model.e X h i t) : ℝ) : EReal) := by
  rw [rrow_at]
  simp only [re_at A, rl_at A, rp_at A, one_bits]
  simp only [← EReal.coe_mul, Model.div_coe _ _ (Model.ll_ne X h i), Model.coe_sum, ← EReal.coe_neg]

theorem rd_at (A : RArgs a0 a1 a2 a3 a4 X) (h : Fin 4) (i j : Fin 4096) :
    rd a0 a1 a2 a3 a4 (ix3 h i j) = ((Model.ds X h i j : ℝ) : EReal) := by
  unfold rd
  rw [rds_at, hmask_at, Model.sel_le, rpre_at, rp_at A, rl_at A, rr_at A, re_at A, zero_bits, Model.div_coe _ _ (Model.l_ne X h i),
    ← EReal.coe_add, ← EReal.coe_mul, ← Model.dsR_eq]
  unfold Model.dsR
  split <;> rfl

theorem rdq_val (A : RArgs a0 a1 a2 a3 a4 X) : rdq (rd a0 a1 a2 a3 a4) (hheads a1) = G8 X := by
  refine funext fun x => ?_
  have h1 : (x 1).val < 512 := (x 1).isLt
  obtain ⟨i, h, d, rfl⟩ : ∃ (i : Fin 4096) (h : Fin 4) (d : Fin 128), x = ix2 i (Model.col h d) := by
    refine ⟨x 0, ⟨(x 1).val / 128, by omega⟩, ⟨(x 1).val % 128, by omega⟩, funext fun a => ?_⟩
    match a with
    | ⟨0, _⟩ => rfl
    | ⟨1, _⟩ => exact Fin.ext (by show (x 1).val = (x 1).val / 128 * 128 + (x 1).val % 128; omega)
  rw [rdq_at, G8_col]
  simp only [rd_at A, hheads_at, A.k, A.C]
  simp only [← EReal.coe_mul, Model.coe_sum]
  unfold Model.dq
  rw [Finset.sum_mul]
  refine congrArg _ (Finset.sum_congr rfl fun j _ => ?_)
  ring

theorem rrs_val (A : RArgs a0 a1 a2 a3 a4 X) : rrs (rd a0 a1 a2 a3 a4) = G9 X := by
  refine funext fun x => ?_
  obtain ⟨h, i, rfl⟩ : ∃ (h : Fin 4) (i : Fin 4096), x = ix3 h i 0 := by
    refine ⟨x 0, x 1, funext fun a => ?_⟩
    match a with
    | ⟨0, _⟩ => rfl
    | ⟨1, _⟩ => rfl
    | ⟨2, _⟩ => exact Fin.ext (fin1 _)
  rw [rrs_at]
  simp only [rd_at A]
  rw [Model.coe_sum]
  rfl

end Cert.FoxQ.Ref
end
-- ==== Proof.FoxQ.Finite.lean ====
/-
  What the precondition says of an array, and the real numbers it gives.
-/
module

public import proofs.«01_k».proof.Defs
public import proofs.«01_k».proof.Proof.FoxQ.RefValue

@[expose] public section

set_option maxRecDepth 16384

noncomputable section

namespace Cert.FoxQ

open Idealize.ShloMosaic Idealize.ShloMosaic.TcCoe Idealize.ShloMosaic.Tactic
open Idealize.SL Idealize.SL.Sem

theorem preFacts : Cert.Pre_finite.Facts := ⟨by decide, by decide⟩

theorem inf_bits : Ideal.ofBits .f32 0x7F800000#32 = (⊤ : EReal) := by
  simp [Ideal.ofBits, Ideal.ieee]

/-- The scale is a real number. -/
theorem scale_real : Ideal.ofBits .f32 0x3DB504F3#32 = ((11863283 * (2 ^ 27)⁻¹ : ℝ) : EReal) := by
  rw [EReal.coe_mul]
  simp [Ideal.ofBits, Ideal.ieee]

/-- A number whose absolute value compares below infinity is real. -/
theorem real_of_lt (x : EReal) (h : max x (-x) < ⊤) : x = ((x.toReal : ℝ) : EReal) := by
  refine (EReal.coe_toReal ?_ ?_).symm
  · rintro rfl; simp at h
  · rintro rfl; simp at h

theorem real_of_bit (x : EReal) (h : BitVec.ofBool (decide (max x (-x) < Ideal.ofBits .f32 0x7F800000#32)) = 1#1) : x = ((x.toReal : ℝ) : EReal) := by
  rw [inf_bits] at h
  refine real_of_lt x ?_
  by_contra hc
  rw [decide_eq_false hc] at h
  exact absurd h (by decide)

theorem real_wide (f : Cert.Pre_finite.Facts) (x : FVec Ideal Cert.Pre_finite.S4096x512 .f32)
    (h : cmpf .olt (Host.absf x) (broadcastInDim Cert.Pre_finite.S4096x512 ![] f.bcast_S_S4096x512 (constant Cert.Pre_finite.S_ FTy.f32 0x7F800000#32)) = fun _ => 1#1)
    (i : Fin 4096) (j : Fin 512) : x (ix2 i j) = (((x (ix2 i j) : EReal).toReal : ℝ) : EReal) := by
  have e := congrFun h (ix2 i j)
  revert e
  pointwise
  exact real_of_bit _

theorem real_gate (f : Cert.Pre_finite.Facts) (x : FVec Ideal Cert.Pre_finite.S4x4096 .f32)
    (h : cmpf .olt (Host.absf x) (broadcastInDim Cert.Pre_finite.S4x4096 ![] f.bcast_S_S4x4096 (constant Cert.Pre_finite.S_ FTy.f32 0x7F800000#32)) = fun _ => 1#1)
    (i : Fin 4) (j : Fin 4096) : x (ix2 i j) = (((x (ix2 i j) : EReal).toReal : ℝ) : EReal) := by
  have e := congrFun h (ix2 i j)
  revert e
  pointwise
  exact real_of_bit _

section
open Cert.KernelIdeal Cert.KernelIdeal.Gen

variable (m : (ℓ : Loc nD τ sig) → Buf (Elt Ideal) ℓ) (c : Dev nD)

/-- The real numbers in the arguments on device `c`. -/
def inp : Model.Inp where
  C := 11863283 * (2 ^ 27)⁻¹
  q i j := ((m (c, Proc.tc.devRef main_arg0) : FVec Ideal S4096x512 .f32) (ix2 i j) : EReal).toReal
  k i j := ((m (c, Proc.tc.devRef main_arg1) : FVec Ideal S4096x512 .f32) (ix2 i j) : EReal).toReal
  v i j := ((m (c, Proc.tc.devRef main_arg2) : FVec Ideal S4096x512 .f32) (ix2 i j) : EReal).toReal
  g h i := ((m (c, Proc.tc.devRef main_arg3) : FVec Ideal S4x4096 .f32) (ix2 h i) : EReal).toReal
  w i j := ((m (c, Proc.tc.devRef main_arg4) : FVec Ideal S4096x512 .f32) (ix2 i j) : EReal).toReal

/-- The precondition gives real arguments. -/
theorem args_of_pre (f : Cert.Pre_finite.Facts) (h : Cert.Pre_KernelIdeal_finite m) : Args m c (inp m c) where
  C := scale_real
  q := real_wide f _ (h c).1
  k := real_wide f _ (h c).2.1
  v := real_wide f _ (h c).2.2.1
  g := real_gate f _ (h c).2.2.2.1
  w := real_wide f _ (h c).2.2.2.2

end

end Cert.FoxQ
end
-- ==== Proof.FoxQ.Algebraic.lean ====
/-
  The two programs return the same arrays over the extended reals.
-/
module

public import proofs.«01_k».proof.Proof.Frames
public import proofs.«01_k».proof.Proof.FoxQ.Finite

@[expose] public section

set_option maxRecDepth 16384

noncomputable section

namespace Cert.Proof

open Idealize.ShloMosaic Idealize.ShloMosaic.TcCoe Idealize.SL.Sem
open Cert.FoxQ

section
open Cert.KernelIdeal Cert.KernelIdeal.Gen

variable (m : (ℓ : Loc nD τ sig) → Buf (Elt Ideal) ℓ)

theorem kernel_out0 (r : PUnit × MemSt nD τ sig (Elt Ideal)) (h : Pipeline.FramePost (Pipeline.pin pcfgs fun _ => adm) (dats m) 0 (V m) r) (c : Dev nD)
    {X : Model.Inp} (A : Args m c X) : r.2.mem ((c.tc : Thread nD τ).loc main_v71_0) = G8 X :=
  ((h c).1 8).trans (final_8 A)

theorem kernel_out1 (r : PUnit × MemSt nD τ sig (Elt Ideal)) (h : Pipeline.FramePost (Pipeline.pin pcfgs fun _ => adm) (dats m) 0 (V m) r) (c : Dev nD)
    {X : Model.Inp} (A : Args m c X) : r.2.mem ((c.tc : Thread nD τ).loc main_v71_1) = G9 X :=
  ((h c).1 9).trans (final_9 A)

end

theorem algebraic (f : Cert.Pre_finite.Facts) : Cert.algebraic_KernelIdeal_ReferenceIdeal_pre_finite := by
  intro m g m' g' hp ha
  refine ⟨fun c => G8 (inp m c), fun c => G9 (inp m c), ?_, ?_⟩
  · refine (θ_run Cert.KernelIdeal.defs _ _).mono (fun r h c => ?_) (run_main (F := Ideal) m g)
    have A := args_of_pre m c f hp
    exact ⟨kernel_out0 m r h.1 c A, kernel_out1 m r h.1 c A, args_of_post m r h.1 c⟩
  · refine (θ_run Cert.ReferenceIdeal.defs _ _).mono (fun r h c => ?_) (Cert.ReferenceIdeal.Value.run (F := Ideal) m' g')
    have A := args_of_pre m c f hp
    obtain ⟨e0, e1, e2, e3, e4⟩ := ha c
    have R : Ref.RArgs (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (inp m c) :=
      ⟨A.C, fun i j => (congrFun e0 (ix2 i j)).trans (A.q i j), fun i j => (congrFun e1 (ix2 i j)).trans (A.k i j),
        fun i j => (congrFun e2 (ix2 i j)).trans (A.v i j), fun i j => (congrFun e3 (ix2 i j)).trans (A.g i j),
        fun i j => (congrFun e4 (ix2 i j)).trans (A.w i j)⟩
    exact ⟨(h c).1.trans ((Ref.out0_eq m' c).trans (Ref.rdq_val R)), (h c).2.1.trans ((Ref.out1_eq m' c).trans (Ref.rrs_val R)), (h c).2.2⟩

end Cert.Proof
end
-- ==== Proof.Ffn.Sum.lean ====
/-
  Sums over the reals with infinities that a product accumulates block by block, and arrays read at any pair of numbers.
-/
module

public import Idealize.ShloMosaic.Lib.Pointwise

@[expose] public section

noncomputable section

namespace Cert.Ffn

/-- An array of two axes read at a row and a column, zero outside. -/
def rd {R C : ℕ} (Z : Fin R → Fin C → EReal) (a b : ℕ) : EReal := if h : a < R ∧ b < C then Z ⟨a, h.1⟩ ⟨b, h.2⟩ else 0

theorem rd_of {R C : ℕ} (Z : Fin R → Fin C → EReal) {a b : ℕ} (ha : a < R) (hb : b < C) : rd Z a b = Z ⟨a, ha⟩ ⟨b, hb⟩ := dif_pos ⟨ha, hb⟩

theorem rd_val {R C : ℕ} (Z : Fin R → Fin C → EReal) (a : Fin R) (b : Fin C) : rd Z a.val b.val = Z a b := rd_of Z a.isLt b.isLt

/-- The first `n` terms' sum. -/
def psum (f : ℕ → EReal) (n : ℕ) : EReal := ∑ k ∈ Finset.range n, f k

theorem psum_zero (f : ℕ → EReal) : psum f 0 = 0 := Finset.sum_range_zero f

/-- One more block of `T` terms. -/
theorem psum_step (f : ℕ → EReal) (q T : ℕ) : psum f (q * T) + ∑ k : Fin T, f (q * T + k.val) = psum f ((q + 1) * T) := by
  unfold psum
  rw [Nat.succ_mul, Finset.sum_range_add, Fin.sum_univ_eq_sum_range (fun k => f (q * T + k)) T]

/-- All the terms. -/
theorem psum_all (f : ℕ → EReal) (K : ℕ) : psum f K = ∑ k : Fin K, f k.val := (Fin.sum_univ_eq_sum_range f K).symm

/-- A finite factor that is not negative goes into a sum. -/
theorem sum_mul_pos {K : ℕ} (g : Fin K → EReal) (r : EReal) (h0 : 0 ≤ r) (ht : r ≠ ⊤) : (∑ k, g k) * r = ∑ k, g k * r := by
  have step : ∀ s : Finset (Fin K), (∑ k ∈ s, g k) * r = ∑ k ∈ s, g k * r := fun s => by
    induction s using Finset.induction_on with
    | empty => rw [Finset.sum_empty, Finset.sum_empty, zero_mul]
    | insert a s ha ih => rw [Finset.sum_insert ha, Finset.sum_insert ha, EReal.right_distrib_of_nonneg_of_ne_top h0 ht, ih]
  exact step Finset.univ

/-- The word of one, and of a half. -/
theorem one_word : Idealize.ShloMosaic.Ideal.ofBits .f32 0x3F800000#32 = (1 : EReal) := by
  simp [Idealize.ShloMosaic.Ideal.ofBits, Idealize.ShloMosaic.Ideal.ieee]
  rw [← EReal.coe_mul, ← EReal.coe_one]
  exact congrArg _ (by norm_num)

theorem half_word : Idealize.ShloMosaic.Ideal.ofBits .f32 0x3F000000#32 = (((1 / 2 : ℝ)) : EReal) := by
  simp [Idealize.ShloMosaic.Ideal.ofBits, Idealize.ShloMosaic.Ideal.ieee]
  rw [← EReal.coe_mul]
  exact congrArg _ (by norm_num)

theorem half_nonneg : (0 : EReal) ≤ (((1 / 2 : ℝ)) : EReal) := by exact_mod_cast (by norm_num : (0 : ℝ) ≤ 1 / 2)

end Cert.Ffn
end
-- ==== Proof.Ffn.Call2.lean ====
/-
  The product of call 2: what its grid leaves in the result, as one sum over the contracted axis.
-/
module

public import proofs.«01_k».proof.Proof.Gen.Kernel2Ideal.Value
public import proofs.«01_k».proof.Proof.Ffn.Sum
public import Idealize.ShloMosaic.Lib.Pointwise

@[expose] public section

set_option maxRecDepth 16384

noncomputable section

namespace Cert.Ffn2

open Cert.Kernel2Ideal Cert.Kernel2Ideal.Gen Cert.Ffn
open Idealize.ShloMosaic Idealize.ShloMosaic.TcCoe Idealize.ShloMosaic.Tactic Idealize.SL.Sem

/-! ## The vector operations at an index -/

theorem pay1_at (i : Fin 1024) (j : Fin 1408) : k0_pay1 (F := Ideal) (ix2 i j) = 0 := by
  pointwise [k0_pay1]
theorem pay2_at (a : Vec Ideal S1024x1408 .f32) (x : Vec Ideal S1024x1024 .bf16) (y : Vec Ideal S1024x1408 .bf16) (i : Fin 1024) (j : Fin 1408) :
    k0_pay2 (F := Ideal) a x y (ix2 i j) = a (ix2 i j) + ∑ k : Fin 1024, x (ix2 k i) * y (ix2 k j) := by
  pointwise [k0_pay2]
theorem pay3_at (a : Vec Ideal S1024x1408 .f32) (i : Fin 1024) (j : Fin 1408) :
    k0_pay3 (F := Ideal) a (ix2 i j) = a (ix2 i j) * Ideal.ofBits .f32 0x3F800000#32 := by
  pointwise [k0_pay3]
/-! ## The cases of the body -/

theorem hz : (![0, 0] : Fin 2 → Nat) = fun _ => 0 := funext fun a => by fin_cases a <;> rfl

theorem scr_A (c : Dev nD) (i : grid0.Coords) (a3 : Memref sig .tc .vmem S1024x1024 .bf16) (h3 : a3.IsWhole) (a4 : Memref sig .tc .vmem S1024x1408 .bf16) (h4 : a4.IsWhole) (a5 : Memref sig .tc .vmem S1024x1408 .f32) (h5 : a5.IsWhole) (a6 : Memref sig .tc .vmem S1024x1408 .f32) (h6 : a6.IsWhole) (hc0 : cond0_0 i) (hc1 : ¬cond0_1 i) (x0 : Vec Ideal S1024x1024 .bf16) (x1 : Vec Ideal S1024x1408 .bf16) :
    sout0_A_0 c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1408) hz]
  simp only [View.readCov_unit_zero (S := S1024x1408) _ hz, View.readAt_eq_ld, h3.read_unread, h4.read_unread, h5.read_unread, h6.read_unread, View.ld_unit_zero (S := S1024x1024) hz, View.ld_unit_zero (S := S1024x1408) hz]
theorem scr_B (c : Dev nD) (i : grid0.Coords) (a3 : Memref sig .tc .vmem S1024x1024 .bf16) (h3 : a3.IsWhole) (a4 : Memref sig .tc .vmem S1024x1408 .bf16) (h4 : a4.IsWhole) (a5 : Memref sig .tc .vmem S1024x1408 .f32) (h5 : a5.IsWhole) (a6 : Memref sig .tc .vmem S1024x1408 .f32) (h6 : a6.IsWhole) (hc0 : ¬cond0_0 i) (hc1 : ¬cond0_1 i) (x0 : Vec Ideal S1024x1024 .bf16) (x1 : Vec Ideal S1024x1408 .bf16) (s : Vec Ideal S1024x1408 .f32) :
    sout0_B_0 c i a3 h3 a4 h4 a5 h5 a6 h6 hc0 hc1 x0 x1 s = k0_pay2 (F := Ideal) (s) x0 x1 := by
  unfold sout0_B_0
  rw [View.read_writes_eq_canon _ _ _ (scover0_B_0 c i a3 h3 a4 h4 a5 h5 a6 h6 hc0 hc1 x0 x1 s)]
  unfold kernelRun0_B
  dsimp only
  sl_unfold_words
  rw [View.canon_cons_unit_zero (S := S1024x1408) hz]
  simp only [View.readCov_unit_zero (S := S1024x1408) _ hz, View.readAt_eq_ld, h3.read_unread, h4.read_unread, h5.read_unread, h6.read_unread, View.ld_unit_zero (S := S1024x1024) hz, View.ld_unit_zero (S := S1024x1408) hz]
theorem scr_C (c : Dev nD) (i : grid0.Coords) (a3 : Memref sig .tc .vmem S1024x1024 .bf16) (h3 : a3.IsWhole) (a4 : Memref sig .tc .vmem S1024x1408 .bf16) (h4 : a4.IsWhole) (a5 : Memref sig .tc .vmem S1024x1408 .f32) (h5 : a5.IsWhole) (a6 : Memref sig .tc .vmem S1024x1408 .f32) (h6 : a6.IsWhole) (hc0 : ¬cond0_0 i) (hc1 : cond0_1 i) (x0 : Vec Ideal S1024x1024 .bf16) (x1 : Vec Ideal S1024x1408 .bf16) (s : Vec Ideal S1024x1408 .f32) :
    sout0_C_0 c i a3 h3 a4 h4 a5 h5 a6 h6 hc0 hc1 x0 x1 s = k0_pay2 (F := Ideal) (s) x0 x1 := by
  unfold sout0_C_0
  rw [View.read_writes_eq_canon _ _ _ (scover0_C_0 c i a3 h3 a4 h4 a5 h5 a6 h6 hc0 hc1 x0 x1 s)]
  unfold kernelRun0_C
  dsimp only
  sl_unfold_words
  rw [View.canon_cons_unit_zero (S := S1024x1408) hz]
  simp only [View.readCov_unit_zero (S := S1024x1408) _ hz, View.readAt_eq_ld, h3.read_unread, h4.read_unread, h5.read_unread, h6.read_unread, View.ld_unit_zero (S := S1024x1024) hz, View.ld_unit_zero (S := S1024x1408) hz]
theorem out_C (c : Dev nD) (i : grid0.Coords) (a3 : Memref sig .tc .vmem S1024x1024 .bf16) (h3 : a3.IsWhole) (a4 : Memref sig .tc .vmem S1024x1408 .bf16) (h4 : a4.IsWhole) (a5 : Memref sig .tc .vmem S1024x1408 .f32) (h5 : a5.IsWhole) (a6 : Memref sig .tc .vmem S1024x1408 .f32) (h6 : a6.IsWhole) (hc0 : ¬cond0_0 i) (hc1 : cond0_1 i) (x0 : Vec Ideal S1024x1024 .bf16) (x1 : Vec Ideal S1024x1408 .bf16) (s : Vec Ideal S1024x1408 .f32) :
    out0_C_2 c i a3 h3 a4 h4 a5 h5 a6 h6 hc0 hc1 x0 x1 s = k0_pay3 (F := Ideal) (k0_pay2 (F := Ideal) (s) x0 x1) := by
  unfold out0_C_2
  rw [View.read_writes_eq_canon _ _ _ (cover0_C_2 c i a3 h3 a4 h4 a5 h5 a6 h6 hc0 hc1 x0 x1 s)]
  unfold kernelRun0_C
  dsimp only
  sl_unfold_words
  rw [View.canon_cons_unit_zero (S := S1024x1408) hz]
  simp only [View.readCov_unit_zero (S := S1024x1408) _ hz, View.readAt_eq_ld, h3.read_unread, h4.read_unread, h5.read_unread, h6.read_unread, View.ld_unit_zero (S := S1024x1024) hz, View.ld_unit_zero (S := S1024x1408) hz]

/-! ## The blocks a point reads -/

variable (m : (ℓ : Loc nD τ sig) → Buf (Elt Ideal) ℓ) (c : Dev nD)

theorem lt_N (t : Fin cfg0.N) : t.val < 32 := lt_of_lt_of_eq t.isLt (show cfg0.N = 32 from N_0)
/-- Operand 0, at a row and a column. -/
def M0 : Fin 4096 → Fin 2048 → EReal := fun i j => (V m c (Pipeline.arrRef spec0 0) : FVec Ideal S4096x2048 .bf16) (ix2 i j)

theorem index_0 : ∀ t : Fin cfg0.N, win0_0.index t (0 : Fin 2) = t.val % 4 ∧ win0_0.index t (1 : Fin 2) = t.val / 16 :=
  (by decide +kernel : ∀ t : Fin grid0.N, _)

theorem emb_0 (t : Fin cfg0.N) (i : Fin 1024) (j : Fin 1024) (hi : t.val % 4 * 1024 + i.val < 4096) (hj : t.val / 16 * 1024 + j.val < 2048) :
    ((cfg0.win 0).rect t).emb (ix2 i j) = (ix2 ⟨t.val % 4 * 1024 + i.val, hi⟩ ⟨t.val / 16 * 1024 + j.val, hj⟩ : S4096x2048.Idx) := by
  funext a
  refine Fin.ext ((Pipeline.Window.rect_emb_val _ t _ a).trans ?_)
  match a with
  | ⟨0, _⟩ => show win0_0.index t (0 : Fin 2) * 1024 + i.val = _; rw [(index_0 t).1]; rfl
  | ⟨1, _⟩ => show win0_0.index t (1 : Fin 2) * 1024 + j.val = _; rw [(index_0 t).2]; rfl

theorem blk_0 (t : Fin cfg0.N) (i : Fin 1024) (j : Fin 1024) :
    (iblk m c 0 t : Vec Ideal S1024x1024 .bf16) (ix2 i j) = rd (M0 m c) (t.val % 4 * 1024 + i.val) (t.val / 16 * 1024 + j.val) := by
  have ht := lt_N t
  have hi : t.val % 4 * 1024 + i.val < 4096 := by omega
  have hj : t.val / 16 * 1024 + j.val < 2048 := by omega
  rw [rd_of _ hi hj]
  unfold iblk M0
  refine Eq.trans ?_ (congrArg (V m c (Pipeline.arrRef spec0 0) : FVec Ideal S4096x2048 .bf16) (emb_0 t i j hi hj))
  rfl
/-- Operand 1, at a row and a column. -/
def M1 : Fin 4096 → Fin 5632 → EReal := fun i j => (V m c (Pipeline.arrRef spec0 1) : FVec Ideal S4096x5632 .bf16) (ix2 i j)

theorem index_1 : ∀ t : Fin cfg0.N, win0_1.index t (0 : Fin 2) = t.val % 4 ∧ win0_1.index t (1 : Fin 2) = t.val / 4 % 4 :=
  (by decide +kernel : ∀ t : Fin grid0.N, _)

theorem emb_1 (t : Fin cfg0.N) (i : Fin 1024) (j : Fin 1408) (hi : t.val % 4 * 1024 + i.val < 4096) (hj : t.val / 4 % 4 * 1408 + j.val < 5632) :
    ((cfg0.win 1).rect t).emb (ix2 i j) = (ix2 ⟨t.val % 4 * 1024 + i.val, hi⟩ ⟨t.val / 4 % 4 * 1408 + j.val, hj⟩ : S4096x5632.Idx) := by
  funext a
  refine Fin.ext ((Pipeline.Window.rect_emb_val _ t _ a).trans ?_)
  match a with
  | ⟨0, _⟩ => show win0_1.index t (0 : Fin 2) * 1024 + i.val = _; rw [(index_1 t).1]; rfl
  | ⟨1, _⟩ => show win0_1.index t (1 : Fin 2) * 1408 + j.val = _; rw [(index_1 t).2]; rfl

theorem blk_1 (t : Fin cfg0.N) (i : Fin 1024) (j : Fin 1408) :
    (iblk m c 1 t : Vec Ideal S1024x1408 .bf16) (ix2 i j) = rd (M1 m c) (t.val % 4 * 1024 + i.val) (t.val / 4 % 4 * 1408 + j.val) := by
  have ht := lt_N t
  have hi : t.val % 4 * 1024 + i.val < 4096 := by omega
  have hj : t.val / 4 % 4 * 1408 + j.val < 5632 := by omega
  rw [rd_of _ hi hj]
  unfold iblk M1
  refine Eq.trans ?_ (congrArg (V m c (Pipeline.arrRef spec0 1) : FVec Ideal S4096x5632 .bf16) (emb_1 t i j hi hj))
  rfl
/-! ## The accumulator -/

/-- A term of the product at row `a` and column `b`. -/
def tm (a b k : ℕ) : EReal := rd (M0 m c) k a * rd (M1 m c) k b

/-- One point adds its block of terms. -/
theorem add_block (t : Fin cfg0.N) (s : Vec Ideal S1024x1408 .f32) (i : Fin 1024) (j : Fin 1408)
    (hs : s (ix2 i j) = psum (tm m c (t.val / 16 * 1024 + i.val) (t.val / 4 % 4 * 1408 + j.val)) (t.val % 4 * 1024)) :
    k0_pay2 (F := Ideal) (s) (iblk m c 0 t) (iblk m c 1 t) (ix2 i j)
      = psum (tm m c (t.val / 16 * 1024 + i.val) (t.val / 4 % 4 * 1408 + j.val)) ((t.val % 4 + 1) * 1024) := by
  rw [pay2_at, hs, ← psum_step]
  simp only [blk_0, blk_1]
  unfold tm
  rfl

theorem scr_first (t : Fin cfg0.N) (h : t.val % 4 = 0) : (outsAt0 m c t.val t.isLt).2 = k0_pay2 (F := Ideal) (k0_pay1 (F := Ideal)) (iblk m c 0 t) (iblk m c 1 t) := by
  rw [outsAt0_A m c t h (by omega)]
  dsimp only
  rw [scr_A]

theorem scr_next (t : Fin cfg0.N) (h : ¬ t.val % 4 = 0) :
    (outsAt0 m c t.val t.isLt).2 = k0_pay2 (F := Ideal) ((outsAt0 m c (t.val - 1) (Nat.lt_of_le_of_lt (Nat.sub_le _ _) t.isLt)).2) (iblk m c 0 t) (iblk m c 1 t) := by
  by_cases h1 : t.val % 4 = 3
  · rw [outsAt0_C m c t h h1]
    dsimp only
    rw [scr_C]
  · rw [outsAt0_B m c t h h1]
    dsimp only
    rw [scr_B]
theorem out_last (t : Fin cfg0.N) (h : t.val % 4 = 3) :
    (outsAt0 m c t.val t.isLt).1 = k0_pay3 (F := Ideal) (outsAt0 m c t.val t.isLt).2 := by
  rw [scr_next m c t (by omega), outsAt0_C m c t (by omega) h]
  dsimp only
  rw [out_C]

/-- What the accumulator holds after each point. -/
theorem scr_holds : ∀ (n : ℕ) (hn : n < cfg0.N) (i : Fin 1024) (j : Fin 1408),
    (outsAt0 m c n hn).2 (ix2 i j) = psum (tm m c (n / 16 * 1024 + i.val) (n / 4 % 4 * 1408 + j.val)) ((n % 4 + 1) * 1024) := by
  have first : ∀ (t : Fin cfg0.N) (h : t.val % 4 = 0) (i : Fin 1024) (j : Fin 1408),
      (outsAt0 m c t.val t.isLt).2 (ix2 i j) = psum (tm m c (t.val / 16 * 1024 + i.val) (t.val / 4 % 4 * 1408 + j.val)) ((t.val % 4 + 1) * 1024) := fun t h i j => by
    rw [scr_first m c t h]
    refine add_block m c t _ i j ?_
    rw [h, Nat.zero_mul, psum_zero, pay1_at]
  intro n
  induction n with
  | zero => exact fun hn i j => first ⟨0, hn⟩ rfl i j
  | succ n ih =>
    intro hn i j
    by_cases h : (n + 1) % 4 = 0
    · exact first ⟨n + 1, hn⟩ h i j
    · rw [scr_next m c ⟨n + 1, hn⟩ h]
      refine add_block m c ⟨n + 1, hn⟩ _ i j ?_
      refine (ih (Nat.lt_of_succ_lt hn) i j).trans ?_
      have e1 : (n + 1) / 16 = n / 16 := by omega
      have e2 : (n + 1) / 4 % 4 = n / 4 % 4 := by omega
      have e3 : (n + 1) % 4 = n % 4 + 1 := by omega
      dsimp only
      rw [e1, e2, e3]

/-! ## The result -/

/-- The result array. -/
def G : FVec Ideal S2048x5632 .f32 := fun x => psum (tm m c (x 0).val (x 1).val) 4096 * Ideal.ofBits .f32 0x3F800000#32

theorem index_out : ∀ t : Fin cfg0.N, win0_2.index t (0 : Fin 2) = t.val / 16 ∧ win0_2.index t (1 : Fin 2) = t.val / 4 % 4 :=
  (by decide +kernel : ∀ t : Fin grid0.N, _)

theorem emb_out (t : Fin cfg0.N) (i : Fin 1024) (j : Fin 1408) (hi : t.val / 16 * 1024 + i.val < 2048) (hj : t.val / 4 % 4 * 1408 + j.val < 5632) :
    ((cfg0.win 2).rect t).emb (ix2 i j) = (ix2 ⟨t.val / 16 * 1024 + i.val, hi⟩ ⟨t.val / 4 % 4 * 1408 + j.val, hj⟩ : S2048x5632.Idx) := by
  funext a
  refine Fin.ext ((Pipeline.Window.rect_emb_val _ t _ a).trans ?_)
  match a with
  | ⟨0, _⟩ => show win0_2.index t (0 : Fin 2) * 1024 + i.val = _; rw [(index_out t).1]; rfl
  | ⟨1, _⟩ => show win0_2.index t (1 : Fin 2) * 1408 + j.val = _; rw [(index_out t).2]; rfl

theorem read_out (Z : FVec Ideal S2048x5632 .f32) (t : Fin cfg0.N) (i : Fin 1024) (j : Fin 1408) (hi : t.val / 16 * 1024 + i.val < 2048) (hj : t.val / 4 % 4 * 1408 + j.val < 5632) :
    ((cfg0.win 2).blk t).view.read (Elt Ideal) Z (ix2 i j) = Z (ix2 ⟨t.val / 16 * 1024 + i.val, hi⟩ ⟨t.val / 4 % 4 * 1408 + j.val, hj⟩) := by
  refine Eq.trans ?_ (congrArg Z (emb_out t i j hi hj))
  rfl

theorem flushed (t : Fin cfg0.N) (hf : (cfg0.win 2).flush t = true) :
    (dats m 0 c).flushed 2 t = ((cfg0.win 2).blk t).view.read (Elt Ideal) (G m c) := by
  have h := (flush0_2 t).mp hf
  have ht := lt_N t
  rw [Value.flushed2]
  refine funext fun (y : S1024x1408.Idx) => ?_
  obtain ⟨i, j, rfl⟩ : ∃ i j, y = ix2 i j := ⟨y 0, y 1, funext fun a => by match a with | ⟨0, _⟩ => rfl | ⟨1, _⟩ => rfl⟩
  refine Eq.trans ?_ (read_out (G m c) t i j (by omega) (by omega)).symm
  show (outsAt0 m c t.val t.isLt).1 (ix2 i j) = _
  rw [out_last m c t h, pay3_at, scr_holds m c t.val t.isLt, h]
  rfl

/-- The result array after the run. -/
theorem final : (dats m 0 c).arrAt 2 cfg0.N = G m c :=
  (dats m 0 c).arrAt_eq_of_cover 2 (G m c) (fun t hf => flushed m c t hf) (fun i => (Value.covered_iff2 i).2 (by
    have h0 : (i 0).val < 2048 := (i 0).isLt; have h1 : (i 1).val < 5632 := (i 1).isLt; omega))

end Cert.Ffn2
end
-- ==== Proof.Ffn.Claim2.lean ====
/-
  Call 2 and its reference return the same array over the extended reals.
-/
module

public import proofs.«01_k».proof.Defs
public import proofs.«01_k».proof.Proof.Ffn.Call2
public import proofs.«01_k».proof.Proof.Gen.Kernel2.Frame
public import proofs.«01_k».proof.Proof.Gen.Reference2Ideal.Run
public import Idealize.ShloMosaic.Lib.Quiescent

@[expose] public section

set_option maxRecDepth 16384

noncomputable section

namespace Cert.Ffn2

open Cert.Ffn
open Idealize.ShloMosaic Idealize.ShloMosaic.TcCoe Idealize.ShloMosaic.Tactic Idealize.SL.Sem

section
open Cert.Reference2Ideal Cert.Reference2Ideal.Gen

/-- The reference's result. -/
def rout (z0 : FVec Ideal S4096x2048 .bf16) (z1 : FVec Ideal S4096x5632 .bf16) : FVec Ideal S2048x5632 .f32 :=
  transpose S2048x5632 [1, 0] (Host.dotGeneral dot_S4096x5632_S4096x2048_S5632x2048_0_0_1_1_n_n none (extf .f32 z1 bitsLt_bf16_f32) (extf .f32 z0 bitsLt_bf16_f32)) transposes_S5632x2048_S2048x5632_1_0

theorem rout_at (z0 : FVec Ideal S4096x2048 .bf16) (z1 : FVec Ideal S4096x5632 .bf16) (a : Fin 2048) (b : Fin 5632) :
    rout z0 z1 (ix2 a b) = ∑ k : Fin 4096, z1 (ix2 k b) * z0 (ix2 k a) := by
  pointwise [rout]

end

section
open Cert.Kernel2Ideal Cert.Kernel2Ideal.Gen

variable (m : (ℓ : Loc nD τ sig) → Buf (Elt Ideal) ℓ) (c : Dev nD)

theorem G_at (a : Fin 2048) (b : Fin 5632) :
    G m c (ix2 a b) = (∑ k, M0 m c k a * M1 m c k b) * Ideal.ofBits .f32 0x3F800000#32 := by
  show psum (tm m c a.val b.val) 4096 * _ = _
  rw [psum_all]
  unfold tm
  simp only [rd_val]

end

theorem algebraic : Cert.algebraic_Kernel2Ideal_Reference2Ideal := by
  intro m g m' g' _ ha
  refine ⟨fun c => G m c, ?_, ?_⟩
  · exact (θ_run Cert.Kernel2Ideal.defs _ _).mono (fun r h c => ⟨(h c).1.trans (final m c), (h c).2⟩) (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    obtain ⟨e0, e1⟩ := ha c
    show rout (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) = G m c
    refine funext fun (x : Cert.Kernel2Ideal.S2048x5632.Idx) => ?_
    obtain ⟨a, b, rfl⟩ : ∃ a b, x = ix2 a b := ⟨x 0, x 1, funext fun q => by match q with | ⟨0, _⟩ => rfl | ⟨1, _⟩ => rfl⟩
    rw [G_at]
    refine (rout_at _ _ a b).trans ?_
    rw [one_word, mul_one]
    refine Finset.sum_congr rfl fun k _ => ?_
    exact (congrArg₂ (fun x y : EReal => x * y) (congrFun e1 (ix2 k b)) (congrFun e0 (ix2 k a))).trans (mul_comm _ _)

theorem frame_kernel : Cert.quiescent_Kernel2 := fun m ρ _ => Cert.Kernel2.Gen.frame (F := Bits) m ρ

theorem frame_ideal : Cert.quiescent_Kernel2Ideal := fun m ρ _ => Cert.Kernel2Ideal.Gen.frame (F := Ideal) m ρ

theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Ffn2
end
-- ==== Proof.Ffn.Call3.lean ====
/-
  The product of call 3: what its grid leaves in the result, as one sum over the contracted axis.
-/
module

public import proofs.«01_k».proof.Proof.Gen.Kernel3Ideal.Value
public import proofs.«01_k».proof.Proof.Ffn.Sum
public import Idealize.ShloMosaic.Lib.Pointwise

@[expose] public section

set_option maxRecDepth 16384

noncomputable section

namespace Cert.Ffn3

open Cert.Kernel3Ideal Cert.Kernel3Ideal.Gen Cert.Ffn
open Idealize.ShloMosaic Idealize.ShloMosaic.TcCoe Idealize.ShloMosaic.Tactic Idealize.SL.Sem

/-! ## The vector operations at an index -/

theorem pay1_at (i : Fin 512) (j : Fin 1024) : k0_pay1 (F := Ideal) (ix2 i j) = 0 := by
  pointwise [k0_pay1]
theorem pay2_at (a : Vec Ideal S512x1024 .f32) (x : Vec Ideal S2048x512 .bf16) (y : Vec Ideal S2048x1024 .bf16) (i : Fin 512) (j : Fin 1024) :
    k0_pay2 (F := Ideal) a x y (ix2 i j) = a (ix2 i j) + ∑ k : Fin 2048, x (ix2 k i) * y (ix2 k j) := by
  pointwise [k0_pay2]
theorem pay3_at (a : Vec Ideal S512x1024 .f32) (i : Fin 512) (j : Fin 1024) :
    k0_pay3 (F := Ideal) a (ix2 i j) = a (ix2 i j) * Ideal.ofBits .f32 0x3F000000#32 := by
  pointwise [k0_pay3]
/-! ## The cases of the body -/

theorem hz : (![0, 0] : Fin 2 → Nat) = fun _ => 0 := funext fun a => by fin_cases a <;> rfl

theorem scr_A (c : Dev nD) (i : grid0.Coords) (a3 : Memref sig .tc .vmem S2048x512 .bf16) (h3 : a3.IsWhole) (a4 : Memref sig .tc .vmem S2048x1024 .bf16) (h4 : a4.IsWhole) (a5 : Memref sig .tc .vmem S512x1024 .f32) (h5 : a5.IsWhole) (a6 : Memref sig .tc .vmem S512x1024 .f32) (h6 : a6.IsWhole) (hc0 : cond0_0 i) (hc1 : ¬cond0_1 i) (x0 : Vec Ideal S2048x512 .bf16) (x1 : Vec Ideal S2048x1024 .bf16) :
    sout0_A_0 c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x1024) hz]
  simp only [View.readCov_unit_zero (S := S512x1024) _ hz, View.readAt_eq_ld, h3.read_unread, h4.read_unread, h5.read_unread, h6.read_unread, View.ld_unit_zero (S := S2048x512) hz, View.ld_unit_zero (S := S2048x1024) hz, View.ld_unit_zero (S := S512x1024) hz]
theorem scr_B (c : Dev nD) (i : grid0.Coords) (a3 : Memref sig .tc .vmem S2048x512 .bf16) (h3 : a3.IsWhole) (a4 : Memref sig .tc .vmem S2048x1024 .bf16) (h4 : a4.IsWhole) (a5 : Memref sig .tc .vmem S512x1024 .f32) (h5 : a5.IsWhole) (a6 : Memref sig .tc .vmem S512x1024 .f32) (h6 : a6.IsWhole) (hc0 : ¬cond0_0 i) (hc1 : cond0_1 i) (x0 : Vec Ideal S2048x512 .bf16) (x1 : Vec Ideal S2048x1024 .bf16) (s : Vec Ideal S512x1024 .f32) :
    sout0_B_0 c i a3 h3 a4 h4 a5 h5 a6 h6 hc0 hc1 x0 x1 s = k0_pay2 (F := Ideal) (s) x0 x1 := by
  unfold sout0_B_0
  rw [View.read_writes_eq_canon _ _ _ (scover0_B_0 c i a3 h3 a4 h4 a5 h5 a6 h6 hc0 hc1 x0 x1 s)]
  unfold kernelRun0_B
  dsimp only
  sl_unfold_words
  rw [View.canon_cons_unit_zero (S := S512x1024) hz]
  simp only [View.readCov_unit_zero (S := S512x1024) _ hz, View.readAt_eq_ld, h3.read_unread, h4.read_unread, h5.read_unread, h6.read_unread, View.ld_unit_zero (S := S2048x512) hz, View.ld_unit_zero (S := S2048x1024) hz, View.ld_unit_zero (S := S512x1024) hz]
theorem out_B (c : Dev nD) (i : grid0.Coords) (a3 : Memref sig .tc .vmem S2048x512 .bf16) (h3 : a3.IsWhole) (a4 : Memref sig .tc .vmem S2048x1024 .bf16) (h4 : a4.IsWhole) (a5 : Memref sig .tc .vmem S512x1024 .f32) (h5 : a5.IsWhole) (a6 : Memref sig .tc .vmem S512x1024 .f32) (h6 : a6.IsWhole) (hc0 : ¬cond0_0 i) (hc1 : cond0_1 i) (x0 : Vec Ideal S2048x512 .bf16) (x1 : Vec Ideal S2048x1024 .bf16) (s : Vec Ideal S512x1024 .f32) :
    out0_B_2 c i a3 h3 a4 h4 a5 h5 a6 h6 hc0 hc1 x0 x1 s = k0_pay3 (F := Ideal) (k0_pay2 (F := Ideal) (s) x0 x1) := by
  unfold out0_B_2
  rw [View.read_writes_eq_canon _ _ _ (cover0_B_2 c i a3 h3 a4 h4 a5 h5 a6 h6 hc0 hc1 x0 x1 s)]
  unfold kernelRun0_B
  dsimp only
  sl_unfold_words
  rw [View.canon_cons_unit_zero (S := S512x1024) hz]
  simp only [View.readCov_unit_zero (S := S512x1024) _ hz, View.readAt_eq_ld, h3.read_unread, h4.read_unread, h5.read_unread, h6.read_unread, View.ld_unit_zero (S := S2048x512) hz, View.ld_unit_zero (S := S2048x1024) hz, View.ld_unit_zero (S := S512x1024) hz]

/-! ## The blocks a point reads -/

variable (m : (ℓ : Loc nD τ sig) → Buf (Elt Ideal) ℓ) (c : Dev nD)

theorem lt_N (t : Fin cfg0.N) : t.val < 44 := lt_of_lt_of_eq t.isLt (show cfg0.N = 44 from N_0)
/-- Operand 0, at a row and a column. -/
def M0 : Fin 4096 → Fin 5632 → EReal := fun i j => (V m c (Pipeline.arrRef spec0 0) : FVec Ideal S4096x5632 .bf16) (ix2 i j)

theorem index_0 : ∀ t : Fin cfg0.N, win0_0.index t (0 : Fin 2) = t.val % 2 ∧ win0_0.index t (1 : Fin 2) = t.val / 4 :=
  (by decide +kernel : ∀ t : Fin grid0.N, _)

theorem emb_0 (t : Fin cfg0.N) (i : Fin 2048) (j : Fin 512) (hi : t.val % 2 * 2048 + i.val < 4096) (hj : t.val / 4 * 512 + j.val < 5632) :
    ((cfg0.win 0).rect t).emb (ix2 i j) = (ix2 ⟨t.val % 2 * 2048 + i.val, hi⟩ ⟨t.val / 4 * 512 + j.val, hj⟩ : S4096x5632.Idx) := by
  funext a
  refine Fin.ext ((Pipeline.Window.rect_emb_val _ t _ a).trans ?_)
  match a with
  | ⟨0, _⟩ => show win0_0.index t (0 : Fin 2) * 2048 + i.val = _; rw [(index_0 t).1]; rfl
  | ⟨1, _⟩ => show win0_0.index t (1 : Fin 2) * 512 + j.val = _; rw [(index_0 t).2]; rfl

theorem blk_0 (t : Fin cfg0.N) (i : Fin 2048) (j : Fin 512) :
    (iblk m c 0 t : Vec Ideal S2048x512 .bf16) (ix2 i j) = rd (M0 m c) (t.val % 2 * 2048 + i.val) (t.val / 4 * 512 + j.val) := by
  have ht := lt_N t
  have hi : t.val % 2 * 2048 + i.val < 4096 := by omega
  have hj : t.val / 4 * 512 + j.val < 5632 := by omega
  rw [rd_of _ hi hj]
  unfold iblk M0
  refine Eq.trans ?_ (congrArg (V m c (Pipeline.arrRef spec0 0) : FVec Ideal S4096x5632 .bf16) (emb_0 t i j hi hj))
  rfl
/-- Operand 1, at a row and a column. -/
def M1 : Fin 4096 → Fin 2048 → EReal := fun i j => (V m c (Pipeline.arrRef spec0 1) : FVec Ideal S4096x2048 .bf16) (ix2 i j)

theorem index_1 : ∀ t : Fin cfg0.N, win0_1.index t (0 : Fin 2) = t.val % 2 ∧ win0_1.index t (1 : Fin 2) = t.val / 2 % 2 :=
  (by decide +kernel : ∀ t : Fin grid0.N, _)

theorem emb_1 (t : Fin cfg0.N) (i : Fin 2048) (j : Fin 1024) (hi : t.val % 2 * 2048 + i.val < 4096) (hj : t.val / 2 % 2 * 1024 + j.val < 2048) :
    ((cfg0.win 1).rect t).emb (ix2 i j) = (ix2 ⟨t.val % 2 * 2048 + i.val, hi⟩ ⟨t.val / 2 % 2 * 1024 + j.val, hj⟩ : S4096x2048.Idx) := by
  funext a
  refine Fin.ext ((Pipeline.Window.rect_emb_val _ t _ a).trans ?_)
  match a with
  | ⟨0, _⟩ => show win0_1.index t (0 : Fin 2) * 2048 + i.val = _; rw [(index_1 t).1]; rfl
  | ⟨1, _⟩ => show win0_1.index t (1 : Fin 2) * 1024 + j.val = _; rw [(index_1 t).2]; rfl

theorem blk_1 (t : Fin cfg0.N) (i : Fin 2048) (j : Fin 1024) :
    (iblk m c 1 t : Vec Ideal S2048x1024 .bf16) (ix2 i j) = rd (M1 m c) (t.val % 2 * 2048 + i.val) (t.val / 2 % 2 * 1024 + j.val) := by
  have ht := lt_N t
  have hi : t.val % 2 * 2048 + i.val < 4096 := by omega
  have hj : t.val / 2 % 2 * 1024 + j.val < 2048 := by omega
  rw [rd_of _ hi hj]
  unfold iblk M1
  refine Eq.trans ?_ (congrArg (V m c (Pipeline.arrRef spec0 1) : FVec Ideal S4096x2048 .bf16) (emb_1 t i j hi hj))
  rfl
/-! ## The accumulator -/

/-- A term of the product at row `a` and column `b`. -/
def tm (a b k : ℕ) : EReal := rd (M0 m c) k a * rd (M1 m c) k b

/-- One point adds its block of terms. -/
theorem add_block (t : Fin cfg0.N) (s : Vec Ideal S512x1024 .f32) (i : Fin 512) (j : Fin 1024)
    (hs : s (ix2 i j) = psum (tm m c (t.val / 4 * 512 + i.val) (t.val / 2 % 2 * 1024 + j.val)) (t.val % 2 * 2048)) :
    k0_pay2 (F := Ideal) (s) (iblk m c 0 t) (iblk m c 1 t) (ix2 i j)
      = psum (tm m c (t.val / 4 * 512 + i.val) (t.val / 2 % 2 * 1024 + j.val)) ((t.val % 2 + 1) * 2048) := by
  rw [pay2_at, hs, ← psum_step]
  simp only [blk_0, blk_1]
  unfold tm
  rfl

theorem scr_first (t : Fin cfg0.N) (h : t.val % 2 = 0) : (outsAt0 m c t.val t.isLt).2 = k0_pay2 (F := Ideal) (k0_pay1 (F := Ideal)) (iblk m c 0 t) (iblk m c 1 t) := by
  rw [outsAt0_A m c t h (by omega)]
  dsimp only
  rw [scr_A]

theorem scr_next (t : Fin cfg0.N) (h : ¬ t.val % 2 = 0) :
    (outsAt0 m c t.val t.isLt).2 = k0_pay2 (F := Ideal) ((outsAt0 m c (t.val - 1) (Nat.lt_of_le_of_lt (Nat.sub_le _ _) t.isLt)).2) (iblk m c 0 t) (iblk m c 1 t) := by
  rw [outsAt0_B m c t (by omega) (by omega)]
  dsimp only
  rw [scr_B]
theorem out_last (t : Fin cfg0.N) (h : t.val % 2 = 1) :
    (outsAt0 m c t.val t.isLt).1 = k0_pay3 (F := Ideal) (outsAt0 m c t.val t.isLt).2 := by
  rw [scr_next m c t (by omega), outsAt0_B m c t (by omega) h]
  dsimp only
  rw [out_B]

/-- What the accumulator holds after each point. -/
theorem scr_holds : ∀ (n : ℕ) (hn : n < cfg0.N) (i : Fin 512) (j : Fin 1024),
    (outsAt0 m c n hn).2 (ix2 i j) = psum (tm m c (n / 4 * 512 + i.val) (n / 2 % 2 * 1024 + j.val)) ((n % 2 + 1) * 2048) := by
  have first : ∀ (t : Fin cfg0.N) (h : t.val % 2 = 0) (i : Fin 512) (j : Fin 1024),
      (outsAt0 m c t.val t.isLt).2 (ix2 i j) = psum (tm m c (t.val / 4 * 512 + i.val) (t.val / 2 % 2 * 1024 + j.val)) ((t.val % 2 + 1) * 2048) := fun t h i j => by
    rw [scr_first m c t h]
    refine add_block m c t _ i j ?_
    rw [h, Nat.zero_mul, psum_zero, pay1_at]
  intro n
  induction n with
  | zero => exact fun hn i j => first ⟨0, hn⟩ rfl i j
  | succ n ih =>
    intro hn i j
    by_cases h : (n + 1) % 2 = 0
    · exact first ⟨n + 1, hn⟩ h i j
    · rw [scr_next m c ⟨n + 1, hn⟩ h]
      refine add_block m c ⟨n + 1, hn⟩ _ i j ?_
      refine (ih (Nat.lt_of_succ_lt hn) i j).trans ?_
      have e1 : (n + 1) / 4 = n / 4 := by omega
      have e2 : (n + 1) / 2 % 2 = n / 2 % 2 := by omega
      have e3 : (n + 1) % 2 = n % 2 + 1 := by omega
      dsimp only
      rw [e1, e2, e3]

/-! ## The result -/

/-- The result array. -/
def G : FVec Ideal S5632x2048 .f32 := fun x => psum (tm m c (x 0).val (x 1).val) 4096 * Ideal.ofBits .f32 0x3F000000#32

theorem index_out : ∀ t : Fin cfg0.N, win0_2.index t (0 : Fin 2) = t.val / 4 ∧ win0_2.index t (1 : Fin 2) = t.val / 2 % 2 :=
  (by decide +kernel : ∀ t : Fin grid0.N, _)

theorem emb_out (t : Fin cfg0.N) (i : Fin 512) (j : Fin 1024) (hi : t.val / 4 * 512 + i.val < 5632) (hj : t.val / 2 % 2 * 1024 + j.val < 2048) :
    ((cfg0.win 2).rect t).emb (ix2 i j) = (ix2 ⟨t.val / 4 * 512 + i.val, hi⟩ ⟨t.val / 2 % 2 * 1024 + j.val, hj⟩ : S5632x2048.Idx) := by
  funext a
  refine Fin.ext ((Pipeline.Window.rect_emb_val _ t _ a).trans ?_)
  match a with
  | ⟨0, _⟩ => show win0_2.index t (0 : Fin 2) * 512 + i.val = _; rw [(index_out t).1]; rfl
  | ⟨1, _⟩ => show win0_2.index t (1 : Fin 2) * 1024 + j.val = _; rw [(index_out t).2]; rfl

theorem read_out (Z : FVec Ideal S5632x2048 .f32) (t : Fin cfg0.N) (i : Fin 512) (j : Fin 1024) (hi : t.val / 4 * 512 + i.val < 5632) (hj : t.val / 2 % 2 * 1024 + j.val < 2048) :
    ((cfg0.win 2).blk t).view.read (Elt Ideal) Z (ix2 i j) = Z (ix2 ⟨t.val / 4 * 512 + i.val, hi⟩ ⟨t.val / 2 % 2 * 1024 + j.val, hj⟩) := by
  refine Eq.trans ?_ (congrArg Z (emb_out t i j hi hj))
  rfl

theorem flushed (t : Fin cfg0.N) (hf : (cfg0.win 2).flush t = true) :
    (dats m 0 c).flushed 2 t = ((cfg0.win 2).blk t).view.read (Elt Ideal) (G m c) := by
  have h := (flush0_2 t).mp hf
  have ht := lt_N t
  rw [Value.flushed2]
  refine funext fun (y : S512x1024.Idx) => ?_
  obtain ⟨i, j, rfl⟩ : ∃ i j, y = ix2 i j := ⟨y 0, y 1, funext fun a => by match a with | ⟨0, _⟩ => rfl | ⟨1, _⟩ => rfl⟩
  refine Eq.trans ?_ (read_out (G m c) t i j (by omega) (by omega)).symm
  show (outsAt0 m c t.val t.isLt).1 (ix2 i j) = _
  rw [out_last m c t h, pay3_at, scr_holds m c t.val t.isLt, h]
  rfl

/-- The result array after the run. -/
theorem final : (dats m 0 c).arrAt 2 cfg0.N = G m c :=
  (dats m 0 c).arrAt_eq_of_cover 2 (G m c) (fun t hf => flushed m c t hf) (fun i => (Value.covered_iff2 i).2 (by
    have h0 : (i 0).val < 5632 := (i 0).isLt; have h1 : (i 1).val < 2048 := (i 1).isLt; omega))

end Cert.Ffn3
end
-- ==== Proof.Ffn.Claim3.lean ====
/-
  Call 3 and its reference return the same array over the extended reals.
-/
module

public import proofs.«01_k».proof.Defs
public import proofs.«01_k».proof.Proof.Ffn.Call3
public import proofs.«01_k».proof.Proof.Gen.Kernel3.Frame
public import proofs.«01_k».proof.Proof.Gen.Reference3Ideal.Run
public import Idealize.ShloMosaic.Lib.Quiescent

@[expose] public section

set_option maxRecDepth 16384

noncomputable section

namespace Cert.Ffn3

open Cert.Ffn
open Idealize.ShloMosaic Idealize.ShloMosaic.TcCoe Idealize.ShloMosaic.Tactic Idealize.SL.Sem

section
open Cert.Reference3Ideal Cert.Reference3Ideal.Gen

/-- The reference's result. -/
def rout (z0 : FVec Ideal S4096x5632 .bf16) (z1 : FVec Ideal S4096x2048 .bf16) : FVec Ideal S5632x2048 .f32 :=
  transpose S5632x2048 [1, 0] (Host.dotGeneral dot_S4096x2048_S4096x5632_S2048x5632_0_0_1_1_n_n none (mulf (broadcastInDim S4096x2048 ![] bcast_S_S4096x2048 (constant S_ .f32 0x3F000000#32)) (extf .f32 z1 bitsLt_bf16_f32)) (extf .f32 z0 bitsLt_bf16_f32)) transposes_S2048x5632_S5632x2048_1_0

theorem rout_at (z0 : FVec Ideal S4096x5632 .bf16) (z1 : FVec Ideal S4096x2048 .bf16) (a : Fin 5632) (b : Fin 2048) :
    rout z0 z1 (ix2 a b) = ∑ k : Fin 4096, Ideal.ofBits .f32 0x3F000000#32 * z1 (ix2 k b) * z0 (ix2 k a) := by
  pointwise [rout]

end

section
open Cert.Kernel3Ideal Cert.Kernel3Ideal.Gen

variable (m : (ℓ : Loc nD τ sig) → Buf (Elt Ideal) ℓ) (c : Dev nD)

theorem G_at (a : Fin 5632) (b : Fin 2048) :
    G m c (ix2 a b) = (∑ k, M0 m c k a * M1 m c k b) * Ideal.ofBits .f32 0x3F000000#32 := by
  show psum (tm m c a.val b.val) 4096 * _ = _
  rw [psum_all]
  unfold tm
  simp only [rd_val]

end

theorem algebraic : Cert.algebraic_Kernel3Ideal_Reference3Ideal := by
  intro m g m' g' _ ha
  refine ⟨fun c => G m c, ?_, ?_⟩
  · exact (θ_run Cert.Kernel3Ideal.defs _ _).mono (fun r h c => ⟨(h c).1.trans (final m c), (h c).2⟩) (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    obtain ⟨e0, e1⟩ := ha c
    show rout (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = G m c
    refine funext fun (x : Cert.Kernel3Ideal.S5632x2048.Idx) => ?_
    obtain ⟨a, b, rfl⟩ : ∃ a b, x = ix2 a b := ⟨x 0, x 1, funext fun q => by match q with | ⟨0, _⟩ => rfl | ⟨1, _⟩ => rfl⟩
    rw [G_at]
    refine (rout_at _ _ a b).trans ?_
    rw [half_word, sum_mul_pos _ _ half_nonneg (EReal.coe_ne_top _)]
    refine Finset.sum_congr rfl fun k _ => ?_
    refine (congrArg₂ (fun x y : EReal => _ * x * y) (congrFun e1 (ix2 k b)) (congrFun e0 (ix2 k a))).trans ?_
    exact (by intro h x y; rw [mul_assoc, mul_comm, mul_comm x y] : ∀ h x y : EReal, h * x * y = y * x * h) _ _ _

theorem frame_kernel : Cert.quiescent_Kernel3 := fun m ρ _ => Cert.Kernel3.Gen.frame (F := Bits) m ρ

theorem frame_ideal : Cert.quiescent_Kernel3Ideal := fun m ρ _ => Cert.Kernel3Ideal.Gen.frame (F := Ideal) m ρ

theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Ffn3
end
-- ==== Proof.Ffn.Call4.lean ====
/-
  The product of call 4: what its grid leaves in the result, as one sum over the contracted axis.
-/
module

public import proofs.«01_k».proof.Proof.Gen.Kernel4Ideal.Value
public import proofs.«01_k».proof.Proof.Ffn.Sum
public import Idealize.ShloMosaic.Lib.Pointwise

@[expose] public section

set_option maxRecDepth 16384

noncomputable section

namespace Cert.Ffn4

open Cert.Kernel4Ideal Cert.Kernel4Ideal.Gen Cert.Ffn
open Idealize.ShloMosaic Idealize.ShloMosaic.TcCoe Idealize.ShloMosaic.Tactic Idealize.SL.Sem

/-! ## The vector operations at an index -/

theorem pay1_at (i : Fin 1024) (j : Fin 1024) : k0_pay1 (F := Ideal) (ix2 i j) = 0 := by
  pointwise [k0_pay1]
theorem pay2_at (a : Vec Ideal S1024x1024 .f32) (x : Vec Ideal S1024x1408 .bf16) (y : Vec Ideal S1024x1408 .bf16) (i : Fin 1024) (j : Fin 1024) :
    k0_pay2 (F := Ideal) a x y (ix2 i j) = a (ix2 i j) + ∑ k : Fin 1408, x (ix2 i k) * y (ix2 j k) := by
  pointwise [k0_pay2]
theorem pay3_at (a : Vec Ideal S1024x1024 .f32) (x : Vec Ideal S1024x1408 .bf16) (y : Vec Ideal S1024x1408 .bf16) (i : Fin 1024) (j : Fin 1024) :
    k0_pay3 (F := Ideal) a x y (ix2 i j) = a (ix2 i j) + ∑ k : Fin 1408, x (ix2 i k) * y (ix2 j k) := by
  pointwise [k0_pay3]
theorem pay4_at (a : Vec Ideal S1024x1024 .f32) (i : Fin 1024) (j : Fin 1024) :
    k0_pay4 (F := Ideal) a (ix2 i j) = a (ix2 i j) * Ideal.ofBits .f32 0x3F800000#32 := by
  pointwise [k0_pay4]
/-! ## The cases of the body -/

theorem hz : (![0, 0] : Fin 2 → Nat) = fun _ => 0 := funext fun a => by fin_cases a <;> rfl

/-- What the last store over a whole buffer left is what a load of it reads. -/
theorem readCov_top {Val : EltTy → Type} {S : Shape} {e : EltTy} [∀ e, Nonempty (Val e)] {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩), View.canon_cons_unit_zero h, View.ld_unit_zero h]

theorem scr_A (c : Dev nD) (i : grid0.Coords) (a3 : Memref sig .tc .vmem S1024x1408 .bf16) (h3 : a3.IsWhole) (a4 : Memref sig .tc .vmem S1024x1408 .bf16) (h4 : a4.IsWhole) (a5 : Memref sig .tc .vmem S1024x1408 .bf16) (h5 : a5.IsWhole) (a6 : Memref sig .tc .vmem S1024x1408 .bf16) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i) (x0 : Vec Ideal S1024x1408 .bf16) (x1 : Vec Ideal S1024x1408 .bf16) (x2 : Vec Ideal S1024x1408 .bf16) (x3 : Vec Ideal S1024x1408 .bf16) :
    sout0_A_0 c i a3 h3 a4 h4 a5 h5 a6 h6 a7 h7 a8 h8 hc0 hc1 x0 x1 x2 x3 = k0_pay3 (F := Ideal) (k0_pay2 (F := Ideal) (k0_pay1 (F := Ideal)) x0 x1) x2 x3 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz]
  simp only [readCov_top (S := S1024x1024) _ hz, View.readAt_eq_ld, h3.read_unread, h4.read_unread, h5.read_unread, h6.read_unread, h7.read_unread, h8.read_unread, View.ld_unit_zero (S := S1024x1408) hz, View.ld_unit_zero (S := S1024x1024) hz]
theorem scr_B (c : Dev nD) (i : grid0.Coords) (a3 : Memref sig .tc .vmem S1024x1408 .bf16) (h3 : a3.IsWhole) (a4 : Memref sig .tc .vmem S1024x1408 .bf16) (h4 : a4.IsWhole) (a5 : Memref sig .tc .vmem S1024x1408 .bf16) (h5 : a5.IsWhole) (a6 : Memref sig .tc .vmem S1024x1408 .bf16) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i) (x0 : Vec Ideal S1024x1408 .bf16) (x1 : Vec Ideal S1024x1408 .bf16) (x2 : Vec Ideal S1024x1408 .bf16) (x3 : Vec Ideal S1024x1408 .bf16) (s : Vec Ideal S1024x1024 .f32) :
    sout0_B_0 c i a3 h3 a4 h4 a5 h5 a6 h6 a7 h7 a8 h8 hc0 hc1 x0 x1 x2 x3 s = k0_pay3 (F := Ideal) (k0_pay2 (F := Ideal) (s) x0 x1) x2 x3 := by
  unfold sout0_B_0
  rw [View.read_writes_eq_canon _ _ _ (scover0_B_0 c i a3 h3 a4 h4 a5 h5 a6 h6 a7 h7 a8 h8 hc0 hc1 x0 x1 x2 x3 s)]
  unfold kernelRun0_B
  dsimp only
  sl_unfold_words
  rw [View.canon_cons_unit_zero (S := S1024x1024) hz]
  simp only [readCov_top (S := S1024x1024) _ hz, View.readAt_eq_ld, h3.read_unread, h4.read_unread, h5.read_unread, h6.read_unread, h7.read_unread, h8.read_unread, View.ld_unit_zero (S := S1024x1408) hz, View.ld_unit_zero (S := S1024x1024) hz]
theorem scr_C (c : Dev nD) (i : grid0.Coords) (a3 : Memref sig .tc .vmem S1024x1408 .bf16) (h3 : a3.IsWhole) (a4 : Memref sig .tc .vmem S1024x1408 .bf16) (h4 : a4.IsWhole) (a5 : Memref sig .tc .vmem S1024x1408 .bf16) (h5 : a5.IsWhole) (a6 : Memref sig .tc .vmem S1024x1408 .bf16) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x0 : Vec Ideal S1024x1408 .bf16) (x1 : Vec Ideal S1024x1408 .bf16) (x2 : Vec Ideal S1024x1408 .bf16) (x3 : Vec Ideal S1024x1408 .bf16) (s : Vec Ideal S1024x1024 .f32) :
    sout0_C_0 c i a3 h3 a4 h4 a5 h5 a6 h6 a7 h7 a8 h8 hc0 hc1 x0 x1 x2 x3 s = k0_pay3 (F := Ideal) (k0_pay2 (F := Ideal) (s) x0 x1) x2 x3 := by
  unfold sout0_C_0
  rw [View.read_writes_eq_canon _ _ _ (scover0_C_0 c i a3 h3 a4 h4 a5 h5 a6 h6 a7 h7 a8 h8 hc0 hc1 x0 x1 x2 x3 s)]
  unfold kernelRun0_C
  dsimp only
  sl_unfold_words
  rw [View.canon_cons_unit_zero (S := S1024x1024) hz]
  simp only [readCov_top (S := S1024x1024) _ hz, View.readAt_eq_ld, h3.read_unread, h4.read_unread, h5.read_unread, h6.read_unread, h7.read_unread, h8.read_unread, View.ld_unit_zero (S := S1024x1408) hz, View.ld_unit_zero (S := S1024x1024) hz]
theorem out_C (c : Dev nD) (i : grid0.Coords) (a3 : Memref sig .tc .vmem S1024x1408 .bf16) (h3 : a3.IsWhole) (a4 : Memref sig .tc .vmem S1024x1408 .bf16) (h4 : a4.IsWhole) (a5 : Memref sig .tc .vmem S1024x1408 .bf16) (h5 : a5.IsWhole) (a6 : Memref sig .tc .vmem S1024x1408 .bf16) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x0 : Vec Ideal S1024x1408 .bf16) (x1 : Vec Ideal S1024x1408 .bf16) (x2 : Vec Ideal S1024x1408 .bf16) (x3 : Vec Ideal S1024x1408 .bf16) (s : Vec Ideal S1024x1024 .f32) :
    out0_C_4 c i a3 h3 a4 h4 a5 h5 a6 h6 a7 h7 a8 h8 hc0 hc1 x0 x1 x2 x3 s = k0_pay4 (F := Ideal) (k0_pay3 (F := Ideal) (k0_pay2 (F := Ideal) (s) x0 x1) x2 x3) := by
  unfold out0_C_4
  rw [View.read_writes_eq_canon _ _ _ (cover0_C_4 c i a3 h3 a4 h4 a5 h5 a6 h6 a7 h7 a8 h8 hc0 hc1 x0 x1 x2 x3 s)]
  unfold kernelRun0_C
  dsimp only
  sl_unfold_words
  rw [View.canon_cons_unit_zero (S := S1024x1024) hz]
  simp only [readCov_top (S := S1024x1024) _ hz, View.readAt_eq_ld, h3.read_unread, h4.read_unread, h5.read_unread, h6.read_unread, h7.read_unread, h8.read_unread, View.ld_unit_zero (S := S1024x1408) hz, View.ld_unit_zero (S := S1024x1024) hz]

/-! ## The blocks a point reads -/

variable (m : (ℓ : Loc nD τ sig) → Buf (Elt Ideal) ℓ) (c : Dev nD)

theorem lt_N (t : Fin cfg0.N) : t.val < 32 := lt_of_lt_of_eq t.isLt (show cfg0.N = 32 from N_0)
/-- Operand 0, at a row and a column. -/
def M0 : Fin 4096 → Fin 5632 → EReal := fun i j => (V m c (Pipeline.arrRef spec0 0) : FVec Ideal S4096x5632 .bf16) (ix2 i j)

theorem index_0 : ∀ t : Fin cfg0.N, win0_0.index t (0 : Fin 2) = t.val / 8 ∧ win0_0.index t (1 : Fin 2) = t.val % 4 :=
  (by decide +kernel : ∀ t : Fin grid0.N, _)

theorem emb_0 (t : Fin cfg0.N) (i : Fin 1024) (j : Fin 1408) (hi : t.val / 8 * 1024 + i.val < 4096) (hj : t.val % 4 * 1408 + j.val < 5632) :
    ((cfg0.win 0).rect t).emb (ix2 i j) = (ix2 ⟨t.val / 8 * 1024 + i.val, hi⟩ ⟨t.val % 4 * 1408 + j.val, hj⟩ : S4096x5632.Idx) := by
  funext a
  refine Fin.ext ((Pipeline.Window.rect_emb_val _ t _ a).trans ?_)
  match a with
  | ⟨0, _⟩ => show win0_0.index t (0 : Fin 2) * 1024 + i.val = _; rw [(index_0 t).1]; rfl
  | ⟨1, _⟩ => show win0_0.index t (1 : Fin 2) * 1408 + j.val = _; rw [(index_0 t).2]; rfl

theorem blk_0 (t : Fin cfg0.N) (i : Fin 1024) (j : Fin 1408) :
    (iblk m c 0 t : Vec Ideal S1024x1408 .bf16) (ix2 i j) = rd (M0 m c) (t.val / 8 * 1024 + i.val) (t.val % 4 * 1408 + j.val) := by
  have ht := lt_N t
  have hi : t.val / 8 * 1024 + i.val < 4096 := by omega
  have hj : t.val % 4 * 1408 + j.val < 5632 := by omega
  rw [rd_of _ hi hj]
  unfold iblk M0
  refine Eq.trans ?_ (congrArg (V m c (Pipeline.arrRef spec0 0) : FVec Ideal S4096x5632 .bf16) (emb_0 t i j hi hj))
  rfl
/-- Operand 1, at a row and a column. -/
def M1 : Fin 2048 → Fin 5632 → EReal := fun i j => (V m c (Pipeline.arrRef spec0 1) : FVec Ideal S2048x5632 .bf16) (ix2 i j)

theorem index_1 : ∀ t : Fin cfg0.N, win0_1.index t (0 : Fin 2) = t.val / 4 % 2 ∧ win0_1.index t (1 : Fin 2) = t.val % 4 :=
  (by decide +kernel : ∀ t : Fin grid0.N, _)

theorem emb_1 (t : Fin cfg0.N) (i : Fin 1024) (j : Fin 1408) (hi : t.val / 4 % 2 * 1024 + i.val < 2048) (hj : t.val % 4 * 1408 + j.val < 5632) :
    ((cfg0.win 1).rect t).emb (ix2 i j) = (ix2 ⟨t.val / 4 % 2 * 1024 + i.val, hi⟩ ⟨t.val % 4 * 1408 + j.val, hj⟩ : S2048x5632.Idx) := by
  funext a
  refine Fin.ext ((Pipeline.Window.rect_emb_val _ t _ a).trans ?_)
  match a with
  | ⟨0, _⟩ => show win0_1.index t (0 : Fin 2) * 1024 + i.val = _; rw [(index_1 t).1]; rfl
  | ⟨1, _⟩ => show win0_1.index t (1 : Fin 2) * 1408 + j.val = _; rw [(index_1 t).2]; rfl

theorem blk_1 (t : Fin cfg0.N) (i : Fin 1024) (j : Fin 1408) :
    (iblk m c 1 t : Vec Ideal S1024x1408 .bf16) (ix2 i j) = rd (M1 m c) (t.val / 4 % 2 * 1024 + i.val) (t.val % 4 * 1408 + j.val) := by
  have ht := lt_N t
  have hi : t.val / 4 % 2 * 1024 + i.val < 2048 := by omega
  have hj : t.val % 4 * 1408 + j.val < 5632 := by omega
  rw [rd_of _ hi hj]
  unfold iblk M1
  refine Eq.trans ?_ (congrArg (V m c (Pipeline.arrRef spec0 1) : FVec Ideal S2048x5632 .bf16) (emb_1 t i j hi hj))
  rfl
/-- Operand 2, at a row and a column. -/
def M2 : Fin 4096 → Fin 5632 → EReal := fun i j => (V m c (Pipeline.arrRef spec0 2) : FVec Ideal S4096x5632 .bf16) (ix2 i j)

theorem index_2 : ∀ t : Fin cfg0.N, win0_2.index t (0 : Fin 2) = t.val / 8 ∧ win0_2.index t (1 : Fin 2) = t.val % 4 :=
  (by decide +kernel : ∀ t : Fin grid0.N, _)

theorem emb_2 (t : Fin cfg0.N) (i : Fin 1024) (j : Fin 1408) (hi : t.val / 8 * 1024 + i.val < 4096) (hj : t.val % 4 * 1408 + j.val < 5632) :
    ((cfg0.win 2).rect t).emb (ix2 i j) = (ix2 ⟨t.val / 8 * 1024 + i.val, hi⟩ ⟨t.val % 4 * 1408 + j.val, hj⟩ : S4096x5632.Idx) := by
  funext a
  refine Fin.ext ((Pipeline.Window.rect_emb_val _ t _ a).trans ?_)
  match a with
  | ⟨0, _⟩ => show win0_2.index t (0 : Fin 2) * 1024 + i.val = _; rw [(index_2 t).1]; rfl
  | ⟨1, _⟩ => show win0_2.index t (1 : Fin 2) * 1408 + j.val = _; rw [(index_2 t).2]; rfl

theorem blk_2 (t : Fin cfg0.N) (i : Fin 1024) (j : Fin 1408) :
    (iblk m c 2 t : Vec Ideal S1024x1408 .bf16) (ix2 i j) = rd (M2 m c) (t.val / 8 * 1024 + i.val) (t.val % 4 * 1408 + j.val) := by
  have ht := lt_N t
  have hi : t.val / 8 * 1024 + i.val < 4096 := by omega
  have hj : t.val % 4 * 1408 + j.val < 5632 := by omega
  rw [rd_of _ hi hj]
  unfold iblk M2
  refine Eq.trans ?_ (congrArg (V m c (Pipeline.arrRef spec0 2) : FVec Ideal S4096x5632 .bf16) (emb_2 t i j hi hj))
  rfl
/-- Operand 3, at a row and a column. -/
def M3 : Fin 2048 → Fin 5632 → EReal := fun i j => (V m c (Pipeline.arrRef spec0 3) : FVec Ideal S2048x5632 .bf16) (ix2 i j)

theorem index_3 : ∀ t : Fin cfg0.N, win0_3.index t (0 : Fin 2) = t.val / 4 % 2 ∧ win0_3.index t (1 : Fin 2) = t.val % 4 :=
  (by decide +kernel : ∀ t : Fin grid0.N, _)

theorem emb_3 (t : Fin cfg0.N) (i : Fin 1024) (j : Fin 1408) (hi : t.val / 4 % 2 * 1024 + i.val < 2048) (hj : t.val % 4 * 1408 + j.val < 5632) :
    ((cfg0.win 3).rect t).emb (ix2 i j) = (ix2 ⟨t.val / 4 % 2 * 1024 + i.val, hi⟩ ⟨t.val % 4 * 1408 + j.val, hj⟩ : S2048x5632.Idx) := by
  funext a
  refine Fin.ext ((Pipeline.Window.rect_emb_val _ t _ a).trans ?_)
  match a with
  | ⟨0, _⟩ => show win0_3.index t (0 : Fin 2) * 1024 + i.val = _; rw [(index_3 t).1]; rfl
  | ⟨1, _⟩ => show win0_3.index t (1 : Fin 2) * 1408 + j.val = _; rw [(index_3 t).2]; rfl

theorem blk_3 (t : Fin cfg0.N) (i : Fin 1024) (j : Fin 1408) :
    (iblk m c 3 t : Vec Ideal S1024x1408 .bf16) (ix2 i j) = rd (M3 m c) (t.val / 4 % 2 * 1024 + i.val) (t.val % 4 * 1408 + j.val) := by
  have ht := lt_N t
  have hi : t.val / 4 % 2 * 1024 + i.val < 2048 := by omega
  have hj : t.val % 4 * 1408 + j.val < 5632 := by omega
  rw [rd_of _ hi hj]
  unfold iblk M3
  refine Eq.trans ?_ (congrArg (V m c (Pipeline.arrRef spec0 3) : FVec Ideal S2048x5632 .bf16) (emb_3 t i j hi hj))
  rfl
/-! ## The accumulator -/

/-- A term of the product at row `a` and column `b`. -/
def tm (a b k : ℕ) : EReal := rd (M0 m c) a k * rd (M1 m c) b k + rd (M2 m c) a k * rd (M3 m c) b k

/-- One point adds its block of terms. -/
theorem add_block (t : Fin cfg0.N) (s : Vec Ideal S1024x1024 .f32) (i : Fin 1024) (j : Fin 1024)
    (hs : s (ix2 i j) = psum (tm m c (t.val / 8 * 1024 + i.val) (t.val / 4 % 2 * 1024 + j.val)) (t.val % 4 * 1408)) :
    k0_pay3 (F := Ideal) (k0_pay2 (F := Ideal) (s) (iblk m c 0 t) (iblk m c 1 t)) (iblk m c 2 t) (iblk m c 3 t) (ix2 i j)
      = psum (tm m c (t.val / 8 * 1024 + i.val) (t.val / 4 % 2 * 1024 + j.val)) ((t.val % 4 + 1) * 1408) := by
  rw [pay3_at, pay2_at, hs, ← psum_step]
  simp only [blk_0, blk_1, blk_2, blk_3, add_assoc]
  unfold tm
  rw [← Finset.sum_add_distrib]

theorem scr_first (t : Fin cfg0.N) (h : t.val % 4 = 0) : (outsAt0 m c t.val t.isLt).2 = k0_pay3 (F := Ideal) (k0_pay2 (F := Ideal) (k0_pay1 (F := Ideal)) (iblk m c 0 t) (iblk m c 1 t)) (iblk m c 2 t) (iblk m c 3 t) := by
  rw [outsAt0_A m c t h (by omega)]
  dsimp only
  rw [scr_A]

theorem scr_next (t : Fin cfg0.N) (h : ¬ t.val % 4 = 0) :
    (outsAt0 m c t.val t.isLt).2 = k0_pay3 (F := Ideal) (k0_pay2 (F := Ideal) ((outsAt0 m c (t.val - 1) (Nat.lt_of_le_of_lt (Nat.sub_le _ _) t.isLt)).2) (iblk m c 0 t) (iblk m c 1 t)) (iblk m c 2 t) (iblk m c 3 t) := by
  by_cases h1 : t.val % 4 = 3
  · rw [outsAt0_C m c t h h1]
    dsimp only
    rw [scr_C]
  · rw [outsAt0_B m c t h h1]
    dsimp only
    rw [scr_B]
theorem out_last (t : Fin cfg0.N) (h : t.val % 4 = 3) :
    (outsAt0 m c t.val t.isLt).1 = k0_pay4 (F := Ideal) (outsAt0 m c t.val t.isLt).2 := by
  rw [scr_next m c t (by omega), outsAt0_C m c t (by omega) h]
  dsimp only
  rw [out_C]

/-- What the accumulator holds after each point. -/
theorem scr_holds : ∀ (n : ℕ) (hn : n < cfg0.N) (i : Fin 1024) (j : Fin 1024),
    (outsAt0 m c n hn).2 (ix2 i j) = psum (tm m c (n / 8 * 1024 + i.val) (n / 4 % 2 * 1024 + j.val)) ((n % 4 + 1) * 1408) := by
  have first : ∀ (t : Fin cfg0.N) (h : t.val % 4 = 0) (i : Fin 1024) (j : Fin 1024),
      (outsAt0 m c t.val t.isLt).2 (ix2 i j) = psum (tm m c (t.val / 8 * 1024 + i.val) (t.val / 4 % 2 * 1024 + j.val)) ((t.val % 4 + 1) * 1408) := fun t h i j => by
    rw [scr_first m c t h]
    refine add_block m c t _ i j ?_
    rw [h, Nat.zero_mul, psum_zero, pay1_at]
  intro n
  induction n with
  | zero => exact fun hn i j => first ⟨0, hn⟩ rfl i j
  | succ n ih =>
    intro hn i j
    by_cases h : (n + 1) % 4 = 0
    · exact first ⟨n + 1, hn⟩ h i j
    · rw [scr_next m c ⟨n + 1, hn⟩ h]
      refine add_block m c ⟨n + 1, hn⟩ _ i j ?_
      refine (ih (Nat.lt_of_succ_lt hn) i j).trans ?_
      have e1 : (n + 1) / 8 = n / 8 := by omega
      have e2 : (n + 1) / 4 % 2 = n / 4 % 2 := by omega
      have e3 : (n + 1) % 4 = n % 4 + 1 := by omega
      dsimp only
      rw [e1, e2, e3]

/-! ## The result -/

/-- The result array. -/
def G : FVec Ideal S4096x2048 .f32 := fun x => psum (tm m c (x 0).val (x 1).val) 5632 * Ideal.ofBits .f32 0x3F800000#32

theorem index_out : ∀ t : Fin cfg0.N, win0_4.index t (0 : Fin 2) = t.val / 8 ∧ win0_4.index t (1 : Fin 2) = t.val / 4 % 2 :=
  (by decide +kernel : ∀ t : Fin grid0.N, _)

theorem emb_out (t : Fin cfg0.N) (i : Fin 1024) (j : Fin 1024) (hi : t.val / 8 * 1024 + i.val < 4096) (hj : t.val / 4 % 2 * 1024 + j.val < 2048) :
    ((cfg0.win 4).rect t).emb (ix2 i j) = (ix2 ⟨t.val / 8 * 1024 + i.val, hi⟩ ⟨t.val / 4 % 2 * 1024 + j.val, hj⟩ : S4096x2048.Idx) := by
  funext a
  refine Fin.ext ((Pipeline.Window.rect_emb_val _ t _ a).trans ?_)
  match a with
  | ⟨0, _⟩ => show win0_4.index t (0 : Fin 2) * 1024 + i.val = _; rw [(index_out t).1]; rfl
  | ⟨1, _⟩ => show win0_4.index t (1 : Fin 2) * 1024 + j.val = _; rw [(index_out t).2]; rfl

theorem read_out (Z : FVec Ideal S4096x2048 .f32) (t : Fin cfg0.N) (i : Fin 1024) (j : Fin 1024) (hi : t.val / 8 * 1024 + i.val < 4096) (hj : t.val / 4 % 2 * 1024 + j.val < 2048) :
    ((cfg0.win 4).blk t).view.read (Elt Ideal) Z (ix2 i j) = Z (ix2 ⟨t.val / 8 * 1024 + i.val, hi⟩ ⟨t.val / 4 % 2 * 1024 + j.val, hj⟩) := by
  refine Eq.trans ?_ (congrArg Z (emb_out t i j hi hj))
  rfl

theorem flushed (t : Fin cfg0.N) (hf : (cfg0.win 4).flush t = true) :
    (dats m 0 c).flushed 4 t = ((cfg0.win 4).blk t).view.read (Elt Ideal) (G m c) := by
  have h := (flush0_4 t).mp hf
  have ht := lt_N t
  rw [Value.flushed4]
  refine funext fun (y : S1024x1024.Idx) => ?_
  obtain ⟨i, j, rfl⟩ : ∃ i j, y = ix2 i j := ⟨y 0, y 1, funext fun a => by match a with | ⟨0, _⟩ => rfl | ⟨1, _⟩ => rfl⟩
  refine Eq.trans ?_ (read_out (G m c) t i j (by omega) (by omega)).symm
  show (outsAt0 m c t.val t.isLt).1 (ix2 i j) = _
  rw [out_last m c t h, pay4_at, scr_holds m c t.val t.isLt, h]
  rfl

/-- The result array after the run. -/
theorem final : (dats m 0 c).arrAt 4 cfg0.N = G m c :=
  (dats m 0 c).arrAt_eq_of_cover 4 (G m c) (fun t hf => flushed m c t hf) (fun i => (Value.covered_iff4 i).2 (by
    have h0 : (i 0).val < 4096 := (i 0).isLt; have h1 : (i 1).val < 2048 := (i 1).isLt; omega))

end Cert.Ffn4
end
-- ==== Proof.Ffn.Claim4.lean ====
/-
  Call 4 and its reference return the same array over the extended reals.
-/
module

public import proofs.«01_k».proof.Defs
public import proofs.«01_k».proof.Proof.Ffn.Call4
public import proofs.«01_k».proof.Proof.Gen.Kernel4.Frame
public import proofs.«01_k».proof.Proof.Gen.Reference4Ideal.Run
public import Idealize.ShloMosaic.Lib.Quiescent

@[expose] public section

set_option maxRecDepth 16384

noncomputable section

namespace Cert.Ffn4

open Cert.Ffn
open Idealize.ShloMosaic Idealize.ShloMosaic.TcCoe Idealize.ShloMosaic.Tactic Idealize.SL.Sem

section
open Cert.Reference4Ideal Cert.Reference4Ideal.Gen

/-- The reference's result. -/
def rout (z0 : FVec Ideal S4096x5632 .bf16) (z1 : FVec Ideal S4096x5632 .bf16) (z2 : FVec Ideal S2048x5632 .bf16) (z3 : FVec Ideal S2048x5632 .bf16) : FVec Ideal S4096x2048 .f32 :=
  addf (Host.dotGeneral dot_S4096x5632_S2048x5632_S4096x2048_1_1_0_0_n_n none (extf .f32 z1 bitsLt_bf16_f32) (extf .f32 z3 bitsLt_bf16_f32)) (Host.dotGeneral dot_S4096x5632_S2048x5632_S4096x2048_1_1_0_0_n_n none (extf .f32 z0 bitsLt_bf16_f32) (extf .f32 z2 bitsLt_bf16_f32))

theorem rout_at (z0 : FVec Ideal S4096x5632 .bf16) (z1 : FVec Ideal S4096x5632 .bf16) (z2 : FVec Ideal S2048x5632 .bf16) (z3 : FVec Ideal S2048x5632 .bf16) (a : Fin 4096) (b : Fin 2048) :
    rout z0 z1 z2 z3 (ix2 a b) = (∑ k : Fin 5632, z1 (ix2 a k) * z3 (ix2 b k)) + ∑ k : Fin 5632, z0 (ix2 a k) * z2 (ix2 b k) := by
  pointwise [rout]

end

section
open Cert.Kernel4Ideal Cert.Kernel4Ideal.Gen

variable (m : (ℓ : Loc nD τ sig) → Buf (Elt Ideal) ℓ) (c : Dev nD)

theorem G_at (a : Fin 4096) (b : Fin 2048) :
    G m c (ix2 a b) = (∑ k, (M0 m c a k * M1 m c b k + M2 m c a k * M3 m c b k)) * Ideal.ofBits .f32 0x3F800000#32 := by
  show psum (tm m c a.val b.val) 5632 * _ = _
  rw [psum_all]
  unfold tm
  simp only [rd_val]

end

theorem algebraic : Cert.algebraic_Kernel4Ideal_Reference4Ideal := by
  intro m g m' g' _ ha
  refine ⟨fun c => G m c, ?_, ?_⟩
  · exact (θ_run Cert.Kernel4Ideal.defs _ _).mono (fun r h c => ⟨(h c).1.trans (final m c), (h c).2⟩) (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    obtain ⟨e0, e1, e2, e3⟩ := ha c
    show rout (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = G m c
    refine funext fun (x : Cert.Kernel4Ideal.S4096x2048.Idx) => ?_
    obtain ⟨a, b, rfl⟩ : ∃ a b, x = ix2 a b := ⟨x 0, x 1, funext fun q => by match q with | ⟨0, _⟩ => rfl | ⟨1, _⟩ => rfl⟩
    rw [G_at]
    refine (rout_at _ _ _ _ a b).trans ?_
    rw [one_word, mul_one]
    rw [Finset.sum_add_distrib, add_comm (∑ k, M0 m c a k * M1 m c b k)]
    refine congrArg₂ (fun x y : EReal => x + y) (Finset.sum_congr rfl fun k _ => ?_) (Finset.sum_congr rfl fun k _ => ?_)
    · exact congrArg₂ (fun x y : EReal => x * y) (congrFun e1 (ix2 a k)) (congrFun e3 (ix2 b k))
    · exact congrArg₂ (fun x y : EReal => x * y) (congrFun e0 (ix2 a k)) (congrFun e2 (ix2 b k))

theorem frame_kernel : Cert.quiescent_Kernel4 := fun m ρ _ => Cert.Kernel4.Gen.frame (F := Bits) m ρ

theorem frame_ideal : Cert.quiescent_Kernel4Ideal := fun m ρ _ => Cert.Kernel4Ideal.Gen.frame (F := Ideal) m ρ

theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Ffn4
end
-- ==== Proof.Ffn.Call5.lean ====
/-
  The up-projection call: what its grid leaves in its three results.
-/
module

public import proofs.«01_k».proof.Proof.Gen.Kernel5Ideal.Value
public import proofs.«01_k».proof.Proof.Ffn.Sum
public import Idealize.ShloMosaic.Lib.Pointwise

@[expose] public section

set_option maxRecDepth 16384

noncomputable section

namespace Cert.Ffn5

open Cert.Kernel5Ideal Cert.Kernel5Ideal.Gen Cert.Ffn
open Idealize.ShloMosaic Idealize.ShloMosaic.TcCoe Idealize.ShloMosaic.Tactic Idealize.SL.Sem

theorem hz : (![0, 0] : Fin 2 → Nat) = fun _ => 0 := funext fun a => by fin_cases a <;> rfl

/-! ## The vector operations at an index -/

theorem pay1_at (x : Vec Ideal S512x2048 .bf16) (y : Vec Ideal S2048x512 .bf16) (i j : Fin 512) : k0_pay1 (F := Ideal) x y (ix2 i j) = ∑ k : Fin 2048, x (ix2 i k) * y (ix2 k j) := by
  pointwise [k0_pay1]

theorem pay2_at (x : Vec Ideal S512x2048 .bf16) (y : Vec Ideal S2048x512 .bf16) (i j : Fin 512) : k0_pay2 (F := Ideal) x y (ix2 i j) = ∑ k : Fin 2048, x (ix2 i k) * y (ix2 k j) := by
  pointwise [k0_pay2]

theorem pay3_at (x : Vec Ideal S512x2048 .bf16) (y : Vec Ideal S2048x512 .bf16) (i j : Fin 512) : k0_pay3 (F := Ideal) x y (ix2 i j) = ∑ k : Fin 2048, x (ix2 i k) * y (ix2 k j) := pay1_at x y i j

theorem pay4_at (x : Vec Ideal S512x2048 .bf16) (y : Vec Ideal S2048x512 .bf16) (i j : Fin 512) : k0_pay4 (F := Ideal) x y (ix2 i j) = ∑ k : Fin 2048, x (ix2 i k) * y (ix2 k j) := pay2_at x y i j

theorem pay5_at (x : Vec Ideal S512x2048 .bf16) (y : Vec Ideal S2048x512 .bf16) (z : Vec Ideal S2048x512 .bf16) (i j : Fin 512) :
    k0_pay5 (F := Ideal) x y z (ix2 i j) = (∑ k : Fin 2048, x (ix2 i k) * y (ix2 k j)) * Ideal.logistic (∑ k : Fin 2048, x (ix2 i k) * y (ix2 k j)) * (∑ k : Fin 2048, x (ix2 i k) * z (ix2 k j)) := by
  rw [← pay1_at x y i j, ← pay2_at x z i j]
  rfl

/-! ## The blocks a point reads -/

variable (m : (ℓ : Loc nD τ sig) → Buf (Elt Ideal) ℓ) (c : Dev nD)

theorem lt_N (t : Fin cfg0.N) : t.val < 88 := lt_of_lt_of_eq t.isLt (show cfg0.N = 88 from N_0)

/-- Operand 0, at a row and a column. -/
def M0 : Fin 4096 → Fin 2048 → EReal := fun i j => (V m c (Pipeline.arrRef spec0 0) : FVec Ideal S4096x2048 .bf16) (ix2 i j)

theorem index_0 : ∀ t : Fin cfg0.N, win0_0.index t (0 : Fin 2) = t.val / 11 ∧ win0_0.index t (1 : Fin 2) = 0 :=
  (by decide +kernel : ∀ t : Fin grid0.N, _)

theorem emb_0 (t : Fin cfg0.N) (i : Fin 512) (j : Fin 2048) (hi : t.val / 11 * 512 + i.val < 4096) :
    ((cfg0.win 0).rect t).emb (ix2 i j) = (ix2 ⟨t.val / 11 * 512 + i.val, hi⟩ j : S4096x2048.Idx) := by
  funext a
  refine Fin.ext ((Pipeline.Window.rect_emb_val _ t _ a).trans ?_)
  match a with
  | ⟨0, _⟩ => show win0_0.index t (0 : Fin 2) * 512 + i.val = _; rw [(index_0 t).1]; rfl
  | ⟨1, _⟩ => exact (by rw [(index_0 t).2, Nat.zero_mul, Nat.zero_add] : win0_0.index t (1 : Fin 2) * 2048 + j.val = j.val)

theorem blk_0 (t : Fin cfg0.N) (i : Fin 512) (j : Fin 2048) :
    (iblk m c 0 t : Vec Ideal S512x2048 .bf16) (ix2 i j) = rd (M0 m c) (t.val / 11 * 512 + i.val) j.val := by
  have ht := lt_N t
  have hi : t.val / 11 * 512 + i.val < 4096 := by omega
  rw [rd_of _ hi j.isLt]
  unfold iblk M0
  refine Eq.trans ?_ (congrArg (V m c (Pipeline.arrRef spec0 0) : FVec Ideal S4096x2048 .bf16) (emb_0 t i j hi))
  rfl

/-- Operand 1, at a row and a column. -/
def M1 : Fin 2048 → Fin 5632 → EReal := fun i j => (V m c (Pipeline.arrRef spec0 1) : FVec Ideal S2048x5632 .bf16) (ix2 i j)

theorem index_1 : ∀ t : Fin cfg0.N, win0_1.index t (0 : Fin 2) = 0 ∧ win0_1.index t (1 : Fin 2) = t.val % 11 :=
  (by decide +kernel : ∀ t : Fin grid0.N, _)

theorem emb_1 (t : Fin cfg0.N) (i : Fin 2048) (j : Fin 512) (hj : t.val % 11 * 512 + j.val < 5632) :
    ((cfg0.win 1).rect t).emb (ix2 i j) = (ix2 i ⟨t.val % 11 * 512 + j.val, hj⟩ : S2048x5632.Idx) := by
  funext a
  refine Fin.ext ((Pipeline.Window.rect_emb_val _ t _ a).trans ?_)
  match a with
  | ⟨0, _⟩ => exact (by rw [(index_1 t).1, Nat.zero_mul, Nat.zero_add] : win0_1.index t (0 : Fin 2) * 2048 + i.val = i.val)
  | ⟨1, _⟩ => show win0_1.index t (1 : Fin 2) * 512 + j.val = _; rw [(index_1 t).2]; rfl

theorem blk_1 (t : Fin cfg0.N) (i : Fin 2048) (j : Fin 512) :
    (iblk m c 1 t : Vec Ideal S2048x512 .bf16) (ix2 i j) = rd (M1 m c) i.val (t.val % 11 * 512 + j.val) := by
  have ht := lt_N t
  have hj : t.val % 11 * 512 + j.val < 5632 := by omega
  rw [rd_of _ i.isLt hj]
  unfold iblk M1
  refine Eq.trans ?_ (congrArg (V m c (Pipeline.arrRef spec0 1) : FVec Ideal S2048x5632 .bf16) (emb_1 t i j hj))
  rfl

/-- Operand 2, at a row and a column. -/
def M2 : Fin 2048 → Fin 5632 → EReal := fun i j => (V m c (Pipeline.arrRef spec0 2) : FVec Ideal S2048x5632 .bf16) (ix2 i j)

theorem index_2 : ∀ t : Fin cfg0.N, win0_2.index t (0 : Fin 2) = 0 ∧ win0_2.index t (1 : Fin 2) = t.val % 11 :=
  (by decide +kernel : ∀ t : Fin grid0.N, _)

theorem emb_2 (t : Fin cfg0.N) (i : Fin 2048) (j : Fin 512) (hj : t.val % 11 * 512 + j.val < 5632) :
    ((cfg0.win 2).rect t).emb (ix2 i j) = (ix2 i ⟨t.val % 11 * 512 + j.val, hj⟩ : S2048x5632.Idx) := by
  funext a
  refine Fin.ext ((Pipeline.Window.rect_emb_val _ t _ a).trans ?_)
  match a with
  | ⟨0, _⟩ => exact (by rw [(index_2 t).1, Nat.zero_mul, Nat.zero_add] : win0_2.index t (0 : Fin 2) * 2048 + i.val = i.val)
  | ⟨1, _⟩ => show win0_2.index t (1 : Fin 2) * 512 + j.val = _; rw [(index_2 t).2]; rfl

theorem blk_2 (t : Fin cfg0.N) (i : Fin 2048) (j : Fin 512) :
    (iblk m c 2 t : Vec Ideal S2048x512 .bf16) (ix2 i j) = rd (M2 m c) i.val (t.val % 11 * 512 + j.val) := by
  have ht := lt_N t
  have hj : t.val % 11 * 512 + j.val < 5632 := by omega
  rw [rd_of _ i.isLt hj]
  unfold iblk M2
  refine Eq.trans ?_ (congrArg (V m c (Pipeline.arrRef spec0 2) : FVec Ideal S2048x5632 .bf16) (emb_2 t i j hj))
  rfl

/-! ## The values -/

def dotA (a b : ℕ) : EReal := ∑ k : Fin 2048, rd (M0 m c) a k.val * rd (M1 m c) k.val b
def dotB (a b : ℕ) : EReal := ∑ k : Fin 2048, rd (M0 m c) a k.val * rd (M2 m c) k.val b

def val3 (a b : ℕ) : EReal := dotA m c a b
def val4 (a b : ℕ) : EReal := dotB m c a b
def val5 (a b : ℕ) : EReal := dotA m c a b * Ideal.logistic (dotA m c a b) * dotB m c a b

/-! ## Result 3 -/

theorem index_3 : ∀ t : Fin cfg0.N, win0_3.index t (0 : Fin 2) = t.val / 11 ∧ win0_3.index t (1 : Fin 2) = t.val % 11 :=
  (by decide +kernel : ∀ t : Fin grid0.N, _)

theorem emb_3 (t : Fin cfg0.N) (i : Fin 512) (j : Fin 512) (hi : t.val / 11 * 512 + i.val < 4096) (hj : t.val % 11 * 512 + j.val < 5632) :
    ((cfg0.win 3).rect t).emb (ix2 i j) = (ix2 ⟨t.val / 11 * 512 + i.val, hi⟩ ⟨t.val % 11 * 512 + j.val, hj⟩ : S4096x5632.Idx) := by
  funext a
  refine Fin.ext ((Pipeline.Window.rect_emb_val _ t _ a).trans ?_)
  match a with
  | ⟨0, _⟩ => show win0_3.index t (0 : Fin 2) * 512 + i.val = _; rw [(index_3 t).1]; rfl
  | ⟨1, _⟩ => show win0_3.index t (1 : Fin 2) * 512 + j.val = _; rw [(index_3 t).2]; rfl

theorem read_3 (Z : FVec Ideal S4096x5632 .bf16) (t : Fin cfg0.N) (i : Fin 512) (j : Fin 512) (hi : t.val / 11 * 512 + i.val < 4096) (hj : t.val % 11 * 512 + j.val < 5632) :
    ((cfg0.win 3).blk t).view.read (Elt Ideal) Z (ix2 i j) = Z (ix2 ⟨t.val / 11 * 512 + i.val, hi⟩ ⟨t.val % 11 * 512 + j.val, hj⟩) := by
  refine Eq.trans ?_ (congrArg Z (emb_3 t i j hi hj))
  rfl

theorem out_3 (x0 : Vec Ideal S512x2048 .bf16) (x1 : Vec Ideal S2048x512 .bf16) (x2 : Vec Ideal S2048x512 .bf16) : out0_3 (F := Ideal) x0 x1 x2 = k0_pay3 (F := Ideal) x0 x1 := by
  unfold out0_3
  rw [View.canon_unit_zero hz]
  simp only [View.ld_unit_zero (S := S512x2048) hz, View.ld_unit_zero (S := S2048x512) hz]

/-- The array of result 3. -/
def G3 : FVec Ideal S4096x5632 .bf16 := fun x => val3 m c (x 0).val (x 1).val

theorem flushed_3 (t : Fin cfg0.N) :
    (dats m 0 c).flushed 3 t = ((cfg0.win 3).blk t).view.read (Elt Ideal) (G3 m c) := by
  have ht := lt_N t
  rw [Value.flushed3]
  refine funext fun (y : S512x512.Idx) => ?_
  obtain ⟨i, j, rfl⟩ : ∃ i j, y = ix2 i j := ⟨y 0, y 1, funext fun a => by match a with | ⟨0, _⟩ => rfl | ⟨1, _⟩ => rfl⟩
  refine Eq.trans ?_ (read_3 (G3 m c) t i j (by omega) (by omega)).symm
  show out0_3 (F := Ideal) (iblk m c 0 t) (iblk m c 1 t) (iblk m c 2 t) (ix2 i j) = _
  rw [out_3, pay3_at]
  simp only [blk_0, blk_1]
  rfl

theorem cover_3 (x : S4096x5632.Idx) : ∃ t : Fin cfg0.N, (cfg0.win 3).flush t = true ∧ x ∈ ((cfg0.win 3).blk t).view.set := by
  have h0 : (x 0).val < 4096 := (x 0).isLt
  have h1 : (x 1).val < 5632 := (x 1).isLt
  have hN : cfg0.N = 88 := N_0
  have e0 : ((x 0).val / 512 * 11 + (x 1).val / 512) / 11 = (x 0).val / 512 := by omega
  have e1 : ((x 0).val / 512 * 11 + (x 1).val / 512) % 11 = (x 1).val / 512 := by omega
  refine ⟨⟨(x 0).val / 512 * 11 + (x 1).val / 512, by omega⟩, flush0_3 _, ?_⟩
  refine Finset.mem_map.mpr ⟨ix2 ⟨(x 0).val % 512, by omega⟩ ⟨(x 1).val % 512, by omega⟩, Finset.mem_univ _, ?_⟩
  refine (emb_3 _ _ _ (by dsimp only; omega) (by dsimp only; omega)).trans ?_
  refine funext fun a => ?_
  match a with
  | ⟨0, _⟩ => exact Fin.ext (by show ((x 0).val / 512 * 11 + (x 1).val / 512) / 11 * 512 + (x 0).val % 512 = (x 0).val; omega)
  | ⟨1, _⟩ => exact Fin.ext (by show ((x 0).val / 512 * 11 + (x 1).val / 512) % 11 * 512 + (x 1).val % 512 = (x 1).val; omega)

/-- Result 3's array after the run. -/
theorem final_3 : (dats m 0 c).arrAt 3 cfg0.N = G3 m c :=
  (dats m 0 c).arrAt_eq_of_cover 3 (G3 m c) (fun t _ => flushed_3 m c t) cover_3

/-! ## Result 4 -/

theorem index_4 : ∀ t : Fin cfg0.N, win0_4.index t (0 : Fin 2) = t.val / 11 ∧ win0_4.index t (1 : Fin 2) = t.val % 11 :=
  (by decide +kernel : ∀ t : Fin grid0.N, _)

theorem emb_4 (t : Fin cfg0.N) (i : Fin 512) (j : Fin 512) (hi : t.val / 11 * 512 + i.val < 4096) (hj : t.val % 11 * 512 + j.val < 5632) :
    ((cfg0.win 4).rect t).emb (ix2 i j) = (ix2 ⟨t.val / 11 * 512 + i.val, hi⟩ ⟨t.val % 11 * 512 + j.val, hj⟩ : S4096x5632.Idx) := by
  funext a
  refine Fin.ext ((Pipeline.Window.rect_emb_val _ t _ a).trans ?_)
  match a with
  | ⟨0, _⟩ => show win0_4.index t (0 : Fin 2) * 512 + i.val = _; rw [(index_4 t).1]; rfl
  | ⟨1, _⟩ => show win0_4.index t (1 : Fin 2) * 512 + j.val = _; rw [(index_4 t).2]; rfl

theorem read_4 (Z : FVec Ideal S4096x5632 .bf16) (t : Fin cfg0.N) (i : Fin 512) (j : Fin 512) (hi : t.val / 11 * 512 + i.val < 4096) (hj : t.val % 11 * 512 + j.val < 5632) :
    ((cfg0.win 4).blk t).view.read (Elt Ideal) Z (ix2 i j) = Z (ix2 ⟨t.val / 11 * 512 + i.val, hi⟩ ⟨t.val % 11 * 512 + j.val, hj⟩) := by
  refine Eq.trans ?_ (congrArg Z (emb_4 t i j hi hj))
  rfl

theorem out_4 (x0 : Vec Ideal S512x2048 .bf16) (x1 : Vec Ideal S2048x512 .bf16) (x2 : Vec Ideal S2048x512 .bf16) : out0_4 (F := Ideal) x0 x1 x2 = k0_pay4 (F := Ideal) x0 x2 := by
  unfold out0_4
  rw [View.canon_unit_zero hz]
  simp only [View.ld_unit_zero (S := S512x2048) hz, View.ld_unit_zero (S := S2048x512) hz]

/-- The array of result 4. -/
def G4 : FVec Ideal S4096x5632 .bf16 := fun x => val4 m c (x 0).val (x 1).val

theorem flushed_4 (t : Fin cfg0.N) :
    (dats m 0 c).flushed 4 t = ((cfg0.win 4).blk t).view.read (Elt Ideal) (G4 m c) := by
  have ht := lt_N t
  rw [Value.flushed4]
  refine funext fun (y : S512x512.Idx) => ?_
  obtain ⟨i, j, rfl⟩ : ∃ i j, y = ix2 i j := ⟨y 0, y 1, funext fun a => by match a with | ⟨0, _⟩ => rfl | ⟨1, _⟩ => rfl⟩
  refine Eq.trans ?_ (read_4 (G4 m c) t i j (by omega) (by omega)).symm
  show out0_4 (F := Ideal) (iblk m c 0 t) (iblk m c 1 t) (iblk m c 2 t) (ix2 i j) = _
  rw [out_4, pay4_at]
  simp only [blk_0, blk_2]
  rfl

theorem cover_4 (x : S4096x5632.Idx) : ∃ t : Fin cfg0.N, (cfg0.win 4).flush t = true ∧ x ∈ ((cfg0.win 4).blk t).view.set := by
  have h0 : (x 0).val < 4096 := (x 0).isLt
  have h1 : (x 1).val < 5632 := (x 1).isLt
  have hN : cfg0.N = 88 := N_0
  have e0 : ((x 0).val / 512 * 11 + (x 1).val / 512) / 11 = (x 0).val / 512 := by omega
  have e1 : ((x 0).val / 512 * 11 + (x 1).val / 512) % 11 = (x 1).val / 512 := by omega
  refine ⟨⟨(x 0).val / 512 * 11 + (x 1).val / 512, by omega⟩, flush0_4 _, ?_⟩
  refine Finset.mem_map.mpr ⟨ix2 ⟨(x 0).val % 512, by omega⟩ ⟨(x 1).val % 512, by omega⟩, Finset.mem_univ _, ?_⟩
  refine (emb_4 _ _ _ (by dsimp only; omega) (by dsimp only; omega)).trans ?_
  refine funext fun a => ?_
  match a with
  | ⟨0, _⟩ => exact Fin.ext (by show ((x 0).val / 512 * 11 + (x 1).val / 512) / 11 * 512 + (x 0).val % 512 = (x 0).val; omega)
  | ⟨1, _⟩ => exact Fin.ext (by show ((x 0).val / 512 * 11 + (x 1).val / 512) % 11 * 512 + (x 1).val % 512 = (x 1).val; omega)

/-- Result 4's array after the run. -/
theorem final_4 : (dats m 0 c).arrAt 4 cfg0.N = G4 m c :=
  (dats m 0 c).arrAt_eq_of_cover 4 (G4 m c) (fun t _ => flushed_4 m c t) cover_4

/-! ## Result 5 -/

theorem index_5 : ∀ t : Fin cfg0.N, win0_5.index t (0 : Fin 2) = t.val / 11 ∧ win0_5.index t (1 : Fin 2) = t.val % 11 :=
  (by decide +kernel : ∀ t : Fin grid0.N, _)

theorem emb_5 (t : Fin cfg0.N) (i : Fin 512) (j : Fin 512) (hi : t.val / 11 * 512 + i.val < 4096) (hj : t.val % 11 * 512 + j.val < 5632) :
    ((cfg0.win 5).rect t).emb (ix2 i j) = (ix2 ⟨t.val / 11 * 512 + i.val, hi⟩ ⟨t.val % 11 * 512 + j.val, hj⟩ : S4096x5632.Idx) := by
  funext a
  refine Fin.ext ((Pipeline.Window.rect_emb_val _ t _ a).trans ?_)
  match a with
  | ⟨0, _⟩ => show win0_5.index t (0 : Fin 2) * 512 + i.val = _; rw [(index_5 t).1]; rfl
  | ⟨1, _⟩ => show win0_5.index t (1 : Fin 2) * 512 + j.val = _; rw [(index_5 t).2]; rfl

theorem read_5 (Z : FVec Ideal S4096x5632 .bf16) (t : Fin cfg0.N) (i : Fin 512) (j : Fin 512) (hi : t.val / 11 * 512 + i.val < 4096) (hj : t.val % 11 * 512 + j.val < 5632) :
    ((cfg0.win 5).blk t).view.read (Elt Ideal) Z (ix2 i j) = Z (ix2 ⟨t.val / 11 * 512 + i.val, hi⟩ ⟨t.val % 11 * 512 + j.val, hj⟩) := by
  refine Eq.trans ?_ (congrArg Z (emb_5 t i j hi hj))
  rfl

theorem out_5 (x0 : Vec Ideal S512x2048 .bf16) (x1 : Vec Ideal S2048x512 .bf16) (x2 : Vec Ideal S2048x512 .bf16) : out0_5 (F := Ideal) x0 x1 x2 = k0_pay5 (F := Ideal) x0 x1 x2 := by
  unfold out0_5
  rw [View.canon_unit_zero hz]
  simp only [View.ld_unit_zero (S := S512x2048) hz, View.ld_unit_zero (S := S2048x512) hz]

/-- The array of result 5. -/
def G5 : FVec Ideal S4096x5632 .bf16 := fun x => val5 m c (x 0).val (x 1).val

theorem flushed_5 (t : Fin cfg0.N) :
    (dats m 0 c).flushed 5 t = ((cfg0.win 5).blk t).view.read (Elt Ideal) (G5 m c) := by
  have ht := lt_N t
  rw [Value.flushed5]
  refine funext fun (y : S512x512.Idx) => ?_
  obtain ⟨i, j, rfl⟩ : ∃ i j, y = ix2 i j := ⟨y 0, y 1, funext fun a => by match a with | ⟨0, _⟩ => rfl | ⟨1, _⟩ => rfl⟩
  refine Eq.trans ?_ (read_5 (G5 m c) t i j (by omega) (by omega)).symm
  show out0_5 (F := Ideal) (iblk m c 0 t) (iblk m c 1 t) (iblk m c 2 t) (ix2 i j) = _
  rw [out_5, pay5_at]
  simp only [blk_0, blk_1, blk_2]
  rfl

theorem cover_5 (x : S4096x5632.Idx) : ∃ t : Fin cfg0.N, (cfg0.win 5).flush t = true ∧ x ∈ ((cfg0.win 5).blk t).view.set := by
  have h0 : (x 0).val < 4096 := (x 0).isLt
  have h1 : (x 1).val < 5632 := (x 1).isLt
  have hN : cfg0.N = 88 := N_0
  have e0 : ((x 0).val / 512 * 11 + (x 1).val / 512) / 11 = (x 0).val / 512 := by omega
  have e1 : ((x 0).val / 512 * 11 + (x 1).val / 512) % 11 = (x 1).val / 512 := by omega
  refine ⟨⟨(x 0).val / 512 * 11 + (x 1).val / 512, by omega⟩, flush0_5 _, ?_⟩
  refine Finset.mem_map.mpr ⟨ix2 ⟨(x 0).val % 512, by omega⟩ ⟨(x 1).val % 512, by omega⟩, Finset.mem_univ _, ?_⟩
  refine (emb_5 _ _ _ (by dsimp only; omega) (by dsimp only; omega)).trans ?_
  refine funext fun a => ?_
  match a with
  | ⟨0, _⟩ => exact Fin.ext (by show ((x 0).val / 512 * 11 + (x 1).val / 512) / 11 * 512 + (x 0).val % 512 = (x 0).val; omega)
  | ⟨1, _⟩ => exact Fin.ext (by show ((x 0).val / 512 * 11 + (x 1).val / 512) % 11 * 512 + (x 1).val % 512 = (x 1).val; omega)

/-- Result 5's array after the run. -/
theorem final_5 : (dats m 0 c).arrAt 5 cfg0.N = G5 m c :=
  (dats m 0 c).arrAt_eq_of_cover 5 (G5 m c) (fun t _ => flushed_5 m c t) cover_5

end Cert.Ffn5
end
-- ==== Proof.Ffn.Claim5.lean ====
/-
  Call 5 and its reference return the same arrays over the extended reals.
-/
module

public import proofs.«01_k».proof.Defs
public import proofs.«01_k».proof.Proof.Ffn.Call5
public import proofs.«01_k».proof.Proof.Gen.Kernel5.Frame
public import proofs.«01_k».proof.Proof.Gen.Reference5Ideal.Run
public import Idealize.ShloMosaic.Lib.Quiescent

@[expose] public section

set_option maxRecDepth 16384

noncomputable section

namespace Cert.Ffn5

open Cert.Ffn
open Idealize.ShloMosaic Idealize.ShloMosaic.TcCoe Idealize.ShloMosaic.Tactic Idealize.SL.Sem

section
open Cert.Reference5Ideal Cert.Reference5Ideal.Gen

/-- A product of the reference. -/
def rdot (z0 : FVec Ideal S4096x2048 .bf16) (z1 : FVec Ideal S2048x5632 .bf16) : FVec Ideal S4096x5632 .f32 :=
  Host.dotGeneral dot_S4096x2048_S2048x5632_S4096x5632_1_0_0_1_n_n none (extf .f32 z0 bitsLt_bf16_f32) (extf .f32 z1 bitsLt_bf16_f32)

theorem rdot_at (z0 : FVec Ideal S4096x2048 .bf16) (z1 : FVec Ideal S2048x5632 .bf16) (a : Fin 4096) (b : Fin 5632) :
    rdot z0 z1 (ix2 a b) = ∑ k : Fin 2048, z0 (ix2 a k) * z1 (ix2 k b) := by
  pointwise [rdot]

/-- The reference's two plain results. -/
def rlin (z0 : FVec Ideal S4096x2048 .bf16) (z1 : FVec Ideal S2048x5632 .bf16) : FVec Ideal S4096x5632 .bf16 :=
  truncf .bf16 (rdot z0 z1) bitsLt_bf16_f32

theorem rlin_at (z0 : FVec Ideal S4096x2048 .bf16) (z1 : FVec Ideal S2048x5632 .bf16) (a : Fin 4096) (b : Fin 5632) :
    rlin z0 z1 (ix2 a b) = ∑ k : Fin 2048, z0 (ix2 a k) * z1 (ix2 k b) := rdot_at z0 z1 a b

/-- The reference's activated result. -/
def ract (z0 : FVec Ideal S4096x2048 .bf16) (z1 : FVec Ideal S2048x5632 .bf16) (z2 : FVec Ideal S2048x5632 .bf16) : FVec Ideal S4096x5632 .bf16 :=
  truncf .bf16 (mulf (mulf (rdot z0 z1) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (rdot z0 z1)))))) (rdot z0 z2)) bitsLt_bf16_f32

theorem ract_at (z0 : FVec Ideal S4096x2048 .bf16) (z1 : FVec Ideal S2048x5632 .bf16) (z2 : FVec Ideal S2048x5632 .bf16) (a : Fin 4096) (b : Fin 5632) :
    ract z0 z1 z2 (ix2 a b) = (∑ k : Fin 2048, z0 (ix2 a k) * z1 (ix2 k b)) * Ideal.div (Ideal.ofBits .f32 0x3F800000#32) (Ideal.ofBits .f32 0x3F800000#32 + Ideal.exp (-(∑ k : Fin 2048, z0 (ix2 a k) * z1 (ix2 k b)))) * (∑ k : Fin 2048, z0 (ix2 a k) * z2 (ix2 k b)) := by
  rw [← rdot_at z0 z1 a b, ← rdot_at z0 z2 a b]
  rfl

end

section
open Cert.Kernel5Ideal Cert.Kernel5Ideal.Gen

variable (m : (ℓ : Loc nD τ sig) → Buf (Elt Ideal) ℓ) (c : Dev nD)

theorem dotA_at (a : Fin 4096) (b : Fin 5632) : dotA m c a.val b.val = ∑ k, M0 m c a k * M1 m c k b := by
  unfold dotA
  simp only [rd_val]

theorem dotB_at (a : Fin 4096) (b : Fin 5632) : dotB m c a.val b.val = ∑ k, M0 m c a k * M2 m c k b := by
  unfold dotB
  simp only [rd_val]

theorem G5_at (a : Fin 4096) (b : Fin 5632) :
    G5 m c (ix2 a b) = dotA m c a.val b.val * Ideal.logistic (dotA m c a.val b.val) * dotB m c a.val b.val := rfl

end

theorem act_eq (m : (ℓ : Loc Cert.Kernel5Ideal.nD Cert.Kernel5Ideal.τ Cert.Kernel5Ideal.sig) → Buf (Elt Ideal) ℓ) (c : Dev Cert.Kernel5Ideal.nD)
    (z0 : FVec Ideal Cert.Reference5Ideal.S4096x2048 .bf16) (z1 z2 : FVec Ideal Cert.Reference5Ideal.S2048x5632 .bf16)
    (e0 : ∀ a k, z0 (ix2 a k) = M0 m c a k) (e1 : ∀ k b, z1 (ix2 k b) = M1 m c k b) (e2 : ∀ k b, z2 (ix2 k b) = M2 m c k b) (a : Fin 4096) (b : Fin 5632) :
    ract z0 z1 z2 (ix2 a b) = G5 m c (ix2 a b) := by
  rw [ract_at, G5_at, dotA_at, dotB_at, one_word]
  simp only [e0, e1, e2]
  rfl

theorem algebraic : Cert.algebraic_Kernel5Ideal_Reference5Ideal := by
  intro m g m' g' _ ha
  refine ⟨fun c => G3 m c, fun c => G4 m c, fun c => G5 m c, ?_, ?_⟩
  · exact (θ_run Cert.Kernel5Ideal.defs _ _).mono (fun r h c => ⟨(h c).1.trans (final_3 m c), (h c).2.1.trans (final_4 m c), (h c).2.2.1.trans (final_5 m c), (h c).2.2.2⟩)
      (Cert.Kernel5Ideal.Value.run_blocks (F := Ideal) m g)
  · refine (θ_run Cert.Reference5Ideal.defs _ _).mono (fun r h c => ⟨(h c).1.trans ?_, (h c).2.1.trans ?_, (h c).2.2.1.trans ?_, (h c).2.2.2⟩) (Cert.Reference5Ideal.Value.run (F := Ideal) m' g')
    · obtain ⟨e0, e1, e2⟩ := ha c
      show rlin (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) = G3 m c
      refine funext fun (x : Cert.Kernel5Ideal.S4096x5632.Idx) => ?_
      obtain ⟨a, b, rfl⟩ : ∃ a b, x = ix2 a b := ⟨x 0, x 1, funext fun q => by match q with | ⟨0, _⟩ => rfl | ⟨1, _⟩ => rfl⟩
      refine (rlin_at _ _ a b).trans (Eq.trans ?_ (dotA_at m c a b).symm)
      exact Finset.sum_congr rfl fun k _ => congrArg₂ (fun x y : EReal => x * y) (congrFun e0 (ix2 a k)) (congrFun e1 (ix2 k b))
    · obtain ⟨e0, e1, e2⟩ := ha c
      show rlin (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2)) = G4 m c
      refine funext fun (x : Cert.Kernel5Ideal.S4096x5632.Idx) => ?_
      obtain ⟨a, b, rfl⟩ : ∃ a b, x = ix2 a b := ⟨x 0, x 1, funext fun q => by match q with | ⟨0, _⟩ => rfl | ⟨1, _⟩ => rfl⟩
      refine (rlin_at _ _ a b).trans (Eq.trans ?_ (dotB_at m c a b).symm)
      exact Finset.sum_congr rfl fun k _ => congrArg₂ (fun x y : EReal => x * y) (congrFun e0 (ix2 a k)) (congrFun e2 (ix2 k b))
    · obtain ⟨e0, e1, e2⟩ := ha c
      show ract (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = G5 m c
      refine funext fun (x : Cert.Kernel5Ideal.S4096x5632.Idx) => ?_
      obtain ⟨a, b, rfl⟩ : ∃ a b, x = ix2 a b := ⟨x 0, x 1, funext fun q => by match q with | ⟨0, _⟩ => rfl | ⟨1, _⟩ => rfl⟩
      exact act_eq m c _ _ _ (fun a k => congrFun e0 (ix2 a k)) (fun k b => congrFun e1 (ix2 k b)) (fun k b => congrFun e2 (ix2 k b)) a b

theorem frame_kernel : Cert.quiescent_Kernel5 := fun m ρ _ => Cert.Kernel5.Gen.frame (F := Bits) m ρ

theorem frame_ideal : Cert.quiescent_Kernel5Ideal := fun m ρ _ => Cert.Kernel5Ideal.Gen.frame (F := Ideal) m ρ

theorem frame_ref : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

end Cert.Ffn5
end
-- ==== Proof.Ffn.Call6.lean ====
/-
  The product of call 6: what its grid leaves in the result, as one sum over the contracted axis.
-/
module

public import proofs.«01_k».proof.Proof.Gen.Kernel6Ideal.Value
public import proofs.«01_k».proof.Proof.Ffn.Sum
public import Idealize.ShloMosaic.Lib.Pointwise

@[expose] public section

set_option maxRecDepth 16384

noncomputable section

namespace Cert.Ffn6

open Cert.Kernel6Ideal Cert.Kernel6Ideal.Gen Cert.Ffn
open Idealize.ShloMosaic Idealize.ShloMosaic.TcCoe Idealize.ShloMosaic.Tactic Idealize.SL.Sem

/-! ## The vector operations at an index -/

theorem pay1_at (i : Fin 1024) (j : Fin 1024) : k0_pay1 (F := Ideal) (ix2 i j) = 0 := by
  pointwise [k0_pay1]
theorem pay2_at (a : Vec Ideal S1024x1024 .f32) (x : Vec Ideal S1024x1408 .bf16) (y : Vec Ideal S1408x1024 .bf16) (i : Fin 1024) (j : Fin 1024) :
    k0_pay2 (F := Ideal) a x y (ix2 i j) = a (ix2 i j) + ∑ k : Fin 1408, x (ix2 i k) * y (ix2 k j) := by
  pointwise [k0_pay2]
theorem pay3_at (a r : Vec Ideal S1024x1024 .f32) (i : Fin 1024) (j : Fin 1024) :
    k0_pay3 (F := Ideal) a r (ix2 i j) = a (ix2 i j) * Ideal.ofBits .f32 0x3F000000#32 + r (ix2 i j) := by
  pointwise [k0_pay3]
/-! ## The cases of the body -/

theorem hz : (![0, 0] : Fin 2 → Nat) = fun _ => 0 := funext fun a => by fin_cases a <;> rfl

theorem scr_A (c : Dev nD) (i : grid0.Coords) (a3 : Memref sig .tc .vmem S1024x1408 .bf16) (h3 : a3.IsWhole) (a4 : Memref sig .tc .vmem S1408x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i) (x0 : Vec Ideal S1024x1408 .bf16) (x1 : Vec Ideal S1408x1024 .bf16) (x2 : Vec Ideal S1024x1024 .f32) :
    sout0_A_0 c i a3 h3 a4 h4 a5 h5 a6 h6 a7 h7 hc0 hc1 x0 x1 x2 = k0_pay2 (F := Ideal) (k0_pay1 (F := Ideal)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz]
  simp only [View.readCov_unit_zero (S := S1024x1024) _ hz, View.readAt_eq_ld, h3.read_unread, h4.read_unread, h5.read_unread, h6.read_unread, h7.read_unread, View.ld_unit_zero (S := S1024x1408) hz, View.ld_unit_zero (S := S1408x1024) hz, View.ld_unit_zero (S := S1024x1024) hz]
theorem scr_B (c : Dev nD) (i : grid0.Coords) (a3 : Memref sig .tc .vmem S1024x1408 .bf16) (h3 : a3.IsWhole) (a4 : Memref sig .tc .vmem S1408x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i) (x0 : Vec Ideal S1024x1408 .bf16) (x1 : Vec Ideal S1408x1024 .bf16) (x2 : Vec Ideal S1024x1024 .f32) (s : Vec Ideal S1024x1024 .f32) :
    sout0_B_0 c i a3 h3 a4 h4 a5 h5 a6 h6 a7 h7 hc0 hc1 x0 x1 x2 s = k0_pay2 (F := Ideal) (s) x0 x1 := by
  unfold sout0_B_0
  rw [View.read_writes_eq_canon _ _ _ (scover0_B_0 c i a3 h3 a4 h4 a5 h5 a6 h6 a7 h7 hc0 hc1 x0 x1 x2 s)]
  unfold kernelRun0_B
  dsimp only
  sl_unfold_words
  rw [View.canon_cons_unit_zero (S := S1024x1024) hz]
  simp only [View.readCov_unit_zero (S := S1024x1024) _ hz, View.readAt_eq_ld, h3.read_unread, h4.read_unread, h5.read_unread, h6.read_unread, h7.read_unread, View.ld_unit_zero (S := S1024x1408) hz, View.ld_unit_zero (S := S1408x1024) hz, View.ld_unit_zero (S := S1024x1024) hz]
theorem scr_C (c : Dev nD) (i : grid0.Coords) (a3 : Memref sig .tc .vmem S1024x1408 .bf16) (h3 : a3.IsWhole) (a4 : Memref sig .tc .vmem S1408x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i) (x0 : Vec Ideal S1024x1408 .bf16) (x1 : Vec Ideal S1408x1024 .bf16) (x2 : Vec Ideal S1024x1024 .f32) (s : Vec Ideal S1024x1024 .f32) :
    sout0_C_0 c i a3 h3 a4 h4 a5 h5 a6 h6 a7 h7 hc0 hc1 x0 x1 x2 s = k0_pay2 (F := Ideal) (s) x0 x1 := by
  unfold sout0_C_0
  rw [View.read_writes_eq_canon _ _ _ (scover0_C_0 c i a3 h3 a4 h4 a5 h5 a6 h6 a7 h7 hc0 hc1 x0 x1 x2 s)]
  unfold kernelRun0_C
  dsimp only
  sl_unfold_words
  rw [View.canon_cons_unit_zero (S := S1024x1024) hz]
  simp only [View.readCov_unit_zero (S := S1024x1024) _ hz, View.readAt_eq_ld, h3.read_unread, h4.read_unread, h5.read_unread, h6.read_unread, h7.read_unread, View.ld_unit_zero (S := S1024x1408) hz, View.ld_unit_zero (S := S1408x1024) hz, View.ld_unit_zero (S := S1024x1024) hz]
theorem out_C (c : Dev nD) (i : grid0.Coords) (a3 : Memref sig .tc .vmem S1024x1408 .bf16) (h3 : a3.IsWhole) (a4 : Memref sig .tc .vmem S1408x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i) (x0 : Vec Ideal S1024x1408 .bf16) (x1 : Vec Ideal S1408x1024 .bf16) (x2 : Vec Ideal S1024x1024 .f32) (s : Vec Ideal S1024x1024 .f32) :
    out0_C_3 c i a3 h3 a4 h4 a5 h5 a6 h6 a7 h7 hc0 hc1 x0 x1 x2 s = k0_pay3 (F := Ideal) (k0_pay2 (F := Ideal) (s) x0 x1) x2 := by
  unfold out0_C_3
  rw [View.read_writes_eq_canon _ _ _ (cover0_C_3 c i a3 h3 a4 h4 a5 h5 a6 h6 a7 h7 hc0 hc1 x0 x1 x2 s)]
  unfold kernelRun0_C
  dsimp only
  sl_unfold_words
  rw [View.canon_cons_unit_zero (S := S1024x1024) hz]
  simp only [View.readCov_unit_zero (S := S1024x1024) _ hz, View.readAt_eq_ld, h3.read_unread, h4.read_unread, h5.read_unread, h6.read_unread, h7.read_unread, View.ld_unit_zero (S := S1024x1408) hz, View.ld_unit_zero (S := S1408x1024) hz, View.ld_unit_zero (S := S1024x1024) hz]

/-! ## The blocks a point reads -/

variable (m : (ℓ : Loc nD τ sig) → Buf (Elt Ideal) ℓ) (c : Dev nD)

theorem lt_N (t : Fin cfg0.N) : t.val < 32 := lt_of_lt_of_eq t.isLt (show cfg0.N = 32 from N_0)
/-- Operand 0, at a row and a column. -/
def M0 : Fin 4096 → Fin 5632 → EReal := fun i j => (V m c (Pipeline.arrRef spec0 0) : FVec Ideal S4096x5632 .bf16) (ix2 i j)

theorem index_0 : ∀ t : Fin cfg0.N, win0_0.index t (0 : Fin 2) = t.val / 8 ∧ win0_0.index t (1 : Fin 2) = t.val % 4 :=
  (by decide +kernel : ∀ t : Fin grid0.N, _)

theorem emb_0 (t : Fin cfg0.N) (i : Fin 1024) (j : Fin 1408) (hi : t.val / 8 * 1024 + i.val < 4096) (hj : t.val % 4 * 1408 + j.val < 5632) :
    ((cfg0.win 0).rect t).emb (ix2 i j) = (ix2 ⟨t.val / 8 * 1024 + i.val, hi⟩ ⟨t.val % 4 * 1408 + j.val, hj⟩ : S4096x5632.Idx) := by
  funext a
  refine Fin.ext ((Pipeline.Window.rect_emb_val _ t _ a).trans ?_)
  match a with
  | ⟨0, _⟩ => show win0_0.index t (0 : Fin 2) * 1024 + i.val = _; rw [(index_0 t).1]; rfl
  | ⟨1, _⟩ => show win0_0.index t (1 : Fin 2) * 1408 + j.val = _; rw [(index_0 t).2]; rfl

theorem blk_0 (t : Fin cfg0.N) (i : Fin 1024) (j : Fin 1408) :
    (iblk m c 0 t : Vec Ideal S1024x1408 .bf16) (ix2 i j) = rd (M0 m c) (t.val / 8 * 1024 + i.val) (t.val % 4 * 1408 + j.val) := by
  have ht := lt_N t
  have hi : t.val / 8 * 1024 + i.val < 4096 := by omega
  have hj : t.val % 4 * 1408 + j.val < 5632 := by omega
  rw [rd_of _ hi hj]
  unfold iblk M0
  refine Eq.trans ?_ (congrArg (V m c (Pipeline.arrRef spec0 0) : FVec Ideal S4096x5632 .bf16) (emb_0 t i j hi hj))
  rfl
/-- Operand 1, at a row and a column. -/
def M1 : Fin 5632 → Fin 2048 → EReal := fun i j => (V m c (Pipeline.arrRef spec0 1) : FVec Ideal S5632x2048 .bf16) (ix2 i j)

theorem index_1 : ∀ t : Fin cfg0.N, win0_1.index t (0 : Fin 2) = t.val % 4 ∧ win0_1.index t (1 : Fin 2) = t.val / 4 % 2 :=
  (by decide +kernel : ∀ t : Fin grid0.N, _)

theorem emb_1 (t : Fin cfg0.N) (i : Fin 1408) (j : Fin 1024) (hi : t.val % 4 * 1408 + i.val < 5632) (hj : t.val / 4 % 2 * 1024 + j.val < 2048) :
    ((cfg0.win 1).rect t).emb (ix2 i j) = (ix2 ⟨t.val % 4 * 1408 + i.val, hi⟩ ⟨t.val / 4 % 2 * 1024 + j.val, hj⟩ : S5632x2048.Idx) := by
  funext a
  refine Fin.ext ((Pipeline.Window.rect_emb_val _ t _ a).trans ?_)
  match a with
  | ⟨0, _⟩ => show win0_1.index t (0 : Fin 2) * 1408 + i.val = _; rw [(index_1 t).1]; rfl
  | ⟨1, _⟩ => show win0_1.index t (1 : Fin 2) * 1024 + j.val = _; rw [(index_1 t).2]; rfl

theorem blk_1 (t : Fin cfg0.N) (i : Fin 1408) (j : Fin 1024) :
    (iblk m c 1 t : Vec Ideal S1408x1024 .bf16) (ix2 i j) = rd (M1 m c) (t.val % 4 * 1408 + i.val) (t.val / 4 % 2 * 1024 + j.val) := by
  have ht := lt_N t
  have hi : t.val % 4 * 1408 + i.val < 5632 := by omega
  have hj : t.val / 4 % 2 * 1024 + j.val < 2048 := by omega
  rw [rd_of _ hi hj]
  unfold iblk M1
  refine Eq.trans ?_ (congrArg (V m c (Pipeline.arrRef spec0 1) : FVec Ideal S5632x2048 .bf16) (emb_1 t i j hi hj))
  rfl
/-- Operand 2, at a row and a column. -/
def M2 : Fin 4096 → Fin 2048 → EReal := fun i j => (V m c (Pipeline.arrRef spec0 2) : FVec Ideal S4096x2048 .f32) (ix2 i j)

theorem index_2 : ∀ t : Fin cfg0.N, win0_2.index t (0 : Fin 2) = t.val / 8 ∧ win0_2.index t (1 : Fin 2) = t.val / 4 % 2 :=
  (by decide +kernel : ∀ t : Fin grid0.N, _)

theorem emb_2 (t : Fin cfg0.N) (i : Fin 1024) (j : Fin 1024) (hi : t.val / 8 * 1024 + i.val < 4096) (hj : t.val / 4 % 2 * 1024 + j.val < 2048) :
    ((cfg0.win 2).rect t).emb (ix2 i j) = (ix2 ⟨t.val / 8 * 1024 + i.val, hi⟩ ⟨t.val / 4 % 2 * 1024 + j.val, hj⟩ : S4096x2048.Idx) := by
  funext a
  refine Fin.ext ((Pipeline.Window.rect_emb_val _ t _ a).trans ?_)
  match a with
  | ⟨0, _⟩ => show win0_2.index t (0 : Fin 2) * 1024 + i.val = _; rw [(index_2 t).1]; rfl
  | ⟨1, _⟩ => show win0_2.index t (1 : Fin 2) * 1024 + j.val = _; rw [(index_2 t).2]; rfl

theorem blk_2 (t : Fin cfg0.N) (i : Fin 1024) (j : Fin 1024) :
    (iblk m c 2 t : Vec Ideal S1024x1024 .f32) (ix2 i j) = rd (M2 m c) (t.val / 8 * 1024 + i.val) (t.val / 4 % 2 * 1024 + j.val) := by
  have ht := lt_N t
  have hi : t.val / 8 * 1024 + i.val < 4096 := by omega
  have hj : t.val / 4 % 2 * 1024 + j.val < 2048 := by omega
  rw [rd_of _ hi hj]
  unfold iblk M2
  refine Eq.trans ?_ (congrArg (V m c (Pipeline.arrRef spec0 2) : FVec Ideal S4096x2048 .f32) (emb_2 t i j hi hj))
  rfl
/-! ## The accumulator -/

/-- A term of the product at row `a` and column `b`. -/
def tm (a b k : ℕ) : EReal := rd (M0 m c) a k * rd (M1 m c) k b

/-- One point adds its block of terms. -/
theorem add_block (t : Fin cfg0.N) (s : Vec Ideal S1024x1024 .f32) (i : Fin 1024) (j : Fin 1024)
    (hs : s (ix2 i j) = psum (tm m c (t.val / 8 * 1024 + i.val) (t.val / 4 % 2 * 1024 + j.val)) (t.val % 4 * 1408)) :
    k0_pay2 (F := Ideal) (s) (iblk m c 0 t) (iblk m c 1 t) (ix2 i j)
      = psum (tm m c (t.val / 8 * 1024 + i.val) (t.val / 4 % 2 * 1024 + j.val)) ((t.val % 4 + 1) * 1408) := by
  rw [pay2_at, hs, ← psum_step]
  simp only [blk_0, blk_1]
  unfold tm
  rfl

theorem scr_first (t : Fin cfg0.N) (h : t.val % 4 = 0) : (outsAt0 m c t.val t.isLt).2 = k0_pay2 (F := Ideal) (k0_pay1 (F := Ideal)) (iblk m c 0 t) (iblk m c 1 t) := by
  rw [outsAt0_A m c t h (by omega)]
  dsimp only
  rw [scr_A]

theorem scr_next (t : Fin cfg0.N) (h : ¬ t.val % 4 = 0) :
    (outsAt0 m c t.val t.isLt).2 = k0_pay2 (F := Ideal) ((outsAt0 m c (t.val - 1) (Nat.lt_of_le_of_lt (Nat.sub_le _ _) t.isLt)).2) (iblk m c 0 t) (iblk m c 1 t) := by
  by_cases h1 : t.val % 4 = 3
  · rw [outsAt0_C m c t h h1]
    dsimp only
    rw [scr_C]
  · rw [outsAt0_B m c t h h1]
    dsimp only
    rw [scr_B]
theorem out_last (t : Fin cfg0.N) (h : t.val % 4 = 3) :
    (outsAt0 m c t.val t.isLt).1 = k0_pay3 (F := Ideal) (outsAt0 m c t.val t.isLt).2 (iblk m c 2 t) := by
  rw [scr_next m c t (by omega), outsAt0_C m c t (by omega) h]
  dsimp only
  rw [out_C]

/-- What the accumulator holds after each point. -/
theorem scr_holds : ∀ (n : ℕ) (hn : n < cfg0.N) (i : Fin 1024) (j : Fin 1024),
    (outsAt0 m c n hn).2 (ix2 i j) = psum (tm m c (n / 8 * 1024 + i.val) (n / 4 % 2 * 1024 + j.val)) ((n % 4 + 1) * 1408) := by
  have first : ∀ (t : Fin cfg0.N) (h : t.val % 4 = 0) (i : Fin 1024) (j : Fin 1024),
      (outsAt0 m c t.val t.isLt).2 (ix2 i j) = psum (tm m c (t.val / 8 * 1024 + i.val) (t.val / 4 % 2 * 1024 + j.val)) ((t.val % 4 + 1) * 1408) := fun t h i j => by
    rw [scr_first m c t h]
    refine add_block m c t _ i j ?_
    rw [h, Nat.zero_mul, psum_zero, pay1_at]
  intro n
  induction n with
  | zero => exact fun hn i j => first ⟨0, hn⟩ rfl i j
  | succ n ih =>
    intro hn i j
    by_cases h : (n + 1) % 4 = 0
    · exact first ⟨n + 1, hn⟩ h i j
    · rw [scr_next m c ⟨n + 1, hn⟩ h]
      refine add_block m c ⟨n + 1, hn⟩ _ i j ?_
      refine (ih (Nat.lt_of_succ_lt hn) i j).trans ?_
      have e1 : (n + 1) / 8 = n / 8 := by omega
      have e2 : (n + 1) / 4 % 2 = n / 4 % 2 := by omega
      have e3 : (n + 1) % 4 = n % 4 + 1 := by omega
      dsimp only
      rw [e1, e2, e3]

/-! ## The result -/

/-- The result array. -/
def G : FVec Ideal S4096x2048 .f32 := fun x => psum (tm m c (x 0).val (x 1).val) 5632 * Ideal.ofBits .f32 0x3F000000#32 + rd (M2 m c) (x 0).val (x 1).val

theorem index_out : ∀ t : Fin cfg0.N, win0_3.index t (0 : Fin 2) = t.val / 8 ∧ win0_3.index t (1 : Fin 2) = t.val / 4 % 2 :=
  (by decide +kernel : ∀ t : Fin grid0.N, _)

theorem emb_out (t : Fin cfg0.N) (i : Fin 1024) (j : Fin 1024) (hi : t.val / 8 * 1024 + i.val < 4096) (hj : t.val / 4 % 2 * 1024 + j.val < 2048) :
    ((cfg0.win 3).rect t).emb (ix2 i j) = (ix2 ⟨t.val / 8 * 1024 + i.val, hi⟩ ⟨t.val / 4 % 2 * 1024 + j.val, hj⟩ : S4096x2048.Idx) := by
  funext a
  refine Fin.ext ((Pipeline.Window.rect_emb_val _ t _ a).trans ?_)
  match a with
  | ⟨0, _⟩ => show win0_3.index t (0 : Fin 2) * 1024 + i.val = _; rw [(index_out t).1]; rfl
  | ⟨1, _⟩ => show win0_3.index t (1 : Fin 2) * 1024 + j.val = _; rw [(index_out t).2]; rfl

theorem read_out (Z : FVec Ideal S4096x2048 .f32) (t : Fin cfg0.N) (i : Fin 1024) (j : Fin 1024) (hi : t.val / 8 * 1024 + i.val < 4096) (hj : t.val / 4 % 2 * 1024 + j.val < 2048) :
    ((cfg0.win 3).blk t).view.read (Elt Ideal) Z (ix2 i j) = Z (ix2 ⟨t.val / 8 * 1024 + i.val, hi⟩ ⟨t.val / 4 % 2 * 1024 + j.val, hj⟩) := by
  refine Eq.trans ?_ (congrArg Z (emb_out t i j hi hj))
  rfl

theorem flushed (t : Fin cfg0.N) (hf : (cfg0.win 3).flush t = true) :
    (dats m 0 c).flushed 3 t = ((cfg0.win 3).blk t).view.read (Elt Ideal) (G m c) := by
  have h := (flush0_3 t).mp hf
  have ht := lt_N t
  rw [Value.flushed3]
  refine funext fun (y : S1024x1024.Idx) => ?_
  obtain ⟨i, j, rfl⟩ : ∃ i j, y = ix2 i j := ⟨y 0, y 1, funext fun a => by match a with | ⟨0, _⟩ => rfl | ⟨1, _⟩ => rfl⟩
  refine Eq.trans ?_ (read_out (G m c) t i j (by omega) (by omega)).symm
  show (outsAt0 m c t.val t.isLt).1 (ix2 i j) = _
  rw [out_last m c t h, pay3_at, scr_holds m c t.val t.isLt, h]
  rw [blk_2]
  rfl

/-- The result array after the run. -/
theorem final : (dats m 0 c).arrAt 3 cfg0.N = G m c :=
  (dats m 0 c).arrAt_eq_of_cover 3 (G m c) (fun t hf => flushed m c t hf) (fun i => (Value.covered_iff3 i).2 (by
    have h0 : (i 0).val < 4096 := (i 0).isLt; have h1 : (i 1).val < 2048 := (i 1).isLt; omega))

end Cert.Ffn6
end
-- ==== Proof.Ffn.Claim6.lean ====
/-
  Call 6 and its reference return the same array over the extended reals.
-/
module

public import proofs.«01_k».proof.Defs
public import proofs.«01_k».proof.Proof.Ffn.Call6
public import proofs.«01_k».proof.Proof.Gen.Kernel6.Frame
public import proofs.«01_k».proof.Proof.Gen.Reference6Ideal.Run
public import Idealize.ShloMosaic.Lib.Quiescent

@[expose] public section

set_option maxRecDepth 16384

noncomputable section

namespace Cert.Ffn6

open Cert.Ffn
open Idealize.ShloMosaic Idealize.ShloMosaic.TcCoe Idealize.ShloMosaic.Tactic Idealize.SL.Sem

section
open Cert.Reference6Ideal Cert.Reference6Ideal.Gen

/-- The reference's result. -/
def rout (z0 : FVec Ideal S4096x2048 .f32) (z1 : FVec Ideal S4096x5632 .bf16) (z2 : FVec Ideal S5632x2048 .bf16) : FVec Ideal S4096x2048 .f32 :=
  addf z0 (mulf (broadcastInDim S4096x2048 ![] bcast_S_S4096x2048 (constant S_ .f32 0x3F000000#32)) (Host.dotGeneral dot_S4096x5632_S5632x2048_S4096x2048_1_0_0_1_n_n none (extf .f32 z1 bitsLt_bf16_f32) (extf .f32 z2 bitsLt_bf16_f32)))

theorem rout_at (z0 : FVec Ideal S4096x2048 .f32) (z1 : FVec Ideal S4096x5632 .bf16) (z2 : FVec Ideal S5632x2048 .bf16) (a : Fin 4096) (b : Fin 2048) :
    rout z0 z1 z2 (ix2 a b) = z0 (ix2 a b) + Ideal.ofBits .f32 0x3F000000#32 * ∑ k : Fin 5632, z1 (ix2 a k) * z2 (ix2 k b) := by
  pointwise [rout]

end

section
open Cert.Kernel6Ideal Cert.Kernel6Ideal.Gen

variable (m : (ℓ : Loc nD τ sig) → Buf (Elt Ideal) ℓ) (c : Dev nD)

theorem G_at (a : Fin 4096) (b : Fin 2048) :
    G m c (ix2 a b) = (∑ k, M0 m c a k * M1 m c k b) * Ideal.ofBits .f32 0x3F000000#32 + M2 m c a b := by
  show psum (tm m c a.val b.val) 5632 * _ + rd (M2 m c) a.val b.val = _
  rw [psum_all]
  unfold tm
  simp only [rd_val]

end

theorem algebraic : Cert.algebraic_Kernel6Ideal_Reference6Ideal := by
  intro m g m' g' _ ha
  refine ⟨fun c => G m c, ?_, ?_⟩
  · exact (θ_run Cert.Kernel6Ideal.defs _ _).mono (fun r h c => ⟨(h c).1.trans (final m c), (h c).2⟩) (Cert.Kernel6Ideal.Value.run_blocks (F := Ideal) m g)
  · refine (θ_run Cert.Reference6Ideal.defs _ _).mono (fun r h c => ⟨(h c).1.trans ?_, (h c).2⟩) (Cert.Reference6Ideal.Value.run (F := Ideal) m' g')
    obtain ⟨e0, e1, e2⟩ := ha c
    show rout (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = G m c
    refine funext fun (x : Cert.Kernel6Ideal.S4096x2048.Idx) => ?_
    obtain ⟨a, b, rfl⟩ : ∃ a b, x = ix2 a b := ⟨x 0, x 1, funext fun q => by match q with | ⟨0, _⟩ => rfl | ⟨1, _⟩ => rfl⟩
    rw [G_at]
    refine (rout_at _ _ _ a b).trans ?_
    rw [mul_comm (∑ k, M0 m c a k * M1 m c k b), add_comm _ (M2 m c a b)]
    refine congrArg₂ (fun x y : EReal => x + y) (congrFun e0 (ix2 a b)) (congrArg _ (Finset.sum_congr rfl fun k _ => ?_))
    exact congrArg₂ (fun x y : EReal => x * y) (congrFun e1 (ix2 a k)) (congrFun e2 (ix2 k b))

theorem frame_kernel : Cert.quiescent_Kernel6 := fun m ρ _ => Cert.Kernel6.Gen.frame (F := Bits) m ρ

theorem frame_ideal : Cert.quiescent_Kernel6Ideal := fun m ρ _ => Cert.Kernel6Ideal.Gen.frame (F := Ideal) m ρ

theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Ffn6
end
-- ==== Proof.Ffn.Call7.lean ====
/-
  The call between the two products of the backward pass: what its grid leaves in its two results.
-/
module

public import proofs.«01_k».proof.Proof.Gen.Kernel7Ideal.Value
public import proofs.«01_k».proof.Proof.Ffn.Sum
public import Idealize.ShloMosaic.Lib.Pointwise

@[expose] public section

set_option maxRecDepth 16384

noncomputable section

namespace Cert.Ffn7

open Cert.Kernel7Ideal Cert.Kernel7Ideal.Gen Cert.Ffn
open Idealize.ShloMosaic Idealize.ShloMosaic.TcCoe Idealize.ShloMosaic.Tactic Idealize.SL.Sem

theorem hz : (![0, 0] : Fin 2 → Nat) = fun _ => 0 := funext fun a => by fin_cases a <;> rfl

/-! ## The vector operations at an index -/

theorem pay1_at (x : Vec Ideal S512x2048 .bf16) (y : Vec Ideal S512x2048 .bf16) (i j : Fin 512) : k0_pay1 (F := Ideal) x y (ix2 i j) = (∑ k : Fin 2048, x (ix2 i k) * y (ix2 j k)) * Ideal.ofBits .f32 0x3F000000#32 := by
  pointwise [k0_pay1]

theorem pay4_at (x : Vec Ideal S512x2048 .bf16) (y : Vec Ideal S512x2048 .bf16) (u : Vec Ideal S512x512 .bf16) (i j : Fin 512) :
    k0_pay4 (F := Ideal) x y u (ix2 i j) = (∑ k : Fin 2048, x (ix2 i k) * y (ix2 j k)) * Ideal.ofBits .f32 0x3F000000#32 * u (ix2 i j) * Ideal.logistic (u (ix2 i j)) := by
  rw [← pay1_at x y i j]
  rfl

theorem pay5_at (x : Vec Ideal S512x2048 .bf16) (y : Vec Ideal S512x2048 .bf16) (u : Vec Ideal S512x512 .bf16) (v : Vec Ideal S512x512 .bf16) (i j : Fin 512) :
    k0_pay5 (F := Ideal) x y u v (ix2 i j) = (∑ k : Fin 2048, x (ix2 i k) * y (ix2 j k)) * Ideal.ofBits .f32 0x3F000000#32 * v (ix2 i j) * (Ideal.logistic (u (ix2 i j)) *
      (Ideal.ofBits .f32 0x3F800000#32 + u (ix2 i j) * (Ideal.ofBits .f32 0x3F800000#32 - Ideal.logistic (u (ix2 i j))))) := by
  rw [← pay1_at x y i j]
  rfl

/-! ## The blocks a point reads -/

variable (m : (ℓ : Loc nD τ sig) → Buf (Elt Ideal) ℓ) (c : Dev nD)

theorem lt_N (t : Fin cfg0.N) : t.val < 88 := lt_of_lt_of_eq t.isLt (show cfg0.N = 88 from N_0)

/-- Operand 0, at a row and a column. -/
def M0 : Fin 4096 → Fin 2048 → EReal := fun i j => (V m c (Pipeline.arrRef spec0 0) : FVec Ideal S4096x2048 .bf16) (ix2 i j)

theorem index_0 : ∀ t : Fin cfg0.N, win0_0.index t (0 : Fin 2) = t.val / 11 ∧ win0_0.index t (1 : Fin 2) = 0 :=
  (by decide +kernel : ∀ t : Fin grid0.N, _)

theorem emb_0 (t : Fin cfg0.N) (i : Fin 512) (j : Fin 2048) (hi : t.val / 11 * 512 + i.val < 4096) :
    ((cfg0.win 0).rect t).emb (ix2 i j) = (ix2 ⟨t.val / 11 * 512 + i.val, hi⟩ j : S4096x2048.Idx) := by
  funext a
  refine Fin.ext ((Pipeline.Window.rect_emb_val _ t _ a).trans ?_)
  match a with
  | ⟨0, _⟩ => show win0_0.index t (0 : Fin 2) * 512 + i.val = _; rw [(index_0 t).1]; rfl
  | ⟨1, _⟩ => exact (by rw [(index_0 t).2, Nat.zero_mul, Nat.zero_add] : win0_0.index t (1 : Fin 2) * 2048 + j.val = j.val)

theorem blk_0 (t : Fin cfg0.N) (i : Fin 512) (j : Fin 2048) :
    (iblk m c 0 t : Vec Ideal S512x2048 .bf16) (ix2 i j) = rd (M0 m c) (t.val / 11 * 512 + i.val) j.val := by
  have ht := lt_N t
  have hi : t.val / 11 * 512 + i.val < 4096 := by omega
  rw [rd_of _ hi j.isLt]
  unfold iblk M0
  refine Eq.trans ?_ (congrArg (V m c (Pipeline.arrRef spec0 0) : FVec Ideal S4096x2048 .bf16) (emb_0 t i j hi))
  rfl

/-- Operand 1, at a row and a column. -/
def M1 : Fin 5632 → Fin 2048 → EReal := fun i j => (V m c (Pipeline.arrRef spec0 1) : FVec Ideal S5632x2048 .bf16) (ix2 i j)

theorem index_1 : ∀ t : Fin cfg0.N, win0_1.index t (0 : Fin 2) = t.val % 11 ∧ win0_1.index t (1 : Fin 2) = 0 :=
  (by decide +kernel : ∀ t : Fin grid0.N, _)

theorem emb_1 (t : Fin cfg0.N) (i : Fin 512) (j : Fin 2048) (hi : t.val % 11 * 512 + i.val < 5632) :
    ((cfg0.win 1).rect t).emb (ix2 i j) = (ix2 ⟨t.val % 11 * 512 + i.val, hi⟩ j : S5632x2048.Idx) := by
  funext a
  refine Fin.ext ((Pipeline.Window.rect_emb_val _ t _ a).trans ?_)
  match a with
  | ⟨0, _⟩ => show win0_1.index t (0 : Fin 2) * 512 + i.val = _; rw [(index_1 t).1]; rfl
  | ⟨1, _⟩ => exact (by rw [(index_1 t).2, Nat.zero_mul, Nat.zero_add] : win0_1.index t (1 : Fin 2) * 2048 + j.val = j.val)

theorem blk_1 (t : Fin cfg0.N) (i : Fin 512) (j : Fin 2048) :
    (iblk m c 1 t : Vec Ideal S512x2048 .bf16) (ix2 i j) = rd (M1 m c) (t.val % 11 * 512 + i.val) j.val := by
  have ht := lt_N t
  have hi : t.val % 11 * 512 + i.val < 5632 := by omega
  rw [rd_of _ hi j.isLt]
  unfold iblk M1
  refine Eq.trans ?_ (congrArg (V m c (Pipeline.arrRef spec0 1) : FVec Ideal S5632x2048 .bf16) (emb_1 t i j hi))
  rfl

/-- Operand 2, at a row and a column. -/
def M2 : Fin 4096 → Fin 5632 → EReal := fun i j => (V m c (Pipeline.arrRef spec0 2) : FVec Ideal S4096x5632 .bf16) (ix2 i j)

theorem index_2 : ∀ t : Fin cfg0.N, win0_2.index t (0 : Fin 2) = t.val / 11 ∧ win0_2.index t (1 : Fin 2) = t.val % 11 :=
  (by decide +kernel : ∀ t : Fin grid0.N, _)

theorem emb_2 (t : Fin cfg0.N) (i : Fin 512) (j : Fin 512) (hi : t.val / 11 * 512 + i.val < 4096) (hj : t.val % 11 * 512 + j.val < 5632) :
    ((cfg0.win 2).rect t).emb (ix2 i j) = (ix2 ⟨t.val / 11 * 512 + i.val, hi⟩ ⟨t.val % 11 * 512 + j.val, hj⟩ : S4096x5632.Idx) := by
  funext a
  refine Fin.ext ((Pipeline.Window.rect_emb_val _ t _ a).trans ?_)
  match a with
  | ⟨0, _⟩ => show win0_2.index t (0 : Fin 2) * 512 + i.val = _; rw [(index_2 t).1]; rfl
  | ⟨1, _⟩ => show win0_2.index t (1 : Fin 2) * 512 + j.val = _; rw [(index_2 t).2]; rfl

theorem blk_2 (t : Fin cfg0.N) (i : Fin 512) (j : Fin 512) :
    (iblk m c 2 t : Vec Ideal S512x512 .bf16) (ix2 i j) = rd (M2 m c) (t.val / 11 * 512 + i.val) (t.val % 11 * 512 + j.val) := by
  have ht := lt_N t
  have hi : t.val / 11 * 512 + i.val < 4096 := by omega
  have hj : t.val % 11 * 512 + j.val < 5632 := by omega
  rw [rd_of _ hi hj]
  unfold iblk M2
  refine Eq.trans ?_ (congrArg (V m c (Pipeline.arrRef spec0 2) : FVec Ideal S4096x5632 .bf16) (emb_2 t i j hi hj))
  rfl

/-- Operand 3, at a row and a column. -/
def M3 : Fin 4096 → Fin 5632 → EReal := fun i j => (V m c (Pipeline.arrRef spec0 3) : FVec Ideal S4096x5632 .bf16) (ix2 i j)

theorem index_3 : ∀ t : Fin cfg0.N, win0_3.index t (0 : Fin 2) = t.val / 11 ∧ win0_3.index t (1 : Fin 2) = t.val % 11 :=
  (by decide +kernel : ∀ t : Fin grid0.N, _)

theorem emb_3 (t : Fin cfg0.N) (i : Fin 512) (j : Fin 512) (hi : t.val / 11 * 512 + i.val < 4096) (hj : t.val % 11 * 512 + j.val < 5632) :
    ((cfg0.win 3).rect t).emb (ix2 i j) = (ix2 ⟨t.val / 11 * 512 + i.val, hi⟩ ⟨t.val % 11 * 512 + j.val, hj⟩ : S4096x5632.Idx) := by
  funext a
  refine Fin.ext ((Pipeline.Window.rect_emb_val _ t _ a).trans ?_)
  match a with
  | ⟨0, _⟩ => show win0_3.index t (0 : Fin 2) * 512 + i.val = _; rw [(index_3 t).1]; rfl
  | ⟨1, _⟩ => show win0_3.index t (1 : Fin 2) * 512 + j.val = _; rw [(index_3 t).2]; rfl

theorem blk_3 (t : Fin cfg0.N) (i : Fin 512) (j : Fin 512) :
    (iblk m c 3 t : Vec Ideal S512x512 .bf16) (ix2 i j) = rd (M3 m c) (t.val / 11 * 512 + i.val) (t.val % 11 * 512 + j.val) := by
  have ht := lt_N t
  have hi : t.val / 11 * 512 + i.val < 4096 := by omega
  have hj : t.val % 11 * 512 + j.val < 5632 := by omega
  rw [rd_of _ hi hj]
  unfold iblk M3
  refine Eq.trans ?_ (congrArg (V m c (Pipeline.arrRef spec0 3) : FVec Ideal S4096x5632 .bf16) (emb_3 t i j hi hj))
  rfl

/-! ## The values -/

def half (a b : ℕ) : EReal := (∑ k : Fin 2048, rd (M0 m c) a k.val * rd (M1 m c) b k.val) * Ideal.ofBits .f32 0x3F000000#32

def val4 (a b : ℕ) : EReal := half m c a b * rd (M3 m c) a b * (Ideal.logistic (rd (M2 m c) a b) *
  (Ideal.ofBits .f32 0x3F800000#32 + rd (M2 m c) a b * (Ideal.ofBits .f32 0x3F800000#32 - Ideal.logistic (rd (M2 m c) a b))))
def val5 (a b : ℕ) : EReal := half m c a b * rd (M2 m c) a b * Ideal.logistic (rd (M2 m c) a b)

/-! ## Result 4 -/

theorem index_4 : ∀ t : Fin cfg0.N, win0_4.index t (0 : Fin 2) = t.val / 11 ∧ win0_4.index t (1 : Fin 2) = t.val % 11 :=
  (by decide +kernel : ∀ t : Fin grid0.N, _)

theorem emb_4 (t : Fin cfg0.N) (i : Fin 512) (j : Fin 512) (hi : t.val / 11 * 512 + i.val < 4096) (hj : t.val % 11 * 512 + j.val < 5632) :
    ((cfg0.win 4).rect t).emb (ix2 i j) = (ix2 ⟨t.val / 11 * 512 + i.val, hi⟩ ⟨t.val % 11 * 512 + j.val, hj⟩ : S4096x5632.Idx) := by
  funext a
  refine Fin.ext ((Pipeline.Window.rect_emb_val _ t _ a).trans ?_)
  match a with
  | ⟨0, _⟩ => show win0_4.index t (0 : Fin 2) * 512 + i.val = _; rw [(index_4 t).1]; rfl
  | ⟨1, _⟩ => show win0_4.index t (1 : Fin 2) * 512 + j.val = _; rw [(index_4 t).2]; rfl

theorem read_4 (Z : FVec Ideal S4096x5632 .bf16) (t : Fin cfg0.N) (i : Fin 512) (j : Fin 512) (hi : t.val / 11 * 512 + i.val < 4096) (hj : t.val % 11 * 512 + j.val < 5632) :
    ((cfg0.win 4).blk t).view.read (Elt Ideal) Z (ix2 i j) = Z (ix2 ⟨t.val / 11 * 512 + i.val, hi⟩ ⟨t.val % 11 * 512 + j.val, hj⟩) := by
  refine Eq.trans ?_ (congrArg Z (emb_4 t i j hi hj))
  rfl

theorem out_4 (x0 : Vec Ideal S512x2048 .bf16) (x1 : Vec Ideal S512x2048 .bf16) (x2 : Vec Ideal S512x512 .bf16) (x3 : Vec Ideal S512x512 .bf16) : out0_4 (F := Ideal) x0 x1 x2 x3 = k0_pay5 (F := Ideal) x0 x1 x2 x3 := by
  unfold out0_4
  rw [View.canon_unit_zero hz]
  simp only [View.ld_unit_zero (S := S512x2048) hz, View.ld_unit_zero (S := S512x512) hz]

/-- The array of result 4. -/
def G4 : FVec Ideal S4096x5632 .bf16 := fun x => val4 m c (x 0).val (x 1).val

theorem flushed_4 (t : Fin cfg0.N) :
    (dats m 0 c).flushed 4 t = ((cfg0.win 4).blk t).view.read (Elt Ideal) (G4 m c) := by
  have ht := lt_N t
  rw [Value.flushed4]
  refine funext fun (y : S512x512.Idx) => ?_
  obtain ⟨i, j, rfl⟩ : ∃ i j, y = ix2 i j := ⟨y 0, y 1, funext fun a => by match a with | ⟨0, _⟩ => rfl | ⟨1, _⟩ => rfl⟩
  refine Eq.trans ?_ (read_4 (G4 m c) t i j (by omega) (by omega)).symm
  show out0_4 (F := Ideal) (iblk m c 0 t) (iblk m c 1 t) (iblk m c 2 t) (iblk m c 3 t) (ix2 i j) = _
  rw [out_4, pay5_at]
  simp only [blk_0, blk_1, blk_2, blk_3]
  rfl

theorem cover_4 (x : S4096x5632.Idx) : ∃ t : Fin cfg0.N, (cfg0.win 4).flush t = true ∧ x ∈ ((cfg0.win 4).blk t).view.set := by
  have h0 : (x 0).val < 4096 := (x 0).isLt
  have h1 : (x 1).val < 5632 := (x 1).isLt
  have hN : cfg0.N = 88 := N_0
  have e0 : ((x 0).val / 512 * 11 + (x 1).val / 512) / 11 = (x 0).val / 512 := by omega
  have e1 : ((x 0).val / 512 * 11 + (x 1).val / 512) % 11 = (x 1).val / 512 := by omega
  refine ⟨⟨(x 0).val / 512 * 11 + (x 1).val / 512, by omega⟩, flush0_4 _, ?_⟩
  refine Finset.mem_map.mpr ⟨ix2 ⟨(x 0).val % 512, by omega⟩ ⟨(x 1).val % 512, by omega⟩, Finset.mem_univ _, ?_⟩
  refine (emb_4 _ _ _ (by dsimp only; omega) (by dsimp only; omega)).trans ?_
  refine funext fun a => ?_
  match a with
  | ⟨0, _⟩ => exact Fin.ext (by show ((x 0).val / 512 * 11 + (x 1).val / 512) / 11 * 512 + (x 0).val % 512 = (x 0).val; omega)
  | ⟨1, _⟩ => exact Fin.ext (by show ((x 0).val / 512 * 11 + (x 1).val / 512) % 11 * 512 + (x 1).val % 512 = (x 1).val; omega)

/-- Result 4's array after the run. -/
theorem final_4 : (dats m 0 c).arrAt 4 cfg0.N = G4 m c :=
  (dats m 0 c).arrAt_eq_of_cover 4 (G4 m c) (fun t _ => flushed_4 m c t) cover_4

/-! ## Result 5 -/

theorem index_5 : ∀ t : Fin cfg0.N, win0_5.index t (0 : Fin 2) = t.val / 11 ∧ win0_5.index t (1 : Fin 2) = t.val % 11 :=
  (by decide +kernel : ∀ t : Fin grid0.N, _)

theorem emb_5 (t : Fin cfg0.N) (i : Fin 512) (j : Fin 512) (hi : t.val / 11 * 512 + i.val < 4096) (hj : t.val % 11 * 512 + j.val < 5632) :
    ((cfg0.win 5).rect t).emb (ix2 i j) = (ix2 ⟨t.val / 11 * 512 + i.val, hi⟩ ⟨t.val % 11 * 512 + j.val, hj⟩ : S4096x5632.Idx) := by
  funext a
  refine Fin.ext ((Pipeline.Window.rect_emb_val _ t _ a).trans ?_)
  match a with
  | ⟨0, _⟩ => show win0_5.index t (0 : Fin 2) * 512 + i.val = _; rw [(index_5 t).1]; rfl
  | ⟨1, _⟩ => show win0_5.index t (1 : Fin 2) * 512 + j.val = _; rw [(index_5 t).2]; rfl

theorem read_5 (Z : FVec Ideal S4096x5632 .bf16) (t : Fin cfg0.N) (i : Fin 512) (j : Fin 512) (hi : t.val / 11 * 512 + i.val < 4096) (hj : t.val % 11 * 512 + j.val < 5632) :
    ((cfg0.win 5).blk t).view.read (Elt Ideal) Z (ix2 i j) = Z (ix2 ⟨t.val / 11 * 512 + i.val, hi⟩ ⟨t.val % 11 * 512 + j.val, hj⟩) := by
  refine Eq.trans ?_ (congrArg Z (emb_5 t i j hi hj))
  rfl

theorem out_5 (x0 : Vec Ideal S512x2048 .bf16) (x1 : Vec Ideal S512x2048 .bf16) (x2 : Vec Ideal S512x512 .bf16) (x3 : Vec Ideal S512x512 .bf16) : out0_5 (F := Ideal) x0 x1 x2 x3 = k0_pay4 (F := Ideal) x0 x1 x2 := by
  unfold out0_5
  rw [View.canon_unit_zero hz]
  simp only [View.ld_unit_zero (S := S512x2048) hz, View.ld_unit_zero (S := S512x512) hz]

/-- The array of result 5. -/
def G5 : FVec Ideal S4096x5632 .bf16 := fun x => val5 m c (x 0).val (x 1).val

theorem flushed_5 (t : Fin cfg0.N) :
    (dats m 0 c).flushed 5 t = ((cfg0.win 5).blk t).view.read (Elt Ideal) (G5 m c) := by
  have ht := lt_N t
  rw [Value.flushed5]
  refine funext fun (y : S512x512.Idx) => ?_
  obtain ⟨i, j, rfl⟩ : ∃ i j, y = ix2 i j := ⟨y 0, y 1, funext fun a => by match a with | ⟨0, _⟩ => rfl | ⟨1, _⟩ => rfl⟩
  refine Eq.trans ?_ (read_5 (G5 m c) t i j (by omega) (by omega)).symm
  show out0_5 (F := Ideal) (iblk m c 0 t) (iblk m c 1 t) (iblk m c 2 t) (iblk m c 3 t) (ix2 i j) = _
  rw [out_5, pay4_at]
  simp only [blk_0, blk_1, blk_2]
  rfl

theorem cover_5 (x : S4096x5632.Idx) : ∃ t : Fin cfg0.N, (cfg0.win 5).flush t = true ∧ x ∈ ((cfg0.win 5).blk t).view.set := by
  have h0 : (x 0).val < 4096 := (x 0).isLt
  have h1 : (x 1).val < 5632 := (x 1).isLt
  have hN : cfg0.N = 88 := N_0
  have e0 : ((x 0).val / 512 * 11 + (x 1).val / 512) / 11 = (x 0).val / 512 := by omega
  have e1 : ((x 0).val / 512 * 11 + (x 1).val / 512) % 11 = (x 1).val / 512 := by omega
  refine ⟨⟨(x 0).val / 512 * 11 + (x 1).val / 512, by omega⟩, flush0_5 _, ?_⟩
  refine Finset.mem_map.mpr ⟨ix2 ⟨(x 0).val % 512, by omega⟩ ⟨(x 1).val % 512, by omega⟩, Finset.mem_univ _, ?_⟩
  refine (emb_5 _ _ _ (by dsimp only; omega) (by dsimp only; omega)).trans ?_
  refine funext fun a => ?_
  match a with
  | ⟨0, _⟩ => exact Fin.ext (by show ((x 0).val / 512 * 11 + (x 1).val / 512) / 11 * 512 + (x 0).val % 512 = (x 0).val; omega)
  | ⟨1, _⟩ => exact Fin.ext (by show ((x 0).val / 512 * 11 + (x 1).val / 512) % 11 * 512 + (x 1).val % 512 = (x 1).val; omega)

/-- Result 5's array after the run. -/
theorem final_5 : (dats m 0 c).arrAt 5 cfg0.N = G5 m c :=
  (dats m 0 c).arrAt_eq_of_cover 5 (G5 m c) (fun t _ => flushed_5 m c t) cover_5

end Cert.Ffn7
end
-- ==== Proof.Ffn.Claim7.lean ====
/-
  Call 7 and its reference return the same arrays over the extended reals.
-/
module

public import proofs.«01_k».proof.Defs
public import proofs.«01_k».proof.Proof.Ffn.Call7
public import proofs.«01_k».proof.Proof.FoxQ.Finite
public import proofs.«01_k».proof.Proof.Gen.Kernel7.Frame
public import proofs.«01_k».proof.Proof.Gen.Reference7Ideal.Run
public import Idealize.ShloMosaic.Lib.Quiescent

@[expose] public section

set_option maxRecDepth 16384

noncomputable section

namespace Cert.Ffn7

open Cert.Ffn
open Idealize.ShloMosaic Idealize.ShloMosaic.TcCoe Idealize.ShloMosaic.Tactic Idealize.SL.Sem

/-! ## What the precondition gives -/

theorem preFacts : Cert.Pre_finite7.Facts := ⟨by decide, by decide, by decide, by decide⟩

theorem real_g (f : Cert.Pre_finite7.Facts) (x : FVec Ideal Cert.Pre_finite7.S4096x2048 .bf16)
    (h : cmpf .olt (Host.absf (extf .f32 x f.bitsLt_bf16_f32)) (broadcastInDim Cert.Pre_finite7.S4096x2048 ![] f.bcast_S_S4096x2048 (constant Cert.Pre_finite7.S_ FTy.f32 0x7F800000#32)) = fun _ => 1#1)
    (i : Fin 4096) (j : Fin 2048) : x (ix2 i j) = (((x (ix2 i j) : EReal).toReal : ℝ) : EReal) := by
  have e := congrFun h (ix2 i j)
  revert e
  pointwise
  exact Cert.FoxQ.real_of_bit _

theorem real_w (f : Cert.Pre_finite7.Facts) (x : FVec Ideal Cert.Pre_finite7.S5632x2048 .bf16)
    (h : cmpf .olt (Host.absf (extf .f32 x f.bitsLt_bf16_f32)) (broadcastInDim Cert.Pre_finite7.S5632x2048 ![] f.bcast_S_S5632x2048 (constant Cert.Pre_finite7.S_ FTy.f32 0x7F800000#32)) = fun _ => 1#1)
    (i : Fin 5632) (j : Fin 2048) : x (ix2 i j) = (((x (ix2 i j) : EReal).toReal : ℝ) : EReal) := by
  have e := congrFun h (ix2 i j)
  revert e
  pointwise
  exact Cert.FoxQ.real_of_bit _

theorem real_u (f : Cert.Pre_finite7.Facts) (x : FVec Ideal Cert.Pre_finite7.S4096x5632 .bf16)
    (h : cmpf .olt (Host.absf (extf .f32 x f.bitsLt_bf16_f32)) (broadcastInDim Cert.Pre_finite7.S4096x5632 ![] f.bcast_S_S4096x5632 (constant Cert.Pre_finite7.S_ FTy.f32 0x7F800000#32)) = fun _ => 1#1)
    (i : Fin 4096) (j : Fin 5632) : x (ix2 i j) = (((x (ix2 i j) : EReal).toReal : ℝ) : EReal) := by
  have e := congrFun h (ix2 i j)
  revert e
  pointwise
  exact Cert.FoxQ.real_of_bit _

/-- A finite sum of products of real numbers is real. -/
theorem sum_real {K : ℕ} (x y : Fin K → EReal) (hx : ∀ k, ∃ r : ℝ, x k = (r : EReal)) (hy : ∀ k, ∃ r : ℝ, y k = (r : EReal)) :
    ∃ r : ℝ, ∑ k, x k * y k = (r : EReal) := by
  choose f hf using hx
  choose g hg using hy
  have step : ∀ s : Finset (Fin K), ∃ r : ℝ, ∑ k ∈ s, x k * y k = (r : EReal) := fun s => by
    induction s using Finset.induction_on with
    | empty => exact ⟨0, by rw [Finset.sum_empty, EReal.coe_zero]⟩
    | insert a s ha ih =>
      obtain ⟨r, hr⟩ := ih
      exact ⟨f a * g a + r, by rw [Finset.sum_insert ha, hr, hf, hg, EReal.coe_add, EReal.coe_mul]⟩
  exact step Finset.univ

/-- The derivative of the gate, in the two forms. -/
theorem gate_real (h b a s : ℝ) : (h : EReal) * b * s + a * (h * b) * (s * (1 - s)) = h * b * (s * (1 + a * (1 - s))) := by
  have e : ((h * b * s + a * (h * b) * (s * (1 - s)) : ℝ) : EReal) = ((h * b * (s * (1 + a * (1 - s))) : ℝ) : EReal) := congrArg _ (by ring)
  simpa only [EReal.coe_add, EReal.coe_mul, EReal.coe_sub, EReal.coe_one] using e

section
open Cert.Reference7Ideal Cert.Reference7Ideal.Gen

/-- The reference's product. -/
def rhalf (z0 : FVec Ideal S4096x2048 .bf16) (z1 : FVec Ideal S5632x2048 .bf16) : FVec Ideal S4096x5632 .f32 :=
  Host.dotGeneral dot_S4096x2048_S5632x2048_S4096x5632_1_1_0_0_n_n none (mulf (broadcastInDim S4096x2048 ![] bcast_S_S4096x2048 (constant S_ .f32 0x3F000000#32)) (extf .f32 z0 bitsLt_bf16_f32)) (extf .f32 z1 bitsLt_bf16_f32)

theorem rhalf_at (z0 : FVec Ideal S4096x2048 .bf16) (z1 : FVec Ideal S5632x2048 .bf16) (a : Fin 4096) (b : Fin 5632) :
    rhalf z0 z1 (ix2 a b) = ∑ k : Fin 2048, Ideal.ofBits .f32 0x3F000000#32 * z0 (ix2 a k) * z1 (ix2 b k) := by
  pointwise [rhalf]

/-- The reference's logistic function. -/
def rsig (z2 : FVec Ideal S4096x5632 .bf16) : FVec Ideal S4096x5632 .f32 :=
  Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 z2 bitsLt_bf16_f32))))

theorem rsig_at (z2 : FVec Ideal S4096x5632 .bf16) (a : Fin 4096) (b : Fin 5632) :
    rsig z2 (ix2 a b) = Ideal.div (Ideal.ofBits .f32 0x3F800000#32) (Ideal.ofBits .f32 0x3F800000#32 + Ideal.exp (-z2 (ix2 a b))) := rfl

theorem rsig_eq (z2 : FVec Ideal S4096x5632 .bf16) (a : Fin 4096) (b : Fin 5632) : rsig z2 (ix2 a b) = Ideal.logistic (z2 (ix2 a b)) := by
  rw [rsig_at, one_word]
  rfl

/-- The reference's first result. -/
def rda (z0 : FVec Ideal S4096x2048 .bf16) (z1 : FVec Ideal S5632x2048 .bf16) (z2 : FVec Ideal S4096x5632 .bf16) (z3 : FVec Ideal S4096x5632 .bf16) : FVec Ideal S4096x5632 .bf16 :=
  truncf .bf16 (addf (mulf (mulf (rhalf z0 z1) (extf .f32 z3 bitsLt_bf16_f32)) (rsig z2)) (mulf (mulf (extf .f32 z2 bitsLt_bf16_f32) (mulf (rhalf z0 z1) (extf .f32 z3 bitsLt_bf16_f32))) (mulf (rsig z2) (subf (broadcastInDim S4096x5632 ![] bcast_S_S4096x5632 (constant S_ .f32 0x3F800000#32)) (rsig z2))))) bitsLt_bf16_f32

theorem rda_at (z0 : FVec Ideal S4096x2048 .bf16) (z1 : FVec Ideal S5632x2048 .bf16) (z2 : FVec Ideal S4096x5632 .bf16) (z3 : FVec Ideal S4096x5632 .bf16) (a : Fin 4096) (b : Fin 5632) :
    rda z0 z1 z2 z3 (ix2 a b) = rhalf z0 z1 (ix2 a b) * z3 (ix2 a b) * rsig z2 (ix2 a b)
      + z2 (ix2 a b) * (rhalf z0 z1 (ix2 a b) * z3 (ix2 a b)) * (rsig z2 (ix2 a b) * (Ideal.ofBits .f32 0x3F800000#32 - rsig z2 (ix2 a b))) := rfl

/-- The reference's second result. -/
def rdb (z0 : FVec Ideal S4096x2048 .bf16) (z1 : FVec Ideal S5632x2048 .bf16) (z2 : FVec Ideal S4096x5632 .bf16) : FVec Ideal S4096x5632 .bf16 :=
  truncf .bf16 (mulf (mulf (extf .f32 z2 bitsLt_bf16_f32) (rsig z2)) (rhalf z0 z1)) bitsLt_bf16_f32

theorem rdb_at (z0 : FVec Ideal S4096x2048 .bf16) (z1 : FVec Ideal S5632x2048 .bf16) (z2 : FVec Ideal S4096x5632 .bf16) (a : Fin 4096) (b : Fin 5632) :
    rdb z0 z1 z2 (ix2 a b) = z2 (ix2 a b) * rsig z2 (ix2 a b) * rhalf z0 z1 (ix2 a b) := rfl

end

section
open Cert.Kernel7Ideal Cert.Kernel7Ideal.Gen

variable (m : (ℓ : Loc nD τ sig) → Buf (Elt Ideal) ℓ) (c : Dev nD)

theorem half_at (a : Fin 4096) (b : Fin 5632) : half m c a.val b.val = (∑ k, M0 m c a k * M1 m c b k) * Ideal.ofBits .f32 0x3F000000#32 := by
  unfold half
  simp only [rd_val]

theorem G4_at (a : Fin 4096) (b : Fin 5632) : G4 m c (ix2 a b) = half m c a.val b.val * M3 m c a b * (Ideal.logistic (M2 m c a b) *
    (Ideal.ofBits .f32 0x3F800000#32 + M2 m c a b * (Ideal.ofBits .f32 0x3F800000#32 - Ideal.logistic (M2 m c a b)))) := by
  show val4 m c a.val b.val = _
  unfold val4
  simp only [rd_val]

theorem G5_at (a : Fin 4096) (b : Fin 5632) : G5 m c (ix2 a b) = half m c a.val b.val * M2 m c a b * Ideal.logistic (M2 m c a b) := by
  show val5 m c a.val b.val = _
  unfold val5
  simp only [rd_val]

/-- The operands are real numbers. -/
structure Real7 : Prop where
  g : ∀ i j, ∃ r : ℝ, M0 m c i j = (r : EReal)
  w : ∀ i j, ∃ r : ℝ, M1 m c i j = (r : EReal)
  a : ∀ i j, ∃ r : ℝ, M2 m c i j = (r : EReal)
  b : ∀ i j, ∃ r : ℝ, M3 m c i j = (r : EReal)

theorem real_of_pre (f : Cert.Pre_finite7.Facts) (h : Cert.Pre_Kernel7Ideal_finite7 m) : Real7 m c where
  g i j := ⟨_, real_g f _ (h c).1 i j⟩
  w i j := ⟨_, real_w f _ (h c).2.1 i j⟩
  a i j := ⟨_, real_u f _ (h c).2.2.1 i j⟩
  b i j := ⟨_, real_u f _ (h c).2.2.2 i j⟩

end

theorem half_eq (m : (ℓ : Loc Cert.Kernel7Ideal.nD Cert.Kernel7Ideal.τ Cert.Kernel7Ideal.sig) → Buf (Elt Ideal) ℓ) (c : Dev Cert.Kernel7Ideal.nD)
    (z0 : FVec Ideal Cert.Reference7Ideal.S4096x2048 .bf16) (z1 : FVec Ideal Cert.Reference7Ideal.S5632x2048 .bf16)
    (e0 : ∀ a k, z0 (ix2 a k) = M0 m c a k) (e1 : ∀ b k, z1 (ix2 b k) = M1 m c b k) (a : Fin 4096) (b : Fin 5632) :
    rhalf z0 z1 (ix2 a b) = half m c a.val b.val := by
  rw [rhalf_at, half_at, half_word, sum_mul_pos _ _ half_nonneg (EReal.coe_ne_top _)]
  refine Finset.sum_congr rfl fun k _ => ?_
  rw [e0, e1, mul_assoc, mul_comm]

theorem da_eq (m : (ℓ : Loc Cert.Kernel7Ideal.nD Cert.Kernel7Ideal.τ Cert.Kernel7Ideal.sig) → Buf (Elt Ideal) ℓ) (c : Dev Cert.Kernel7Ideal.nD) (R : Real7 m c)
    (z0 : FVec Ideal Cert.Reference7Ideal.S4096x2048 .bf16) (z1 : FVec Ideal Cert.Reference7Ideal.S5632x2048 .bf16) (z2 z3 : FVec Ideal Cert.Reference7Ideal.S4096x5632 .bf16)
    (e0 : ∀ a k, z0 (ix2 a k) = M0 m c a k) (e1 : ∀ b k, z1 (ix2 b k) = M1 m c b k) (e2 : ∀ a b, z2 (ix2 a b) = M2 m c a b) (e3 : ∀ a b, z3 (ix2 a b) = M3 m c a b) (a : Fin 4096) (b : Fin 5632) :
    rda z0 z1 z2 z3 (ix2 a b) = G4 m c (ix2 a b) := by
  rw [rda_at, rsig_eq, half_eq m c z0 z1 e0 e1, e2, e3, G4_at, one_word]
  obtain ⟨s, hs⟩ := sum_real (fun k => M0 m c a k) (fun k => M1 m c b k) (R.g a) (R.w b)
  obtain ⟨u, hu⟩ := R.a a b
  obtain ⟨v, hv⟩ := R.b a b
  have hh : half m c a.val b.val = ((s * (1 / 2) : ℝ) : EReal) := by rw [half_at, hs, half_word, EReal.coe_mul]
  rw [hh, hu, hv, Ideal.logistic_coe]
  exact gate_real _ _ _ _

theorem db_eq (m : (ℓ : Loc Cert.Kernel7Ideal.nD Cert.Kernel7Ideal.τ Cert.Kernel7Ideal.sig) → Buf (Elt Ideal) ℓ) (c : Dev Cert.Kernel7Ideal.nD)
    (z0 : FVec Ideal Cert.Reference7Ideal.S4096x2048 .bf16) (z1 : FVec Ideal Cert.Reference7Ideal.S5632x2048 .bf16) (z2 : FVec Ideal Cert.Reference7Ideal.S4096x5632 .bf16)
    (e0 : ∀ a k, z0 (ix2 a k) = M0 m c a k) (e1 : ∀ b k, z1 (ix2 b k) = M1 m c b k) (e2 : ∀ a b, z2 (ix2 a b) = M2 m c a b) (a : Fin 4096) (b : Fin 5632) :
    rdb z0 z1 z2 (ix2 a b) = G5 m c (ix2 a b) := by
  rw [rdb_at, rsig_eq, half_eq m c z0 z1 e0 e1, e2, G5_at, mul_comm, mul_assoc]

theorem algebraic (f : Cert.Pre_finite7.Facts) : Cert.algebraic_Kernel7Ideal_Reference7Ideal_pre_finite7 := by
  intro m g m' g' hp ha
  refine ⟨fun c => G4 m c, fun c => G5 m c, ?_, ?_⟩
  · exact (θ_run Cert.Kernel7Ideal.defs _ _).mono (fun r h c => ⟨(h c).1.trans (final_4 m c), (h c).2.1.trans (final_5 m c), (h c).2.2⟩)
      (Cert.Kernel7Ideal.Value.run_blocks (F := Ideal) m g)
  · refine (θ_run Cert.Reference7Ideal.defs _ _).mono (fun r h c => ⟨(h c).1.trans ?_, (h c).2.1.trans ?_, (h c).2.2⟩) (Cert.Reference7Ideal.Value.run (F := Ideal) m' g')
    · obtain ⟨e0, e1, e2, e3⟩ := ha c
      show rda (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) = G4 m c
      refine funext fun (x : Cert.Kernel7Ideal.S4096x5632.Idx) => ?_
      obtain ⟨a, b, rfl⟩ : ∃ a b, x = ix2 a b := ⟨x 0, x 1, funext fun q => by match q with | ⟨0, _⟩ => rfl | ⟨1, _⟩ => rfl⟩
      exact da_eq m c (real_of_pre m c f hp) _ _ _ _ (fun a k => congrFun e0 (ix2 a k)) (fun b k => congrFun e1 (ix2 b k)) (fun a b => congrFun e2 (ix2 a b)) (fun a b => congrFun e3 (ix2 a b)) a b
    · obtain ⟨e0, e1, e2, e3⟩ := ha c
      show rdb (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) = G5 m c
      refine funext fun (x : Cert.Kernel7Ideal.S4096x5632.Idx) => ?_
      obtain ⟨a, b, rfl⟩ : ∃ a b, x = ix2 a b := ⟨x 0, x 1, funext fun q => by match q with | ⟨0, _⟩ => rfl | ⟨1, _⟩ => rfl⟩
      exact db_eq m c _ _ _ (fun a k => congrFun e0 (ix2 a k)) (fun b k => congrFun e1 (ix2 b k)) (fun a b => congrFun e2 (ix2 a b)) a b

theorem frame_kernel : Cert.quiescent_Kernel7 := fun m ρ _ => Cert.Kernel7.Gen.frame (F := Bits) m ρ

theorem frame_ideal : Cert.quiescent_Kernel7Ideal := fun m ρ _ => Cert.Kernel7Ideal.Gen.frame (F := Ideal) m ρ

theorem frame_ref : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

end Cert.Ffn7
end
-- ==== Proof.Ffn.Call8.lean ====
/-
  The product of call 8: what its grid leaves in the result, as one sum over the contracted axis.
-/
module

public import proofs.«01_k».proof.Proof.Gen.Kernel8Ideal.Value
public import proofs.«01_k».proof.Proof.Ffn.Sum
public import Idealize.ShloMosaic.Lib.Pointwise

@[expose] public section

set_option maxRecDepth 16384

noncomputable section

namespace Cert.Ffn8

open Cert.Kernel8Ideal Cert.Kernel8Ideal.Gen Cert.Ffn
open Idealize.ShloMosaic Idealize.ShloMosaic.TcCoe Idealize.ShloMosaic.Tactic Idealize.SL.Sem

/-! ## The vector operations at an index -/

theorem pay1_at (i : Fin 1024) (j : Fin 1024) : k0_pay1 (F := Ideal) (ix2 i j) = 0 := by
  pointwise [k0_pay1]
theorem pay2_at (a : Vec Ideal S1024x1024 .f32) (x : Vec Ideal S2048x1024 .bf16) (y : Vec Ideal S2048x1024 .bf16) (i : Fin 1024) (j : Fin 1024) :
    k0_pay2 (F := Ideal) a x y (ix2 i j) = a (ix2 i j) + ∑ k : Fin 2048, x (ix2 k i) * y (ix2 k j) := by
  pointwise [k0_pay2]
theorem pay3_at (a : Vec Ideal S1024x1024 .f32) (i : Fin 1024) (j : Fin 1024) :
    k0_pay3 (F := Ideal) a (ix2 i j) = a (ix2 i j) * Ideal.ofBits .f32 0x3F800000#32 := by
  pointwise [k0_pay3]
/-! ## The cases of the body -/

theorem hz : (![0, 0] : Fin 2 → Nat) = fun _ => 0 := funext fun a => by fin_cases a <;> rfl

theorem scr_A (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (x0 : Vec Ideal S2048x1024 .bf16) (x1 : Vec Ideal S2048x1024 .bf16) :
    sout0_A_0 c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz]
  simp only [View.readCov_unit_zero (S := S1024x1024) _ hz, View.readAt_eq_ld, h3.read_unread, h4.read_unread, h5.read_unread, h6.read_unread, View.ld_unit_zero (S := S2048x1024) hz, View.ld_unit_zero (S := S1024x1024) hz]
theorem scr_B (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x0 : Vec Ideal S2048x1024 .bf16) (x1 : Vec Ideal S2048x1024 .bf16) (s : Vec Ideal S1024x1024 .f32) :
    sout0_B_0 c i a3 h3 a4 h4 a5 h5 a6 h6 hc0 hc1 x0 x1 s = k0_pay2 (F := Ideal) (s) x0 x1 := by
  unfold sout0_B_0
  rw [View.read_writes_eq_canon _ _ _ (scover0_B_0 c i a3 h3 a4 h4 a5 h5 a6 h6 hc0 hc1 x0 x1 s)]
  unfold kernelRun0_B
  dsimp only
  sl_unfold_words
  rw [View.canon_cons_unit_zero (S := S1024x1024) hz]
  simp only [View.readCov_unit_zero (S := S1024x1024) _ hz, View.readAt_eq_ld, h3.read_unread, h4.read_unread, h5.read_unread, h6.read_unread, View.ld_unit_zero (S := S2048x1024) hz, View.ld_unit_zero (S := S1024x1024) hz]
theorem out_B (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x0 : Vec Ideal S2048x1024 .bf16) (x1 : Vec Ideal S2048x1024 .bf16) (s : Vec Ideal S1024x1024 .f32) :
    out0_B_2 c i a3 h3 a4 h4 a5 h5 a6 h6 hc0 hc1 x0 x1 s = k0_pay3 (F := Ideal) (k0_pay2 (F := Ideal) (s) x0 x1) := by
  unfold out0_B_2
  rw [View.read_writes_eq_canon _ _ _ (cover0_B_2 c i a3 h3 a4 h4 a5 h5 a6 h6 hc0 hc1 x0 x1 s)]
  unfold kernelRun0_B
  dsimp only
  sl_unfold_words
  rw [View.canon_cons_unit_zero (S := S1024x1024) hz]
  simp only [View.readCov_unit_zero (S := S1024x1024) _ hz, View.readAt_eq_ld, h3.read_unread, h4.read_unread, h5.read_unread, h6.read_unread, View.ld_unit_zero (S := S2048x1024) hz, View.ld_unit_zero (S := S1024x1024) hz]

/-! ## The blocks a point reads -/

variable (m : (ℓ : Loc nD τ sig) → Buf (Elt Ideal) ℓ) (c : Dev nD)

theorem lt_N (t : Fin cfg0.N) : t.val < 16 := lt_of_lt_of_eq t.isLt (show cfg0.N = 16 from N_0)
/-- Operand 0, at a row and a column. -/
def M0 : Fin 4096 → Fin 2048 → EReal := fun i j => (V m c (Pipeline.arrRef spec0 0) : FVec Ideal S4096x2048 .bf16) (ix2 i j)

theorem index_0 : ∀ t : Fin cfg0.N, win0_0.index t (0 : Fin 2) = t.val % 2 ∧ win0_0.index t (1 : Fin 2) = t.val / 8 :=
  (by decide +kernel : ∀ t : Fin grid0.N, _)

theorem emb_0 (t : Fin cfg0.N) (i : Fin 2048) (j : Fin 1024) (hi : t.val % 2 * 2048 + i.val < 4096) (hj : t.val / 8 * 1024 + j.val < 2048) :
    ((cfg0.win 0).rect t).emb (ix2 i j) = (ix2 ⟨t.val % 2 * 2048 + i.val, hi⟩ ⟨t.val / 8 * 1024 + j.val, hj⟩ : S4096x2048.Idx) := by
  funext a
  refine Fin.ext ((Pipeline.Window.rect_emb_val _ t _ a).trans ?_)
  match a with
  | ⟨0, _⟩ => show win0_0.index t (0 : Fin 2) * 2048 + i.val = _; rw [(index_0 t).1]; rfl
  | ⟨1, _⟩ => show win0_0.index t (1 : Fin 2) * 1024 + j.val = _; rw [(index_0 t).2]; rfl

theorem blk_0 (t : Fin cfg0.N) (i : Fin 2048) (j : Fin 1024) :
    (iblk m c 0 t : Vec Ideal S2048x1024 .bf16) (ix2 i j) = rd (M0 m c) (t.val % 2 * 2048 + i.val) (t.val / 8 * 1024 + j.val) := by
  have ht := lt_N t
  have hi : t.val % 2 * 2048 + i.val < 4096 := by omega
  have hj : t.val / 8 * 1024 + j.val < 2048 := by omega
  rw [rd_of _ hi hj]
  unfold iblk M0
  refine Eq.trans ?_ (congrArg (V m c (Pipeline.arrRef spec0 0) : FVec Ideal S4096x2048 .bf16) (emb_0 t i j hi hj))
  rfl
/-- Operand 1, at a row and a column. -/
def M1 : Fin 4096 → Fin 4096 → EReal := fun i j => (V m c (Pipeline.arrRef spec0 1) : FVec Ideal S4096x4096 .bf16) (ix2 i j)

theorem index_1 : ∀ t : Fin cfg0.N, win0_1.index t (0 : Fin 2) = t.val % 2 ∧ win0_1.index t (1 : Fin 2) = t.val / 2 % 4 :=
  (by decide +kernel : ∀ t : Fin grid0.N, _)

theorem emb_1 (t : Fin cfg0.N) (i : Fin 2048) (j : Fin 1024) (hi : t.val % 2 * 2048 + i.val < 4096) (hj : t.val / 2 % 4 * 1024 + j.val < 4096) :
    ((cfg0.win 1).rect t).emb (ix2 i j) = (ix2 ⟨t.val % 2 * 2048 + i.val, hi⟩ ⟨t.val / 2 % 4 * 1024 + j.val, hj⟩ : S4096x4096.Idx) := by
  funext a
  refine Fin.ext ((Pipeline.Window.rect_emb_val _ t _ a).trans ?_)
  match a with
  | ⟨0, _⟩ => show win0_1.index t (0 : Fin 2) * 2048 + i.val = _; rw [(index_1 t).1]; rfl
  | ⟨1, _⟩ => show win0_1.index t (1 : Fin 2) * 1024 + j.val = _; rw [(index_1 t).2]; rfl

theorem blk_1 (t : Fin cfg0.N) (i : Fin 2048) (j : Fin 1024) :
    (iblk m c 1 t : Vec Ideal S2048x1024 .bf16) (ix2 i j) = rd (M1 m c) (t.val % 2 * 2048 + i.val) (t.val / 2 % 4 * 1024 + j.val) := by
  have ht := lt_N t
  have hi : t.val % 2 * 2048 + i.val < 4096 := by omega
  have hj : t.val / 2 % 4 * 1024 + j.val < 4096 := by omega
  rw [rd_of _ hi hj]
  unfold iblk M1
  refine Eq.trans ?_ (congrArg (V m c (Pipeline.arrRef spec0 1) : FVec Ideal S4096x4096 .bf16) (emb_1 t i j hi hj))
  rfl
/-! ## The accumulator -/

/-- A term of the product at row `a` and column `b`. -/
def tm (a b k : ℕ) : EReal := rd (M0 m c) k a * rd (M1 m c) k b

/-- One point adds its block of terms. -/
theorem add_block (t : Fin cfg0.N) (s : Vec Ideal S1024x1024 .f32) (i : Fin 1024) (j : Fin 1024)
    (hs : s (ix2 i j) = psum (tm m c (t.val / 8 * 1024 + i.val) (t.val / 2 % 4 * 1024 + j.val)) (t.val % 2 * 2048)) :
    k0_pay2 (F := Ideal) (s) (iblk m c 0 t) (iblk m c 1 t) (ix2 i j)
      = psum (tm m c (t.val / 8 * 1024 + i.val) (t.val / 2 % 4 * 1024 + j.val)) ((t.val % 2 + 1) * 2048) := by
  rw [pay2_at, hs, ← psum_step]
  simp only [blk_0, blk_1]
  unfold tm
  rfl

theorem scr_first (t : Fin cfg0.N) (h : t.val % 2 = 0) : (outsAt0 m c t.val t.isLt).2 = k0_pay2 (F := Ideal) (k0_pay1 (F := Ideal)) (iblk m c 0 t) (iblk m c 1 t) := by
  rw [outsAt0_A m c t h (by omega)]
  dsimp only
  rw [scr_A]

theorem scr_next (t : Fin cfg0.N) (h : ¬ t.val % 2 = 0) :
    (outsAt0 m c t.val t.isLt).2 = k0_pay2 (F := Ideal) ((outsAt0 m c (t.val - 1) (Nat.lt_of_le_of_lt (Nat.sub_le _ _) t.isLt)).2) (iblk m c 0 t) (iblk m c 1 t) := by
  rw [outsAt0_B m c t (by omega) (by omega)]
  dsimp only
  rw [scr_B]
theorem out_last (t : Fin cfg0.N) (h : t.val % 2 = 1) :
    (outsAt0 m c t.val t.isLt).1 = k0_pay3 (F := Ideal) (outsAt0 m c t.val t.isLt).2 := by
  rw [scr_next m c t (by omega), outsAt0_B m c t (by omega) h]
  dsimp only
  rw [out_B]

/-- What the accumulator holds after each point. -/
theorem scr_holds : ∀ (n : ℕ) (hn : n < cfg0.N) (i : Fin 1024) (j : Fin 1024),
    (outsAt0 m c n hn).2 (ix2 i j) = psum (tm m c (n / 8 * 1024 + i.val) (n / 2 % 4 * 1024 + j.val)) ((n % 2 + 1) * 2048) := by
  have first : ∀ (t : Fin cfg0.N) (h : t.val % 2 = 0) (i : Fin 1024) (j : Fin 1024),
      (outsAt0 m c t.val t.isLt).2 (ix2 i j) = psum (tm m c (t.val / 8 * 1024 + i.val) (t.val / 2 % 4 * 1024 + j.val)) ((t.val % 2 + 1) * 2048) := fun t h i j => by
    rw [scr_first m c t h]
    refine add_block m c t _ i j ?_
    rw [h, Nat.zero_mul, psum_zero, pay1_at]
  intro n
  induction n with
  | zero => exact fun hn i j => first ⟨0, hn⟩ rfl i j
  | succ n ih =>
    intro hn i j
    by_cases h : (n + 1) % 2 = 0
    · exact first ⟨n + 1, hn⟩ h i j
    · rw [scr_next m c ⟨n + 1, hn⟩ h]
      refine add_block m c ⟨n + 1, hn⟩ _ i j ?_
      refine (ih (Nat.lt_of_succ_lt hn) i j).trans ?_
      have e1 : (n + 1) / 8 = n / 8 := by omega
      have e2 : (n + 1) / 2 % 4 = n / 2 % 4 := by omega
      have e3 : (n + 1) % 2 = n % 2 + 1 := by omega
      dsimp only
      rw [e1, e2, e3]

/-! ## The result -/

/-- The result array. -/
def G : FVec Ideal S2048x4096 .f32 := fun x => psum (tm m c (x 0).val (x 1).val) 4096 * Ideal.ofBits .f32 0x3F800000#32

theorem index_out : ∀ t : Fin cfg0.N, win0_2.index t (0 : Fin 2) = t.val / 8 ∧ win0_2.index t (1 : Fin 2) = t.val / 2 % 4 :=
  (by decide +kernel : ∀ t : Fin grid0.N, _)

theorem emb_out (t : Fin cfg0.N) (i : Fin 1024) (j : Fin 1024) (hi : t.val / 8 * 1024 + i.val < 2048) (hj : t.val / 2 % 4 * 1024 + j.val < 4096) :
    ((cfg0.win 2).rect t).emb (ix2 i j) = (ix2 ⟨t.val / 8 * 1024 + i.val, hi⟩ ⟨t.val / 2 % 4 * 1024 + j.val, hj⟩ : S2048x4096.Idx) := by
  funext a
  refine Fin.ext ((Pipeline.Window.rect_emb_val _ t _ a).trans ?_)
  match a with
  | ⟨0, _⟩ => show win0_2.index t (0 : Fin 2) * 1024 + i.val = _; rw [(index_out t).1]; rfl
  | ⟨1, _⟩ => show win0_2.index t (1 : Fin 2) * 1024 + j.val = _; rw [(index_out t).2]; rfl

theorem read_out (Z : FVec Ideal S2048x4096 .f32) (t : Fin cfg0.N) (i : Fin 1024) (j : Fin 1024) (hi : t.val / 8 * 1024 + i.val < 2048) (hj : t.val / 2 % 4 * 1024 + j.val < 4096) :
    ((cfg0.win 2).blk t).view.read (Elt Ideal) Z (ix2 i j) = Z (ix2 ⟨t.val / 8 * 1024 + i.val, hi⟩ ⟨t.val / 2 % 4 * 1024 + j.val, hj⟩) := by
  refine Eq.trans ?_ (congrArg Z (emb_out t i j hi hj))
  rfl

theorem flushed (t : Fin cfg0.N) (hf : (cfg0.win 2).flush t = true) :
    (dats m 0 c).flushed 2 t = ((cfg0.win 2).blk t).view.read (Elt Ideal) (G m c) := by
  have h := (flush0_2 t).mp hf
  have ht := lt_N t
  rw [Value.flushed2]
  refine funext fun (y : S1024x1024.Idx) => ?_
  obtain ⟨i, j, rfl⟩ : ∃ i j, y = ix2 i j := ⟨y 0, y 1, funext fun a => by match a with | ⟨0, _⟩ => rfl | ⟨1, _⟩ => rfl⟩
  refine Eq.trans ?_ (read_out (G m c) t i j (by omega) (by omega)).symm
  show (outsAt0 m c t.val t.isLt).1 (ix2 i j) = _
  rw [out_last m c t h, pay3_at, scr_holds m c t.val t.isLt, h]
  rfl

/-- The result array after the run. -/
theorem final : (dats m 0 c).arrAt 2 cfg0.N = G m c :=
  (dats m 0 c).arrAt_eq_of_cover 2 (G m c) (fun t hf => flushed m c t hf) (fun i => (Value.covered_iff2 i).2 (by
    have h0 : (i 0).val < 2048 := (i 0).isLt; have h1 : (i 1).val < 4096 := (i 1).isLt; omega))

end Cert.Ffn8
end
-- ==== Proof.Ffn.Claim8.lean ====
/-
  Call 8 and its reference return the same array over the extended reals.
-/
module

public import proofs.«01_k».proof.Defs
public import proofs.«01_k».proof.Proof.Ffn.Call8
public import proofs.«01_k».proof.Proof.Gen.Kernel8.Frame
public import proofs.«01_k».proof.Proof.Gen.Reference8Ideal.Run
public import Idealize.ShloMosaic.Lib.Quiescent

@[expose] public section

set_option maxRecDepth 16384

noncomputable section

namespace Cert.Ffn8

open Cert.Ffn
open Idealize.ShloMosaic Idealize.ShloMosaic.TcCoe Idealize.ShloMosaic.Tactic Idealize.SL.Sem

section
open Cert.Reference8Ideal Cert.Reference8Ideal.Gen

/-- The reference's result. -/
def rout (z0 : FVec Ideal S4096x2048 .bf16) (z1 : FVec Ideal S4096x4096 .bf16) : FVec Ideal S2048x4096 .f32 :=
  transpose S2048x4096 [1, 0] (Host.dotGeneral dot_S4096x4096_S4096x2048_S4096x2048_0_0_1_1_n_n none (extf .f32 z1 bitsLt_bf16_f32) (extf .f32 z0 bitsLt_bf16_f32)) transposes_S4096x2048_S2048x4096_1_0

theorem rout_at (z0 : FVec Ideal S4096x2048 .bf16) (z1 : FVec Ideal S4096x4096 .bf16) (a : Fin 2048) (b : Fin 4096) :
    rout z0 z1 (ix2 a b) = ∑ k : Fin 4096, z1 (ix2 k b) * z0 (ix2 k a) := by
  pointwise [rout]

end

section
open Cert.Kernel8Ideal Cert.Kernel8Ideal.Gen

variable (m : (ℓ : Loc nD τ sig) → Buf (Elt Ideal) ℓ) (c : Dev nD)

theorem G_at (a : Fin 2048) (b : Fin 4096) :
    G m c (ix2 a b) = (∑ k, M0 m c k a * M1 m c k b) * Ideal.ofBits .f32 0x3F800000#32 := by
  show psum (tm m c a.val b.val) 4096 * _ = _
  rw [psum_all]
  unfold tm
  simp only [rd_val]

end

theorem algebraic : Cert.algebraic_Kernel8Ideal_Reference8Ideal := by
  intro m g m' g' _ ha
  refine ⟨fun c => G m c, ?_, ?_⟩
  · exact (θ_run Cert.Kernel8Ideal.defs _ _).mono (fun r h c => ⟨(h c).1.trans (final m c), (h c).2⟩) (Cert.Kernel8Ideal.Value.run_blocks (F := Ideal) m g)
  · refine (θ_run Cert.Reference8Ideal.defs _ _).mono (fun r h c => ⟨(h c).1.trans ?_, (h c).2⟩) (Cert.Reference8Ideal.Value.run (F := Ideal) m' g')
    obtain ⟨e0, e1⟩ := ha c
    show rout (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) = G m c
    refine funext fun (x : Cert.Kernel8Ideal.S2048x4096.Idx) => ?_
    obtain ⟨a, b, rfl⟩ : ∃ a b, x = ix2 a b := ⟨x 0, x 1, funext fun q => by match q with | ⟨0, _⟩ => rfl | ⟨1, _⟩ => rfl⟩
    rw [G_at]
    refine (rout_at _ _ a b).trans ?_
    rw [one_word, mul_one]
    refine Finset.sum_congr rfl fun k _ => ?_
    exact (congrArg₂ (fun x y : EReal => x * y) (congrFun e1 (ix2 k b)) (congrFun e0 (ix2 k a))).trans (mul_comm _ _)

theorem frame_kernel : Cert.quiescent_Kernel8 := fun m ρ _ => Cert.Kernel8.Gen.frame (F := Bits) m ρ

theorem frame_ideal : Cert.quiescent_Kernel8Ideal := fun m ρ _ => Cert.Kernel8Ideal.Gen.frame (F := Ideal) m ρ

theorem frame_ref : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.Ffn8
end
-- ==== Proof.Ffn.Call9.lean ====
/-
  The product of call 9: what its grid leaves in the result, as one sum over the contracted axis.
-/
module

public import proofs.«01_k».proof.Proof.Gen.Kernel9Ideal.Value
public import proofs.«01_k».proof.Proof.Ffn.Sum
public import Idealize.ShloMosaic.Lib.Pointwise

@[expose] public section

set_option maxRecDepth 16384

noncomputable section

namespace Cert.Ffn9

open Cert.Kernel9Ideal Cert.Kernel9Ideal.Gen Cert.Ffn
open Idealize.ShloMosaic Idealize.ShloMosaic.TcCoe Idealize.ShloMosaic.Tactic Idealize.SL.Sem

/-! ## The vector operations at an index -/

theorem pay1_at (i : Fin 1024) (j : Fin 1024) : k0_pay1 (F := Ideal) (ix2 i j) = 0 := by
  pointwise [k0_pay1]
theorem pay2_at (a : Vec Ideal S1024x1024 .f32) (x : Vec Ideal S1024x2048 .bf16) (y : Vec Ideal S1024x2048 .bf16) (i : Fin 1024) (j : Fin 1024) :
    k0_pay2 (F := Ideal) a x y (ix2 i j) = a (ix2 i j) + ∑ k : Fin 2048, x (ix2 i k) * y (ix2 j k) := by
  pointwise [k0_pay2]
theorem pay3_at (a : Vec Ideal S1024x1024 .f32) (i : Fin 1024) (j : Fin 1024) :
    k0_pay3 (F := Ideal) a (ix2 i j) = a (ix2 i j) * Ideal.ofBits .f32 0x3F800000#32 := by
  pointwise [k0_pay3]
/-! ## The cases of the body -/

theorem hz : (![0, 0] : Fin 2 → Nat) = fun _ => 0 := funext fun a => by fin_cases a <;> rfl

theorem scr_A (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (x0 : Vec Ideal S1024x2048 .bf16) (x1 : Vec Ideal S1024x2048 .bf16) :
    sout0_A_0 c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz]
  simp only [View.readCov_unit_zero (S := S1024x1024) _ hz, View.readAt_eq_ld, h3.read_unread, h4.read_unread, h5.read_unread, h6.read_unread, View.ld_unit_zero (S := S1024x2048) hz, View.ld_unit_zero (S := S1024x1024) hz]
theorem scr_B (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x0 : Vec Ideal S1024x2048 .bf16) (x1 : Vec Ideal S1024x2048 .bf16) (s : Vec Ideal S1024x1024 .f32) :
    sout0_B_0 c i a3 h3 a4 h4 a5 h5 a6 h6 hc0 hc1 x0 x1 s = k0_pay2 (F := Ideal) (s) x0 x1 := by
  unfold sout0_B_0
  rw [View.read_writes_eq_canon _ _ _ (scover0_B_0 c i a3 h3 a4 h4 a5 h5 a6 h6 hc0 hc1 x0 x1 s)]
  unfold kernelRun0_B
  dsimp only
  sl_unfold_words
  rw [View.canon_cons_unit_zero (S := S1024x1024) hz]
  simp only [View.readCov_unit_zero (S := S1024x1024) _ hz, View.readAt_eq_ld, h3.read_unread, h4.read_unread, h5.read_unread, h6.read_unread, View.ld_unit_zero (S := S1024x2048) hz, View.ld_unit_zero (S := S1024x1024) hz]
theorem out_B (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x0 : Vec Ideal S1024x2048 .bf16) (x1 : Vec Ideal S1024x2048 .bf16) (s : Vec Ideal S1024x1024 .f32) :
    out0_B_2 c i a3 h3 a4 h4 a5 h5 a6 h6 hc0 hc1 x0 x1 s = k0_pay3 (F := Ideal) (k0_pay2 (F := Ideal) (s) x0 x1) := by
  unfold out0_B_2
  rw [View.read_writes_eq_canon _ _ _ (cover0_B_2 c i a3 h3 a4 h4 a5 h5 a6 h6 hc0 hc1 x0 x1 s)]
  unfold kernelRun0_B
  dsimp only
  sl_unfold_words
  rw [View.canon_cons_unit_zero (S := S1024x1024) hz]
  simp only [View.readCov_unit_zero (S := S1024x1024) _ hz, View.readAt_eq_ld, h3.read_unread, h4.read_unread, h5.read_unread, h6.read_unread, View.ld_unit_zero (S := S1024x2048) hz, View.ld_unit_zero (S := S1024x1024) hz]

/-! ## The blocks a point reads -/

variable (m : (ℓ : Loc nD τ sig) → Buf (Elt Ideal) ℓ) (c : Dev nD)

theorem lt_N (t : Fin cfg0.N) : t.val < 16 := lt_of_lt_of_eq t.isLt (show cfg0.N = 16 from N_0)
/-- Operand 0, at a row and a column. -/
def M0 : Fin 4096 → Fin 4096 → EReal := fun i j => (V m c (Pipeline.arrRef spec0 0) : FVec Ideal S4096x4096 .bf16) (ix2 i j)

theorem index_0 : ∀ t : Fin cfg0.N, win0_0.index t (0 : Fin 2) = t.val / 4 ∧ win0_0.index t (1 : Fin 2) = t.val % 2 :=
  (by decide +kernel : ∀ t : Fin grid0.N, _)

theorem emb_0 (t : Fin cfg0.N) (i : Fin 1024) (j : Fin 2048) (hi : t.val / 4 * 1024 + i.val < 4096) (hj : t.val % 2 * 2048 + j.val < 4096) :
    ((cfg0.win 0).rect t).emb (ix2 i j) = (ix2 ⟨t.val / 4 * 1024 + i.val, hi⟩ ⟨t.val % 2 * 2048 + j.val, hj⟩ : S4096x4096.Idx) := by
  funext a
  refine Fin.ext ((Pipeline.Window.rect_emb_val _ t _ a).trans ?_)
  match a with
  | ⟨0, _⟩ => show win0_0.index t (0 : Fin 2) * 1024 + i.val = _; rw [(index_0 t).1]; rfl
  | ⟨1, _⟩ => show win0_0.index t (1 : Fin 2) * 2048 + j.val = _; rw [(index_0 t).2]; rfl

theorem blk_0 (t : Fin cfg0.N) (i : Fin 1024) (j : Fin 2048) :
    (iblk m c 0 t : Vec Ideal S1024x2048 .bf16) (ix2 i j) = rd (M0 m c) (t.val / 4 * 1024 + i.val) (t.val % 2 * 2048 + j.val) := by
  have ht := lt_N t
  have hi : t.val / 4 * 1024 + i.val < 4096 := by omega
  have hj : t.val % 2 * 2048 + j.val < 4096 := by omega
  rw [rd_of _ hi hj]
  unfold iblk M0
  refine Eq.trans ?_ (congrArg (V m c (Pipeline.arrRef spec0 0) : FVec Ideal S4096x4096 .bf16) (emb_0 t i j hi hj))
  rfl
/-- Operand 1, at a row and a column. -/
def M1 : Fin 2048 → Fin 4096 → EReal := fun i j => (V m c (Pipeline.arrRef spec0 1) : FVec Ideal S2048x4096 .bf16) (ix2 i j)

theorem index_1 : ∀ t : Fin cfg0.N, win0_1.index t (0 : Fin 2) = t.val / 2 % 2 ∧ win0_1.index t (1 : Fin 2) = t.val % 2 :=
  (by decide +kernel : ∀ t : Fin grid0.N, _)

theorem emb_1 (t : Fin cfg0.N) (i : Fin 1024) (j : Fin 2048) (hi : t.val / 2 % 2 * 1024 + i.val < 2048) (hj : t.val % 2 * 2048 + j.val < 4096) :
    ((cfg0.win 1).rect t).emb (ix2 i j) = (ix2 ⟨t.val / 2 % 2 * 1024 + i.val, hi⟩ ⟨t.val % 2 * 2048 + j.val, hj⟩ : S2048x4096.Idx) := by
  funext a
  refine Fin.ext ((Pipeline.Window.rect_emb_val _ t _ a).trans ?_)
  match a with
  | ⟨0, _⟩ => show win0_1.index t (0 : Fin 2) * 1024 + i.val = _; rw [(index_1 t).1]; rfl
  | ⟨1, _⟩ => show win0_1.index t (1 : Fin 2) * 2048 + j.val = _; rw [(index_1 t).2]; rfl

theorem blk_1 (t : Fin cfg0.N) (i : Fin 1024) (j : Fin 2048) :
    (iblk m c 1 t : Vec Ideal S1024x2048 .bf16) (ix2 i j) = rd (M1 m c) (t.val / 2 % 2 * 1024 + i.val) (t.val % 2 * 2048 + j.val) := by
  have ht := lt_N t
  have hi : t.val / 2 % 2 * 1024 + i.val < 2048 := by omega
  have hj : t.val % 2 * 2048 + j.val < 4096 := by omega
  rw [rd_of _ hi hj]
  unfold iblk M1
  refine Eq.trans ?_ (congrArg (V m c (Pipeline.arrRef spec0 1) : FVec Ideal S2048x4096 .bf16) (emb_1 t i j hi hj))
  rfl
/-! ## The accumulator -/

/-- A term of the product at row `a` and column `b`. -/
def tm (a b k : ℕ) : EReal := rd (M0 m c) a k * rd (M1 m c) b k

/-- One point adds its block of terms. -/
theorem add_block (t : Fin cfg0.N) (s : Vec Ideal S1024x1024 .f32) (i : Fin 1024) (j : Fin 1024)
    (hs : s (ix2 i j) = psum (tm m c (t.val / 4 * 1024 + i.val) (t.val / 2 % 2 * 1024 + j.val)) (t.val % 2 * 2048)) :
    k0_pay2 (F := Ideal) (s) (iblk m c 0 t) (iblk m c 1 t) (ix2 i j)
      = psum (tm m c (t.val / 4 * 1024 + i.val) (t.val / 2 % 2 * 1024 + j.val)) ((t.val % 2 + 1) * 2048) := by
  rw [pay2_at, hs, ← psum_step]
  simp only [blk_0, blk_1]
  unfold tm
  rfl

theorem scr_first (t : Fin cfg0.N) (h : t.val % 2 = 0) : (outsAt0 m c t.val t.isLt).2 = k0_pay2 (F := Ideal) (k0_pay1 (F := Ideal)) (iblk m c 0 t) (iblk m c 1 t) := by
  rw [outsAt0_A m c t h (by omega)]
  dsimp only
  rw [scr_A]

theorem scr_next (t : Fin cfg0.N) (h : ¬ t.val % 2 = 0) :
    (outsAt0 m c t.val t.isLt).2 = k0_pay2 (F := Ideal) ((outsAt0 m c (t.val - 1) (Nat.lt_of_le_of_lt (Nat.sub_le _ _) t.isLt)).2) (iblk m c 0 t) (iblk m c 1 t) := by
  rw [outsAt0_B m c t (by omega) (by omega)]
  dsimp only
  rw [scr_B]
theorem out_last (t : Fin cfg0.N) (h : t.val % 2 = 1) :
    (outsAt0 m c t.val t.isLt).1 = k0_pay3 (F := Ideal) (outsAt0 m c t.val t.isLt).2 := by
  rw [scr_next m c t (by omega), outsAt0_B m c t (by omega) h]
  dsimp only
  rw [out_B]

/-- What the accumulator holds after each point. -/
theorem scr_holds : ∀ (n : ℕ) (hn : n < cfg0.N) (i : Fin 1024) (j : Fin 1024),
    (outsAt0 m c n hn).2 (ix2 i j) = psum (tm m c (n / 4 * 1024 + i.val) (n / 2 % 2 * 1024 + j.val)) ((n % 2 + 1) * 2048) := by
  have first : ∀ (t : Fin cfg0.N) (h : t.val % 2 = 0) (i : Fin 1024) (j : Fin 1024),
      (outsAt0 m c t.val t.isLt).2 (ix2 i j) = psum (tm m c (t.val / 4 * 1024 + i.val) (t.val / 2 % 2 * 1024 + j.val)) ((t.val % 2 + 1) * 2048) := fun t h i j => by
    rw [scr_first m c t h]
    refine add_block m c t _ i j ?_
    rw [h, Nat.zero_mul, psum_zero, pay1_at]
  intro n
  induction n with
  | zero => exact fun hn i j => first ⟨0, hn⟩ rfl i j
  | succ n ih =>
    intro hn i j
    by_cases h : (n + 1) % 2 = 0
    · exact first ⟨n + 1, hn⟩ h i j
    · rw [scr_next m c ⟨n + 1, hn⟩ h]
      refine add_block m c ⟨n + 1, hn⟩ _ i j ?_
      refine (ih (Nat.lt_of_succ_lt hn) i j).trans ?_
      have e1 : (n + 1) / 4 = n / 4 := by omega
      have e2 : (n + 1) / 2 % 2 = n / 2 % 2 := by omega
      have e3 : (n + 1) % 2 = n % 2 + 1 := by omega
      dsimp only
      rw [e1, e2, e3]

/-! ## The result -/

/-- The result array. -/
def G : FVec Ideal S4096x2048 .f32 := fun x => psum (tm m c (x 0).val (x 1).val) 4096 * Ideal.ofBits .f32 0x3F800000#32

theorem index_out : ∀ t : Fin cfg0.N, win0_2.index t (0 : Fin 2) = t.val / 4 ∧ win0_2.index t (1 : Fin 2) = t.val / 2 % 2 :=
  (by decide +kernel : ∀ t : Fin grid0.N, _)

theorem emb_out (t : Fin cfg0.N) (i : Fin 1024) (j : Fin 1024) (hi : t.val / 4 * 1024 + i.val < 4096) (hj : t.val / 2 % 2 * 1024 + j.val < 2048) :
    ((cfg0.win 2).rect t).emb (ix2 i j) = (ix2 ⟨t.val / 4 * 1024 + i.val, hi⟩ ⟨t.val / 2 % 2 * 1024 + j.val, hj⟩ : S4096x2048.Idx) := by
  funext a
  refine Fin.ext ((Pipeline.Window.rect_emb_val _ t _ a).trans ?_)
  match a with
  | ⟨0, _⟩ => show win0_2.index t (0 : Fin 2) * 1024 + i.val = _; rw [(index_out t).1]; rfl
  | ⟨1, _⟩ => show win0_2.index t (1 : Fin 2) * 1024 + j.val = _; rw [(index_out t).2]; rfl

theorem read_out (Z : FVec Ideal S4096x2048 .f32) (t : Fin cfg0.N) (i : Fin 1024) (j : Fin 1024) (hi : t.val / 4 * 1024 + i.val < 4096) (hj : t.val / 2 % 2 * 1024 + j.val < 2048) :
    ((cfg0.win 2).blk t).view.read (Elt Ideal) Z (ix2 i j) = Z (ix2 ⟨t.val / 4 * 1024 + i.val, hi⟩ ⟨t.val / 2 % 2 * 1024 + j.val, hj⟩) := by
  refine Eq.trans ?_ (congrArg Z (emb_out t i j hi hj))
  rfl

theorem flushed (t : Fin cfg0.N) (hf : (cfg0.win 2).flush t = true) :
    (dats m 0 c).flushed 2 t = ((cfg0.win 2).blk t).view.read (Elt Ideal) (G m c) := by
  have h := (flush0_2 t).mp hf
  have ht := lt_N t
  rw [Value.flushed2]
  refine funext fun (y : S1024x1024.Idx) => ?_
  obtain ⟨i, j, rfl⟩ : ∃ i j, y = ix2 i j := ⟨y 0, y 1, funext fun a => by match a with | ⟨0, _⟩ => rfl | ⟨1, _⟩ => rfl⟩
  refine Eq.trans ?_ (read_out (G m c) t i j (by omega) (by omega)).symm
  show (outsAt0 m c t.val t.isLt).1 (ix2 i j) = _
  rw [out_last m c t h, pay3_at, scr_holds m c t.val t.isLt, h]
  rfl

/-- The result array after the run. -/
theorem final : (dats m 0 c).arrAt 2 cfg0.N = G m c :=
  (dats m 0 c).arrAt_eq_of_cover 2 (G m c) (fun t hf => flushed m c t hf) (fun i => (Value.covered_iff2 i).2 (by
    have h0 : (i 0).val < 4096 := (i 0).isLt; have h1 : (i 1).val < 2048 := (i 1).isLt; omega))

end Cert.Ffn9
end
-- ==== Proof.Ffn.Claim9.lean ====
/-
  Call 9 and its reference return the same array over the extended reals.
-/
module

public import proofs.«01_k».proof.Defs
public import proofs.«01_k».proof.Proof.Ffn.Call9
public import proofs.«01_k».proof.Proof.Gen.Kernel9.Frame
public import proofs.«01_k».proof.Proof.Gen.Reference9Ideal.Run
public import Idealize.ShloMosaic.Lib.Quiescent

@[expose] public section

set_option maxRecDepth 16384

noncomputable section

namespace Cert.Ffn9

open Cert.Ffn
open Idealize.ShloMosaic Idealize.ShloMosaic.TcCoe Idealize.ShloMosaic.Tactic Idealize.SL.Sem

section
open Cert.Reference9Ideal Cert.Reference9Ideal.Gen

/-- The reference's result. -/
def rout (z0 : FVec Ideal S4096x4096 .bf16) (z1 : FVec Ideal S2048x4096 .bf16) : FVec Ideal S4096x2048 .f32 :=
  Host.dotGeneral dot_S4096x4096_S2048x4096_S4096x2048_1_1_0_0_n_n none (extf .f32 z0 bitsLt_bf16_f32) (extf .f32 z1 bitsLt_bf16_f32)

theorem rout_at (z0 : FVec Ideal S4096x4096 .bf16) (z1 : FVec Ideal S2048x4096 .bf16) (a : Fin 4096) (b : Fin 2048) :
    rout z0 z1 (ix2 a b) = ∑ k : Fin 4096, z0 (ix2 a k) * z1 (ix2 b k) := by
  pointwise [rout]

end

section
open Cert.Kernel9Ideal Cert.Kernel9Ideal.Gen

variable (m : (ℓ : Loc nD τ sig) → Buf (Elt Ideal) ℓ) (c : Dev nD)

theorem G_at (a : Fin 4096) (b : Fin 2048) :
    G m c (ix2 a b) = (∑ k, M0 m c a k * M1 m c b k) * Ideal.ofBits .f32 0x3F800000#32 := by
  show psum (tm m c a.val b.val) 4096 * _ = _
  rw [psum_all]
  unfold tm
  simp only [rd_val]

end

theorem algebraic : Cert.algebraic_Kernel9Ideal_Reference9Ideal := by
  intro m g m' g' _ ha
  refine ⟨fun c => G m c, ?_, ?_⟩
  · exact (θ_run Cert.Kernel9Ideal.defs _ _).mono (fun r h c => ⟨(h c).1.trans (final m c), (h c).2⟩) (Cert.Kernel9Ideal.Value.run_blocks (F := Ideal) m g)
  · refine (θ_run Cert.Reference9Ideal.defs _ _).mono (fun r h c => ⟨(h c).1.trans ?_, (h c).2⟩) (Cert.Reference9Ideal.Value.run (F := Ideal) m' g')
    obtain ⟨e0, e1⟩ := ha c
    show rout (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) = G m c
    refine funext fun (x : Cert.Kernel9Ideal.S4096x2048.Idx) => ?_
    obtain ⟨a, b, rfl⟩ : ∃ a b, x = ix2 a b := ⟨x 0, x 1, funext fun q => by match q with | ⟨0, _⟩ => rfl | ⟨1, _⟩ => rfl⟩
    rw [G_at]
    refine (rout_at _ _ a b).trans ?_
    rw [one_word, mul_one]
    refine Finset.sum_congr rfl fun k _ => ?_
    exact congrArg₂ (fun x y : EReal => x * y) (congrFun e0 (ix2 a k)) (congrFun e1 (ix2 b k))

theorem frame_kernel : Cert.quiescent_Kernel9 := fun m ρ _ => Cert.Kernel9.Gen.frame (F := Bits) m ρ

theorem frame_ideal : Cert.quiescent_Kernel9Ideal := fun m ρ _ => Cert.Kernel9Ideal.Gen.frame (F := Ideal) m ρ

theorem frame_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Ffn9
end
-- ==== Proof.Ffn.Call10.lean ====
/-
  The product of call 10: what its grid leaves in the result, as one sum over the contracted axis.
-/
module

public import proofs.«01_k».proof.Proof.Gen.Kernel10Ideal.Value
public import proofs.«01_k».proof.Proof.Ffn.Sum
public import Idealize.ShloMosaic.Lib.Pointwise

@[expose] public section

set_option maxRecDepth 16384

noncomputable section

namespace Cert.Ffn10

open Cert.Kernel10Ideal Cert.Kernel10Ideal.Gen Cert.Ffn
open Idealize.ShloMosaic Idealize.ShloMosaic.TcCoe Idealize.ShloMosaic.Tactic Idealize.SL.Sem

/-! ## The vector operations at an index -/

theorem pay1_at (i : Fin 1024) (j : Fin 1024) : k0_pay1 (F := Ideal) (ix2 i j) = 0 := by
  pointwise [k0_pay1]
theorem pay2_at (a : Vec Ideal S1024x1024 .f32) (x : Vec Ideal S2048x1024 .bf16) (y : Vec Ideal S2048x1024 .bf16) (i : Fin 1024) (j : Fin 1024) :
    k0_pay2 (F := Ideal) a x y (ix2 i j) = a (ix2 i j) + ∑ k : Fin 2048, x (ix2 k i) * y (ix2 k j) := by
  pointwise [k0_pay2]
theorem pay3_at (a : Vec Ideal S1024x1024 .f32) (i : Fin 1024) (j : Fin 1024) :
    k0_pay3 (F := Ideal) a (ix2 i j) = a (ix2 i j) * Ideal.ofBits .f32 0x3F800000#32 := by
  pointwise [k0_pay3]
/-! ## The cases of the body -/

theorem hz : (![0, 0] : Fin 2 → Nat) = fun _ => 0 := funext fun a => by fin_cases a <;> rfl

theorem scr_A (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (x0 : Vec Ideal S2048x1024 .bf16) (x1 : Vec Ideal S2048x1024 .bf16) :
    sout0_A_0 c i a3 h3 a4 h4 a5 h5 a6 h6 hc0 hc1 x0 x1 = k0_pay2 (F := Ideal) (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz]
  simp only [View.readCov_unit_zero (S := S1024x1024) _ hz, View.readAt_eq_ld, h3.read_unread, h4.read_unread, h5.read_unread, h6.read_unread, View.ld_unit_zero (S := S2048x1024) hz, View.ld_unit_zero (S := S1024x1024) hz]
theorem scr_B (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x0 : Vec Ideal S2048x1024 .bf16) (x1 : Vec Ideal S2048x1024 .bf16) (s : Vec Ideal S1024x1024 .f32) :
    sout0_B_0 c i a3 h3 a4 h4 a5 h5 a6 h6 hc0 hc1 x0 x1 s = k0_pay2 (F := Ideal) (s) x0 x1 := by
  unfold sout0_B_0
  rw [View.read_writes_eq_canon _ _ _ (scover0_B_0 c i a3 h3 a4 h4 a5 h5 a6 h6 hc0 hc1 x0 x1 s)]
  unfold kernelRun0_B
  dsimp only
  sl_unfold_words
  rw [View.canon_cons_unit_zero (S := S1024x1024) hz]
  simp only [View.readCov_unit_zero (S := S1024x1024) _ hz, View.readAt_eq_ld, h3.read_unread, h4.read_unread, h5.read_unread, h6.read_unread, View.ld_unit_zero (S := S2048x1024) hz, View.ld_unit_zero (S := S1024x1024) hz]
theorem out_B (c : Dev nD) (i : grid0.Coords) (a3 : Memref sig .tc .vmem S2048x1024 .bf16) (h3 : a3.IsWhole) (a4 : Memref sig .tc .vmem S2048x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x0 : Vec Ideal S2048x1024 .bf16) (x1 : Vec Ideal S2048x1024 .bf16) (s : Vec Ideal S1024x1024 .f32) :
    out0_B_2 c i a3 h3 a4 h4 a5 h5 a6 h6 hc0 hc1 x0 x1 s = k0_pay3 (F := Ideal) (k0_pay2 (F := Ideal) (s) x0 x1) := by
  unfold out0_B_2
  rw [View.read_writes_eq_canon _ _ _ (cover0_B_2 c i a3 h3 a4 h4 a5 h5 a6 h6 hc0 hc1 x0 x1 s)]
  unfold kernelRun0_B
  dsimp only
  sl_unfold_words
  rw [View.canon_cons_unit_zero (S := S1024x1024) hz]
  simp only [View.readCov_unit_zero (S := S1024x1024) _ hz, View.readAt_eq_ld, h3.read_unread, h4.read_unread, h5.read_unread, h6.read_unread, View.ld_unit_zero (S := S2048x1024) hz, View.ld_unit_zero (S := S1024x1024) hz]

/-! ## The blocks a point reads -/

variable (m : (ℓ : Loc nD τ sig) → Buf (Elt Ideal) ℓ) (c : Dev nD)

theorem lt_N (t : Fin cfg0.N) : t.val < 8 := lt_of_lt_of_eq t.isLt (show cfg0.N = 8 from N_0)
/-- Operand 0, at a row and a column. -/
def M0 : Fin 4096 → Fin 2048 → EReal := fun i j => (V m c (Pipeline.arrRef spec0 0) : FVec Ideal S4096x2048 .bf16) (ix2 i j)

theorem index_0 : ∀ t : Fin cfg0.N, win0_0.index t (0 : Fin 2) = t.val % 2 ∧ win0_0.index t (1 : Fin 2) = t.val / 4 :=
  (by decide +kernel : ∀ t : Fin grid0.N, _)

theorem emb_0 (t : Fin cfg0.N) (i : Fin 2048) (j : Fin 1024) (hi : t.val % 2 * 2048 + i.val < 4096) (hj : t.val / 4 * 1024 + j.val < 2048) :
    ((cfg0.win 0).rect t).emb (ix2 i j) = (ix2 ⟨t.val % 2 * 2048 + i.val, hi⟩ ⟨t.val / 4 * 1024 + j.val, hj⟩ : S4096x2048.Idx) := by
  funext a
  refine Fin.ext ((Pipeline.Window.rect_emb_val _ t _ a).trans ?_)
  match a with
  | ⟨0, _⟩ => show win0_0.index t (0 : Fin 2) * 2048 + i.val = _; rw [(index_0 t).1]; rfl
  | ⟨1, _⟩ => show win0_0.index t (1 : Fin 2) * 1024 + j.val = _; rw [(index_0 t).2]; rfl

theorem blk_0 (t : Fin cfg0.N) (i : Fin 2048) (j : Fin 1024) :
    (iblk m c 0 t : Vec Ideal S2048x1024 .bf16) (ix2 i j) = rd (M0 m c) (t.val % 2 * 2048 + i.val) (t.val / 4 * 1024 + j.val) := by
  have ht := lt_N t
  have hi : t.val % 2 * 2048 + i.val < 4096 := by omega
  have hj : t.val / 4 * 1024 + j.val < 2048 := by omega
  rw [rd_of _ hi hj]
  unfold iblk M0
  refine Eq.trans ?_ (congrArg (V m c (Pipeline.arrRef spec0 0) : FVec Ideal S4096x2048 .bf16) (emb_0 t i j hi hj))
  rfl
/-- Operand 1, at a row and a column. -/
def M1 : Fin 4096 → Fin 2048 → EReal := fun i j => (V m c (Pipeline.arrRef spec0 1) : FVec Ideal S4096x2048 .bf16) (ix2 i j)

theorem index_1 : ∀ t : Fin cfg0.N, win0_1.index t (0 : Fin 2) = t.val % 2 ∧ win0_1.index t (1 : Fin 2) = t.val / 2 % 2 :=
  (by decide +kernel : ∀ t : Fin grid0.N, _)

theorem emb_1 (t : Fin cfg0.N) (i : Fin 2048) (j : Fin 1024) (hi : t.val % 2 * 2048 + i.val < 4096) (hj : t.val / 2 % 2 * 1024 + j.val < 2048) :
    ((cfg0.win 1).rect t).emb (ix2 i j) = (ix2 ⟨t.val % 2 * 2048 + i.val, hi⟩ ⟨t.val / 2 % 2 * 1024 + j.val, hj⟩ : S4096x2048.Idx) := by
  funext a
  refine Fin.ext ((Pipeline.Window.rect_emb_val _ t _ a).trans ?_)
  match a with
  | ⟨0, _⟩ => show win0_1.index t (0 : Fin 2) * 2048 + i.val = _; rw [(index_1 t).1]; rfl
  | ⟨1, _⟩ => show win0_1.index t (1 : Fin 2) * 1024 + j.val = _; rw [(index_1 t).2]; rfl

theorem blk_1 (t : Fin cfg0.N) (i : Fin 2048) (j : Fin 1024) :
    (iblk m c 1 t : Vec Ideal S2048x1024 .bf16) (ix2 i j) = rd (M1 m c) (t.val % 2 * 2048 + i.val) (t.val / 2 % 2 * 1024 + j.val) := by
  have ht := lt_N t
  have hi : t.val % 2 * 2048 + i.val < 4096 := by omega
  have hj : t.val / 2 % 2 * 1024 + j.val < 2048 := by omega
  rw [rd_of _ hi hj]
  unfold iblk M1
  refine Eq.trans ?_ (congrArg (V m c (Pipeline.arrRef spec0 1) : FVec Ideal S4096x2048 .bf16) (emb_1 t i j hi hj))
  rfl
/-! ## The accumulator -/

/-- A term of the product at row `a` and column `b`. -/
def tm (a b k : ℕ) : EReal := rd (M0 m c) k a * rd (M1 m c) k b

/-- One point adds its block of terms. -/
theorem add_block (t : Fin cfg0.N) (s : Vec Ideal S1024x1024 .f32) (i : Fin 1024) (j : Fin 1024)
    (hs : s (ix2 i j) = psum (tm m c (t.val / 4 * 1024 + i.val) (t.val / 2 % 2 * 1024 + j.val)) (t.val % 2 * 2048)) :
    k0_pay2 (F := Ideal) (s) (iblk m c 0 t) (iblk m c 1 t) (ix2 i j)
      = psum (tm m c (t.val / 4 * 1024 + i.val) (t.val / 2 % 2 * 1024 + j.val)) ((t.val % 2 + 1) * 2048) := by
  rw [pay2_at, hs, ← psum_step]
  simp only [blk_0, blk_1]
  unfold tm
  rfl

theorem scr_first (t : Fin cfg0.N) (h : t.val % 2 = 0) : (outsAt0 m c t.val t.isLt).2 = k0_pay2 (F := Ideal) (k0_pay1 (F := Ideal)) (iblk m c 0 t) (iblk m c 1 t) := by
  rw [outsAt0_A m c t h (by omega)]
  dsimp only
  rw [scr_A]

theorem scr_next (t : Fin cfg0.N) (h : ¬ t.val % 2 = 0) :
    (outsAt0 m c t.val t.isLt).2 = k0_pay2 (F := Ideal) ((outsAt0 m c (t.val - 1) (Nat.lt_of_le_of_lt (Nat.sub_le _ _) t.isLt)).2) (iblk m c 0 t) (iblk m c 1 t) := by
  rw [outsAt0_B m c t (by omega) (by omega)]
  dsimp only
  rw [scr_B]
theorem out_last (t : Fin cfg0.N) (h : t.val % 2 = 1) :
    (outsAt0 m c t.val t.isLt).1 = k0_pay3 (F := Ideal) (outsAt0 m c t.val t.isLt).2 := by
  rw [scr_next m c t (by omega), outsAt0_B m c t (by omega) h]
  dsimp only
  rw [out_B]

/-- What the accumulator holds after each point. -/
theorem scr_holds : ∀ (n : ℕ) (hn : n < cfg0.N) (i : Fin 1024) (j : Fin 1024),
    (outsAt0 m c n hn).2 (ix2 i j) = psum (tm m c (n / 4 * 1024 + i.val) (n / 2 % 2 * 1024 + j.val)) ((n % 2 + 1) * 2048) := by
  have first : ∀ (t : Fin cfg0.N) (h : t.val % 2 = 0) (i : Fin 1024) (j : Fin 1024),
      (outsAt0 m c t.val t.isLt).2 (ix2 i j) = psum (tm m c (t.val / 4 * 1024 + i.val) (t.val / 2 % 2 * 1024 + j.val)) ((t.val % 2 + 1) * 2048) := fun t h i j => by
    rw [scr_first m c t h]
    refine add_block m c t _ i j ?_
    rw [h, Nat.zero_mul, psum_zero, pay1_at]
  intro n
  induction n with
  | zero => exact fun hn i j => first ⟨0, hn⟩ rfl i j
  | succ n ih =>
    intro hn i j
    by_cases h : (n + 1) % 2 = 0
    · exact first ⟨n + 1, hn⟩ h i j
    · rw [scr_next m c ⟨n + 1, hn⟩ h]
      refine add_block m c ⟨n + 1, hn⟩ _ i j ?_
      refine (ih (Nat.lt_of_succ_lt hn) i j).trans ?_
      have e1 : (n + 1) / 4 = n / 4 := by omega
      have e2 : (n + 1) / 2 % 2 = n / 2 % 2 := by omega
      have e3 : (n + 1) % 2 = n % 2 + 1 := by omega
      dsimp only
      rw [e1, e2, e3]

/-! ## The result -/

/-- The result array. -/
def G : FVec Ideal S2048x2048 .f32 := fun x => psum (tm m c (x 0).val (x 1).val) 4096 * Ideal.ofBits .f32 0x3F800000#32

theorem index_out : ∀ t : Fin cfg0.N, win0_2.index t (0 : Fin 2) = t.val / 4 ∧ win0_2.index t (1 : Fin 2) = t.val / 2 % 2 :=
  (by decide +kernel : ∀ t : Fin grid0.N, _)

theorem emb_out (t : Fin cfg0.N) (i : Fin 1024) (j : Fin 1024) (hi : t.val / 4 * 1024 + i.val < 2048) (hj : t.val / 2 % 2 * 1024 + j.val < 2048) :
    ((cfg0.win 2).rect t).emb (ix2 i j) = (ix2 ⟨t.val / 4 * 1024 + i.val, hi⟩ ⟨t.val / 2 % 2 * 1024 + j.val, hj⟩ : S2048x2048.Idx) := by
  funext a
  refine Fin.ext ((Pipeline.Window.rect_emb_val _ t _ a).trans ?_)
  match a with
  | ⟨0, _⟩ => show win0_2.index t (0 : Fin 2) * 1024 + i.val = _; rw [(index_out t).1]; rfl
  | ⟨1, _⟩ => show win0_2.index t (1 : Fin 2) * 1024 + j.val = _; rw [(index_out t).2]; rfl

theorem read_out (Z : FVec Ideal S2048x2048 .f32) (t : Fin cfg0.N) (i : Fin 1024) (j : Fin 1024) (hi : t.val / 4 * 1024 + i.val < 2048) (hj : t.val / 2 % 2 * 1024 + j.val < 2048) :
    ((cfg0.win 2).blk t).view.read (Elt Ideal) Z (ix2 i j) = Z (ix2 ⟨t.val / 4 * 1024 + i.val, hi⟩ ⟨t.val / 2 % 2 * 1024 + j.val, hj⟩) := by
  refine Eq.trans ?_ (congrArg Z (emb_out t i j hi hj))
  rfl

theorem flushed (t : Fin cfg0.N) (hf : (cfg0.win 2).flush t = true) :
    (dats m 0 c).flushed 2 t = ((cfg0.win 2).blk t).view.read (Elt Ideal) (G m c) := by
  have h := (flush0_2 t).mp hf
  have ht := lt_N t
  rw [Value.flushed2]
  refine funext fun (y : S1024x1024.Idx) => ?_
  obtain ⟨i, j, rfl⟩ : ∃ i j, y = ix2 i j := ⟨y 0, y 1, funext fun a => by match a with | ⟨0, _⟩ => rfl | ⟨1, _⟩ => rfl⟩
  refine Eq.trans ?_ (read_out (G m c) t i j (by omega) (by omega)).symm
  show (outsAt0 m c t.val t.isLt).1 (ix2 i j) = _
  rw [out_last m c t h, pay3_at, scr_holds m c t.val t.isLt, h]
  rfl

/-- The result array after the run. -/
theorem final : (dats m 0 c).arrAt 2 cfg0.N = G m c :=
  (dats m 0 c).arrAt_eq_of_cover 2 (G m c) (fun t hf => flushed m c t hf) (fun i => (Value.covered_iff2 i).2 (by
    have h0 : (i 0).val < 2048 := (i 0).isLt; have h1 : (i 1).val < 2048 := (i 1).isLt; omega))

end Cert.Ffn10
end
-- ==== Proof.Ffn.Claim10.lean ====
/-
  Call 10 and its reference return the same array over the extended reals.
-/
module

public import proofs.«01_k».proof.Defs
public import proofs.«01_k».proof.Proof.Ffn.Call10
public import proofs.«01_k».proof.Proof.Gen.Kernel10.Frame
public import proofs.«01_k».proof.Proof.Gen.Reference10Ideal.Run
public import Idealize.ShloMosaic.Lib.Quiescent

@[expose] public section

set_option maxRecDepth 16384

noncomputable section

namespace Cert.Ffn10

open Cert.Ffn
open Idealize.ShloMosaic Idealize.ShloMosaic.TcCoe Idealize.ShloMosaic.Tactic Idealize.SL.Sem

section
open Cert.Reference10Ideal Cert.Reference10Ideal.Gen

/-- The reference's result. -/
def rout (z0 : FVec Ideal S4096x2048 .bf16) (z1 : FVec Ideal S4096x2048 .bf16) : FVec Ideal S2048x2048 .f32 :=
  transpose S2048x2048 [1, 0] (Host.dotGeneral dot_S4096x2048_S4096x2048_S2048x2048_0_0_1_1_n_n none (extf .f32 z1 bitsLt_bf16_f32) (extf .f32 z0 bitsLt_bf16_f32)) transposes_S2048x2048_S2048x2048_1_0

theorem rout_at (z0 : FVec Ideal S4096x2048 .bf16) (z1 : FVec Ideal S4096x2048 .bf16) (a : Fin 2048) (b : Fin 2048) :
    rout z0 z1 (ix2 a b) = ∑ k : Fin 4096, z1 (ix2 k b) * z0 (ix2 k a) := by
  pointwise [rout]

end

section
open Cert.Kernel10Ideal Cert.Kernel10Ideal.Gen

variable (m : (ℓ : Loc nD τ sig) → Buf (Elt Ideal) ℓ) (c : Dev nD)

theorem G_at (a : Fin 2048) (b : Fin 2048) :
    G m c (ix2 a b) = (∑ k, M0 m c k a * M1 m c k b) * Ideal.ofBits .f32 0x3F800000#32 := by
  show psum (tm m c a.val b.val) 4096 * _ = _
  rw [psum_all]
  unfold tm
  simp only [rd_val]

end

theorem algebraic : Cert.algebraic_Kernel10Ideal_Reference10Ideal := by
  intro m g m' g' _ ha
  refine ⟨fun c => G m c, ?_, ?_⟩
  · exact (θ_run Cert.Kernel10Ideal.defs _ _).mono (fun r h c => ⟨(h c).1.trans (final m c), (h c).2⟩) (Cert.Kernel10Ideal.Value.run_blocks (F := Ideal) m g)
  · refine (θ_run Cert.Reference10Ideal.defs _ _).mono (fun r h c => ⟨(h c).1.trans ?_, (h c).2⟩) (Cert.Reference10Ideal.Value.run (F := Ideal) m' g')
    obtain ⟨e0, e1⟩ := ha c
    show rout (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) = G m c
    refine funext fun (x : Cert.Kernel10Ideal.S2048x2048.Idx) => ?_
    obtain ⟨a, b, rfl⟩ : ∃ a b, x = ix2 a b := ⟨x 0, x 1, funext fun q => by match q with | ⟨0, _⟩ => rfl | ⟨1, _⟩ => rfl⟩
    rw [G_at]
    refine (rout_at _ _ a b).trans ?_
    rw [one_word, mul_one]
    refine Finset.sum_congr rfl fun k _ => ?_
    exact (congrArg₂ (fun x y : EReal => x * y) (congrFun e1 (ix2 k b)) (congrFun e0 (ix2 k a))).trans (mul_comm _ _)

theorem frame_kernel : Cert.quiescent_Kernel10 := fun m ρ _ => Cert.Kernel10.Gen.frame (F := Bits) m ρ

theorem frame_ideal : Cert.quiescent_Kernel10Ideal := fun m ρ _ => Cert.Kernel10Ideal.Gen.frame (F := Ideal) m ρ

theorem frame_ref : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

end Cert.Ffn10
end
-- ==== Proof.Ffn.Call11.lean ====
/-
  The product of call 11: what its grid leaves in the result. The contracted axis is one block.
-/
module

public import proofs.«01_k».proof.Proof.Gen.Kernel11Ideal.Value
public import proofs.«01_k».proof.Proof.Ffn.Sum
public import Idealize.ShloMosaic.Lib.Pointwise

@[expose] public section

set_option maxRecDepth 16384

noncomputable section

namespace Cert.Ffn11

open Cert.Kernel11Ideal Cert.Kernel11Ideal.Gen Cert.Ffn
open Idealize.ShloMosaic Idealize.ShloMosaic.TcCoe Idealize.ShloMosaic.Tactic Idealize.SL.Sem

/-! ## The vector operations at an index -/

theorem pay1_at (i j : Fin 1024) : k0_pay1 (F := Ideal) (ix2 i j) = 0 := by
  pointwise [k0_pay1]

theorem pay2_at (a : Vec Ideal S1024x1024 .f32) (x : Vec Ideal S1024x2048 .bf16) (y : Vec Ideal S1024x2048 .bf16) (i j : Fin 1024) :
    k0_pay2 (F := Ideal) a x y (ix2 i j) = a (ix2 i j) + ∑ k : Fin 2048, x (ix2 i k) * y (ix2 j k) := by
  pointwise [k0_pay2]

theorem pay3_at (a : Vec Ideal S1024x1024 .f32) (i j : Fin 1024) :
    k0_pay3 (F := Ideal) a (ix2 i j) = a (ix2 i j) * Ideal.ofBits .f32 0x3F800000#32 := by
  pointwise [k0_pay3]

/-! ## The body -/

theorem hz : (![0, 0] : Fin 2 → Nat) = fun _ => 0 := funext fun a => by fin_cases a <;> rfl

/-- What the last store over a whole buffer left is what a load of it reads. -/
theorem readCov_top {Val : EltTy → Type} {S : Shape} {e : EltTy} [∀ e, Nonempty (Val e)] {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩), View.canon_cons_unit_zero h, View.ld_unit_zero h]

theorem out_A (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : cond0_1 i) (x0 : Vec Ideal S1024x2048 .bf16) (x1 : Vec Ideal S1024x2048 .bf16) :
    out0_A_2 c i a3 h3 a4 h4 a5 h5 a6 h6 hc0 hc1 x0 x1 = k0_pay3 (F := Ideal) (k0_pay2 (F := Ideal) (k0_pay1 (F := Ideal)) x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_cons_unit_zero (S := S1024x1024) hz]
  simp only [readCov_top (S := S1024x1024) _ hz, View.readAt_eq_ld, h3.read_unread, h4.read_unread, h5.read_unread, h6.read_unread, View.ld_unit_zero (S := S1024x2048) hz, View.ld_unit_zero (S := S1024x1024) hz]

/-! ## The blocks a point reads -/

variable (m : (ℓ : Loc nD τ sig) → Buf (Elt Ideal) ℓ) (c : Dev nD)

theorem lt_N (t : Fin cfg0.N) : t.val < 8 := lt_of_lt_of_eq t.isLt (show cfg0.N = 8 from N_0)

/-- Operand 0, at a row and a column. -/
def M0 : Fin 4096 → Fin 2048 → EReal := fun i j => (V m c (Pipeline.arrRef spec0 0) : FVec Ideal S4096x2048 .bf16) (ix2 i j)

theorem index_0 : ∀ t : Fin cfg0.N, win0_0.index t (0 : Fin 2) = t.val / 2 ∧ win0_0.index t (1 : Fin 2) = 0 :=
  (by decide +kernel : ∀ t : Fin grid0.N, _)

theorem emb_0 (t : Fin cfg0.N) (i : Fin 1024) (j : Fin 2048) (hi : t.val / 2 * 1024 + i.val < 4096) :
    ((cfg0.win 0).rect t).emb (ix2 i j) = (ix2 ⟨t.val / 2 * 1024 + i.val, hi⟩ j : S4096x2048.Idx) := by
  funext a
  refine Fin.ext ((Pipeline.Window.rect_emb_val _ t _ a).trans ?_)
  match a with
  | ⟨0, _⟩ => show win0_0.index t (0 : Fin 2) * 1024 + i.val = _; rw [(index_0 t).1]; rfl
  | ⟨1, _⟩ => exact (by rw [(index_0 t).2, Nat.zero_mul, Nat.zero_add] : win0_0.index t (1 : Fin 2) * 2048 + j.val = j.val)

theorem blk_0 (t : Fin cfg0.N) (i : Fin 1024) (j : Fin 2048) :
    (iblk m c 0 t : Vec Ideal S1024x2048 .bf16) (ix2 i j) = rd (M0 m c) (t.val / 2 * 1024 + i.val) j.val := by
  have ht := lt_N t
  have hi : t.val / 2 * 1024 + i.val < 4096 := by omega
  rw [rd_of _ hi j.isLt]
  unfold iblk M0
  refine Eq.trans ?_ (congrArg (V m c (Pipeline.arrRef spec0 0) : FVec Ideal S4096x2048 .bf16) (emb_0 t i j hi))
  rfl

/-- Operand 1, at a row and a column. -/
def M1 : Fin 2048 → Fin 2048 → EReal := fun i j => (V m c (Pipeline.arrRef spec0 1) : FVec Ideal S2048x2048 .bf16) (ix2 i j)

theorem index_1 : ∀ t : Fin cfg0.N, win0_1.index t (0 : Fin 2) = t.val % 2 ∧ win0_1.index t (1 : Fin 2) = 0 :=
  (by decide +kernel : ∀ t : Fin grid0.N, _)

theorem emb_1 (t : Fin cfg0.N) (i : Fin 1024) (j : Fin 2048) (hi : t.val % 2 * 1024 + i.val < 2048) :
    ((cfg0.win 1).rect t).emb (ix2 i j) = (ix2 ⟨t.val % 2 * 1024 + i.val, hi⟩ j : S2048x2048.Idx) := by
  funext a
  refine Fin.ext ((Pipeline.Window.rect_emb_val _ t _ a).trans ?_)
  match a with
  | ⟨0, _⟩ => show win0_1.index t (0 : Fin 2) * 1024 + i.val = _; rw [(index_1 t).1]; rfl
  | ⟨1, _⟩ => exact (by rw [(index_1 t).2, Nat.zero_mul, Nat.zero_add] : win0_1.index t (1 : Fin 2) * 2048 + j.val = j.val)

theorem blk_1 (t : Fin cfg0.N) (i : Fin 1024) (j : Fin 2048) :
    (iblk m c 1 t : Vec Ideal S1024x2048 .bf16) (ix2 i j) = rd (M1 m c) (t.val % 2 * 1024 + i.val) j.val := by
  have ht := lt_N t
  have hi : t.val % 2 * 1024 + i.val < 2048 := by omega
  rw [rd_of _ hi j.isLt]
  unfold iblk M1
  refine Eq.trans ?_ (congrArg (V m c (Pipeline.arrRef spec0 1) : FVec Ideal S2048x2048 .bf16) (emb_1 t i j hi))
  rfl

/-! ## The result -/

/-- The product at row `a` and column `b`. -/
def val (a b : ℕ) : EReal := (∑ k : Fin 2048, rd (M0 m c) a k.val * rd (M1 m c) b k.val) * Ideal.ofBits .f32 0x3F800000#32

theorem index_2 : ∀ t : Fin cfg0.N, win0_2.index t (0 : Fin 2) = t.val / 2 ∧ win0_2.index t (1 : Fin 2) = t.val % 2 :=
  (by decide +kernel : ∀ t : Fin grid0.N, _)

theorem emb_2 (t : Fin cfg0.N) (i j : Fin 1024) (hi : t.val / 2 * 1024 + i.val < 4096) (hj : t.val % 2 * 1024 + j.val < 2048) :
    ((cfg0.win 2).rect t).emb (ix2 i j) = (ix2 ⟨t.val / 2 * 1024 + i.val, hi⟩ ⟨t.val % 2 * 1024 + j.val, hj⟩ : S4096x2048.Idx) := by
  funext a
  refine Fin.ext ((Pipeline.Window.rect_emb_val _ t _ a).trans ?_)
  match a with
  | ⟨0, _⟩ => show win0_2.index t (0 : Fin 2) * 1024 + i.val = _; rw [(index_2 t).1]; rfl
  | ⟨1, _⟩ => show win0_2.index t (1 : Fin 2) * 1024 + j.val = _; rw [(index_2 t).2]; rfl

theorem read_2 (Z : FVec Ideal S4096x2048 .bf16) (t : Fin cfg0.N) (i j : Fin 1024) (hi : t.val / 2 * 1024 + i.val < 4096) (hj : t.val % 2 * 1024 + j.val < 2048) :
    ((cfg0.win 2).blk t).view.read (Elt Ideal) Z (ix2 i j) = Z (ix2 ⟨t.val / 2 * 1024 + i.val, hi⟩ ⟨t.val % 2 * 1024 + j.val, hj⟩) := by
  refine Eq.trans ?_ (congrArg Z (emb_2 t i j hi hj))
  rfl

/-- The result array. -/
def G : FVec Ideal S4096x2048 .bf16 := fun x => val m c (x 0).val (x 1).val

theorem flushed (t : Fin cfg0.N) :
    (dats m 0 c).flushed 2 t = ((cfg0.win 2).blk t).view.read (Elt Ideal) (G m c) := by
  have ht := lt_N t
  rw [Value.flushed2]
  refine funext fun (y : S1024x1024.Idx) => ?_
  obtain ⟨i, j, rfl⟩ : ∃ i j, y = ix2 i j := ⟨y 0, y 1, funext fun a => by match a with | ⟨0, _⟩ => rfl | ⟨1, _⟩ => rfl⟩
  refine Eq.trans ?_ (read_2 (G m c) t i j (by omega) (by omega)).symm
  show outsAt0 m c t (ix2 i j) = _
  unfold outsAt0
  rw [out_A, pay3_at, pay2_at, pay1_at, zero_add]
  simp only [blk_0, blk_1]
  rfl

theorem cover (x : S4096x2048.Idx) : ∃ t : Fin cfg0.N, (cfg0.win 2).flush t = true ∧ x ∈ ((cfg0.win 2).blk t).view.set := by
  have h0 : (x 0).val < 4096 := (x 0).isLt
  have h1 : (x 1).val < 2048 := (x 1).isLt
  have hN : cfg0.N = 8 := N_0
  have e0 : ((x 0).val / 1024 * 2 + (x 1).val / 1024) / 2 = (x 0).val / 1024 := by omega
  have e1 : ((x 0).val / 1024 * 2 + (x 1).val / 1024) % 2 = (x 1).val / 1024 := by omega
  refine ⟨⟨(x 0).val / 1024 * 2 + (x 1).val / 1024, by omega⟩, flush0_2 _, ?_⟩
  refine Finset.mem_map.mpr ⟨ix2 ⟨(x 0).val % 1024, by omega⟩ ⟨(x 1).val % 1024, by omega⟩, Finset.mem_univ _, ?_⟩
  refine (emb_2 _ _ _ (by dsimp only; omega) (by dsimp only; omega)).trans ?_
  refine funext fun a => ?_
  match a with
  | ⟨0, _⟩ => exact Fin.ext (by show ((x 0).val / 1024 * 2 + (x 1).val / 1024) / 2 * 1024 + (x 0).val % 1024 = (x 0).val; omega)
  | ⟨1, _⟩ => exact Fin.ext (by show ((x 0).val / 1024 * 2 + (x 1).val / 1024) % 2 * 1024 + (x 1).val % 1024 = (x 1).val; omega)

/-- The result array after the run. -/
theorem final : (dats m 0 c).arrAt 2 cfg0.N = G m c :=
  (dats m 0 c).arrAt_eq_of_cover 2 (G m c) (fun t _ => flushed m c t) cover

end Cert.Ffn11
end
-- ==== Proof.Ffn.Claim11.lean ====
/-
  Call 11 and its reference return the same array over the extended reals.
-/
module

public import proofs.«01_k».proof.Defs
public import proofs.«01_k».proof.Proof.Ffn.Call11
public import proofs.«01_k».proof.Proof.Gen.Kernel11.Frame
public import proofs.«01_k».proof.Proof.Gen.Reference11Ideal.Run
public import Idealize.ShloMosaic.Lib.Quiescent

@[expose] public section

set_option maxRecDepth 16384

noncomputable section

namespace Cert.Ffn11

open Cert.Ffn
open Idealize.ShloMosaic Idealize.ShloMosaic.TcCoe Idealize.ShloMosaic.Tactic Idealize.SL.Sem

section
open Cert.Reference11Ideal Cert.Reference11Ideal.Gen

/-- The reference's result. -/
def rout (z0 : FVec Ideal S4096x2048 .bf16) (z1 : FVec Ideal S2048x2048 .bf16) : FVec Ideal S4096x2048 .bf16 :=
  truncf .bf16 (Host.dotGeneral dot_S4096x2048_S2048x2048_S4096x2048_1_1_0_0_n_n none (extf .f32 z0 bitsLt_bf16_f32) (extf .f32 z1 bitsLt_bf16_f32)) bitsLt_bf16_f32

theorem rout_at (z0 : FVec Ideal S4096x2048 .bf16) (z1 : FVec Ideal S2048x2048 .bf16) (a : Fin 4096) (b : Fin 2048) :
    rout z0 z1 (ix2 a b) = ∑ k : Fin 2048, z0 (ix2 a k) * z1 (ix2 b k) := by
  pointwise [rout]

end

section
open Cert.Kernel11Ideal Cert.Kernel11Ideal.Gen

variable (m : (ℓ : Loc nD τ sig) → Buf (Elt Ideal) ℓ) (c : Dev nD)

theorem G_at (a : Fin 4096) (b : Fin 2048) :
    G m c (ix2 a b) = (∑ k, M0 m c a k * M1 m c b k) * Ideal.ofBits .f32 0x3F800000#32 := by
  show val m c a.val b.val = _
  unfold val
  simp only [rd_val]

end

theorem algebraic : Cert.algebraic_Kernel11Ideal_Reference11Ideal := by
  intro m g m' g' _ ha
  refine ⟨fun c => G m c, ?_, ?_⟩
  · exact (θ_run Cert.Kernel11Ideal.defs _ _).mono (fun r h c => ⟨(h c).1.trans (final m c), (h c).2⟩) (Cert.Kernel11Ideal.Value.run_blocks (F := Ideal) m g)
  · refine (θ_run Cert.Reference11Ideal.defs _ _).mono (fun r h c => ⟨(h c).1.trans ?_, (h c).2⟩) (Cert.Reference11Ideal.Value.run (F := Ideal) m' g')
    obtain ⟨e0, e1⟩ := ha c
    show rout (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) = G m c
    refine funext fun (x : Cert.Kernel11Ideal.S4096x2048.Idx) => ?_
    obtain ⟨a, b, rfl⟩ : ∃ a b, x = ix2 a b := ⟨x 0, x 1, funext fun q => by match q with | ⟨0, _⟩ => rfl | ⟨1, _⟩ => rfl⟩
    rw [G_at]
    refine (rout_at _ _ a b).trans ?_
    rw [one_word, mul_one]
    refine Finset.sum_congr rfl fun k _ => ?_
    exact congrArg₂ (fun x y : EReal => x * y) (congrFun e0 (ix2 a k)) (congrFun e1 (ix2 b k))

theorem frame_kernel : Cert.quiescent_Kernel11 := fun m ρ _ => Cert.Kernel11.Gen.frame (F := Bits) m ρ

theorem frame_ideal : Cert.quiescent_Kernel11Ideal := fun m ρ _ => Cert.Kernel11Ideal.Gen.frame (F := Ideal) m ρ

theorem frame_ref : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

end Cert.Ffn11
end
-- ==== Proof.Ffn.Call12.lean ====
/-
  The product of call 12: what its grid leaves in the result. The contracted axis is one block.
-/
module

public import proofs.«01_k».proof.Proof.Gen.Kernel12Ideal.Value
public import proofs.«01_k».proof.Proof.Ffn.Sum
public import Idealize.ShloMosaic.Lib.Pointwise

@[expose] public section

set_option maxRecDepth 16384

noncomputable section

namespace Cert.Ffn12

open Cert.Kernel12Ideal Cert.Kernel12Ideal.Gen Cert.Ffn
open Idealize.ShloMosaic Idealize.ShloMosaic.TcCoe Idealize.ShloMosaic.Tactic Idealize.SL.Sem

/-! ## The vector operations at an index -/

theorem pay1_at (i j : Fin 1024) : k0_pay1 (F := Ideal) (ix2 i j) = 0 := by
  pointwise [k0_pay1]

theorem pay2_at (a : Vec Ideal S1024x1024 .f32) (x : Vec Ideal S1024x2048 .bf16) (y : Vec Ideal S2048x1024 .bf16) (i j : Fin 1024) :
    k0_pay2 (F := Ideal) a x y (ix2 i j) = a (ix2 i j) + ∑ k : Fin 2048, x (ix2 i k) * y (ix2 k j) := by
  pointwise [k0_pay2]

theorem pay3_at (a : Vec Ideal S1024x1024 .f32) (i j : Fin 1024) :
    k0_pay3 (F := Ideal) a (ix2 i j) = a (ix2 i j) * Ideal.ofBits .f32 0x3F800000#32 := by
  pointwise [k0_pay3]

/-! ## The body -/

theorem hz : (![0, 0] : Fin 2 → Nat) = fun _ => 0 := funext fun a => by fin_cases a <;> rfl

/-- What the last store over a whole buffer left is what a load of it reads. -/
theorem readCov_top {Val : EltTy → Type} {S : Shape} {e : EltTy} [∀ e, Nonempty (Val e)] {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩), View.canon_cons_unit_zero h, View.ld_unit_zero h]

theorem out_A (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : cond0_1 i) (x0 : Vec Ideal S1024x2048 .bf16) (x1 : Vec Ideal S2048x1024 .bf16) :
    out0_A_2 c i a3 h3 a4 h4 a5 h5 a6 h6 hc0 hc1 x0 x1 = k0_pay3 (F := Ideal) (k0_pay2 (F := Ideal) (k0_pay1 (F := Ideal)) x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_cons_unit_zero (S := S1024x1024) hz]
  simp only [readCov_top (S := S1024x1024) _ hz, View.readAt_eq_ld, h3.read_unread, h4.read_unread, h5.read_unread, h6.read_unread, View.ld_unit_zero (S := S1024x2048) hz, View.ld_unit_zero (S := S2048x1024) hz, View.ld_unit_zero (S := S1024x1024) hz]

/-! ## The blocks a point reads -/

variable (m : (ℓ : Loc nD τ sig) → Buf (Elt Ideal) ℓ) (c : Dev nD)

theorem lt_N (t : Fin cfg0.N) : t.val < 16 := lt_of_lt_of_eq t.isLt (show cfg0.N = 16 from N_0)

/-- Operand 0, at a row and a column. -/
def M0 : Fin 4096 → Fin 2048 → EReal := fun i j => (V m c (Pipeline.arrRef spec0 0) : FVec Ideal S4096x2048 .bf16) (ix2 i j)

theorem index_0 : ∀ t : Fin cfg0.N, win0_0.index t (0 : Fin 2) = t.val / 4 ∧ win0_0.index t (1 : Fin 2) = 0 :=
  (by decide +kernel : ∀ t : Fin grid0.N, _)

theorem emb_0 (t : Fin cfg0.N) (i : Fin 1024) (j : Fin 2048) (hi : t.val / 4 * 1024 + i.val < 4096) :
    ((cfg0.win 0).rect t).emb (ix2 i j) = (ix2 ⟨t.val / 4 * 1024 + i.val, hi⟩ j : S4096x2048.Idx) := by
  funext a
  refine Fin.ext ((Pipeline.Window.rect_emb_val _ t _ a).trans ?_)
  match a with
  | ⟨0, _⟩ => show win0_0.index t (0 : Fin 2) * 1024 + i.val = _; rw [(index_0 t).1]; rfl
  | ⟨1, _⟩ => exact (by rw [(index_0 t).2, Nat.zero_mul, Nat.zero_add] : win0_0.index t (1 : Fin 2) * 2048 + j.val = j.val)

theorem blk_0 (t : Fin cfg0.N) (i : Fin 1024) (j : Fin 2048) :
    (iblk m c 0 t : Vec Ideal S1024x2048 .bf16) (ix2 i j) = rd (M0 m c) (t.val / 4 * 1024 + i.val) j.val := by
  have ht := lt_N t
  have hi : t.val / 4 * 1024 + i.val < 4096 := by omega
  rw [rd_of _ hi j.isLt]
  unfold iblk M0
  refine Eq.trans ?_ (congrArg (V m c (Pipeline.arrRef spec0 0) : FVec Ideal S4096x2048 .bf16) (emb_0 t i j hi))
  rfl

/-- Operand 1, at a row and a column. -/
def M1 : Fin 2048 → Fin 4096 → EReal := fun i j => (V m c (Pipeline.arrRef spec0 1) : FVec Ideal S2048x4096 .bf16) (ix2 i j)

theorem index_1 : ∀ t : Fin cfg0.N, win0_1.index t (0 : Fin 2) = 0 ∧ win0_1.index t (1 : Fin 2) = t.val % 4 :=
  (by decide +kernel : ∀ t : Fin grid0.N, _)

theorem emb_1 (t : Fin cfg0.N) (i : Fin 2048) (j : Fin 1024) (hj : t.val % 4 * 1024 + j.val < 4096) :
    ((cfg0.win 1).rect t).emb (ix2 i j) = (ix2 i ⟨t.val % 4 * 1024 + j.val, hj⟩ : S2048x4096.Idx) := by
  funext a
  refine Fin.ext ((Pipeline.Window.rect_emb_val _ t _ a).trans ?_)
  match a with
  | ⟨0, _⟩ => exact (by rw [(index_1 t).1, Nat.zero_mul, Nat.zero_add] : win0_1.index t (0 : Fin 2) * 2048 + i.val = i.val)
  | ⟨1, _⟩ => show win0_1.index t (1 : Fin 2) * 1024 + j.val = _; rw [(index_1 t).2]; rfl

theorem blk_1 (t : Fin cfg0.N) (i : Fin 2048) (j : Fin 1024) :
    (iblk m c 1 t : Vec Ideal S2048x1024 .bf16) (ix2 i j) = rd (M1 m c) i.val (t.val % 4 * 1024 + j.val) := by
  have ht := lt_N t
  have hj : t.val % 4 * 1024 + j.val < 4096 := by omega
  rw [rd_of _ i.isLt hj]
  unfold iblk M1
  refine Eq.trans ?_ (congrArg (V m c (Pipeline.arrRef spec0 1) : FVec Ideal S2048x4096 .bf16) (emb_1 t i j hj))
  rfl

/-! ## The result -/

/-- The product at row `a` and column `b`. -/
def val (a b : ℕ) : EReal := (∑ k : Fin 2048, rd (M0 m c) a k.val * rd (M1 m c) k.val b) * Ideal.ofBits .f32 0x3F800000#32

theorem index_2 : ∀ t : Fin cfg0.N, win0_2.index t (0 : Fin 2) = t.val / 4 ∧ win0_2.index t (1 : Fin 2) = t.val % 4 :=
  (by decide +kernel : ∀ t : Fin grid0.N, _)

theorem emb_2 (t : Fin cfg0.N) (i j : Fin 1024) (hi : t.val / 4 * 1024 + i.val < 4096) (hj : t.val % 4 * 1024 + j.val < 4096) :
    ((cfg0.win 2).rect t).emb (ix2 i j) = (ix2 ⟨t.val / 4 * 1024 + i.val, hi⟩ ⟨t.val % 4 * 1024 + j.val, hj⟩ : S4096x4096.Idx) := by
  funext a
  refine Fin.ext ((Pipeline.Window.rect_emb_val _ t _ a).trans ?_)
  match a with
  | ⟨0, _⟩ => show win0_2.index t (0 : Fin 2) * 1024 + i.val = _; rw [(index_2 t).1]; rfl
  | ⟨1, _⟩ => show win0_2.index t (1 : Fin 2) * 1024 + j.val = _; rw [(index_2 t).2]; rfl

theorem read_2 (Z : FVec Ideal S4096x4096 .bf16) (t : Fin cfg0.N) (i j : Fin 1024) (hi : t.val / 4 * 1024 + i.val < 4096) (hj : t.val % 4 * 1024 + j.val < 4096) :
    ((cfg0.win 2).blk t).view.read (Elt Ideal) Z (ix2 i j) = Z (ix2 ⟨t.val / 4 * 1024 + i.val, hi⟩ ⟨t.val % 4 * 1024 + j.val, hj⟩) := by
  refine Eq.trans ?_ (congrArg Z (emb_2 t i j hi hj))
  rfl

/-- The result array. -/
def G : FVec Ideal S4096x4096 .bf16 := fun x => val m c (x 0).val (x 1).val

theorem flushed (t : Fin cfg0.N) :
    (dats m 0 c).flushed 2 t = ((cfg0.win 2).blk t).view.read (Elt Ideal) (G m c) := by
  have ht := lt_N t
  rw [Value.flushed2]
  refine funext fun (y : S1024x1024.Idx) => ?_
  obtain ⟨i, j, rfl⟩ : ∃ i j, y = ix2 i j := ⟨y 0, y 1, funext fun a => by match a with | ⟨0, _⟩ => rfl | ⟨1, _⟩ => rfl⟩
  refine Eq.trans ?_ (read_2 (G m c) t i j (by omega) (by omega)).symm
  show outsAt0 m c t (ix2 i j) = _
  unfold outsAt0
  rw [out_A, pay3_at, pay2_at, pay1_at, zero_add]
  simp only [blk_0, blk_1]
  rfl

theorem cover (x : S4096x4096.Idx) : ∃ t : Fin cfg0.N, (cfg0.win 2).flush t = true ∧ x ∈ ((cfg0.win 2).blk t).view.set := by
  have h0 : (x 0).val < 4096 := (x 0).isLt
  have h1 : (x 1).val < 4096 := (x 1).isLt
  have hN : cfg0.N = 16 := N_0
  have e0 : ((x 0).val / 1024 * 4 + (x 1).val / 1024) / 4 = (x 0).val / 1024 := by omega
  have e1 : ((x 0).val / 1024 * 4 + (x 1).val / 1024) % 4 = (x 1).val / 1024 := by omega
  refine ⟨⟨(x 0).val / 1024 * 4 + (x 1).val / 1024, by omega⟩, flush0_2 _, ?_⟩
  refine Finset.mem_map.mpr ⟨ix2 ⟨(x 0).val % 1024, by omega⟩ ⟨(x 1).val % 1024, by omega⟩, Finset.mem_univ _, ?_⟩
  refine (emb_2 _ _ _ (by dsimp only; omega) (by dsimp only; omega)).trans ?_
  refine funext fun a => ?_
  match a with
  | ⟨0, _⟩ => exact Fin.ext (by show ((x 0).val / 1024 * 4 + (x 1).val / 1024) / 4 * 1024 + (x 0).val % 1024 = (x 0).val; omega)
  | ⟨1, _⟩ => exact Fin.ext (by show ((x 0).val / 1024 * 4 + (x 1).val / 1024) % 4 * 1024 + (x 1).val % 1024 = (x 1).val; omega)

/-- The result array after the run. -/
theorem final : (dats m 0 c).arrAt 2 cfg0.N = G m c :=
  (dats m 0 c).arrAt_eq_of_cover 2 (G m c) (fun t _ => flushed m c t) cover

end Cert.Ffn12
end
-- ==== Proof.Ffn.Claim12.lean ====
/-
  Call 12 and its reference return the same array over the extended reals.
-/
module

public import proofs.«01_k».proof.Defs
public import proofs.«01_k».proof.Proof.Ffn.Call12
public import proofs.«01_k».proof.Proof.Gen.Kernel12.Frame
public import proofs.«01_k».proof.Proof.Gen.Reference12Ideal.Run
public import Idealize.ShloMosaic.Lib.Quiescent

@[expose] public section

set_option maxRecDepth 16384

noncomputable section

namespace Cert.Ffn12

open Cert.Ffn
open Idealize.ShloMosaic Idealize.ShloMosaic.TcCoe Idealize.ShloMosaic.Tactic Idealize.SL.Sem

section
open Cert.Reference12Ideal Cert.Reference12Ideal.Gen

/-- The reference's result. -/
def rout (z0 : FVec Ideal S4096x2048 .bf16) (z1 : FVec Ideal S2048x4096 .bf16) : FVec Ideal S4096x4096 .bf16 :=
  truncf .bf16 (Host.dotGeneral dot_S4096x2048_S2048x4096_S4096x4096_1_0_0_1_n_n none (extf .f32 z0 bitsLt_bf16_f32) (extf .f32 z1 bitsLt_bf16_f32)) bitsLt_bf16_f32

theorem rout_at (z0 : FVec Ideal S4096x2048 .bf16) (z1 : FVec Ideal S2048x4096 .bf16) (a : Fin 4096) (b : Fin 4096) :
    rout z0 z1 (ix2 a b) = ∑ k : Fin 2048, z0 (ix2 a k) * z1 (ix2 k b) := by
  pointwise [rout]

end

section
open Cert.Kernel12Ideal Cert.Kernel12Ideal.Gen

variable (m : (ℓ : Loc nD τ sig) → Buf (Elt Ideal) ℓ) (c : Dev nD)

theorem G_at (a : Fin 4096) (b : Fin 4096) :
    G m c (ix2 a b) = (∑ k, M0 m c a k * M1 m c k b) * Ideal.ofBits .f32 0x3F800000#32 := by
  show val m c a.val b.val = _
  unfold val
  simp only [rd_val]

end

theorem algebraic : Cert.algebraic_Kernel12Ideal_Reference12Ideal := by
  intro m g m' g' _ ha
  refine ⟨fun c => G m c, ?_, ?_⟩
  · exact (θ_run Cert.Kernel12Ideal.defs _ _).mono (fun r h c => ⟨(h c).1.trans (final m c), (h c).2⟩) (Cert.Kernel12Ideal.Value.run_blocks (F := Ideal) m g)
  · refine (θ_run Cert.Reference12Ideal.defs _ _).mono (fun r h c => ⟨(h c).1.trans ?_, (h c).2⟩) (Cert.Reference12Ideal.Value.run (F := Ideal) m' g')
    obtain ⟨e0, e1⟩ := ha c
    show rout (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) = G m c
    refine funext fun (x : Cert.Kernel12Ideal.S4096x4096.Idx) => ?_
    obtain ⟨a, b, rfl⟩ : ∃ a b, x = ix2 a b := ⟨x 0, x 1, funext fun q => by match q with | ⟨0, _⟩ => rfl | ⟨1, _⟩ => rfl⟩
    rw [G_at]
    refine (rout_at _ _ a b).trans ?_
    rw [one_word, mul_one]
    refine Finset.sum_congr rfl fun k _ => ?_
    exact congrArg₂ (fun x y : EReal => x * y) (congrFun e0 (ix2 a k)) (congrFun e1 (ix2 k b))

theorem frame_kernel : Cert.quiescent_Kernel12 := fun m ρ _ => Cert.Kernel12.Gen.frame (F := Bits) m ρ

theorem frame_ideal : Cert.quiescent_Kernel12Ideal := fun m ρ _ => Cert.Kernel12Ideal.Gen.frame (F := Ideal) m ρ

theorem frame_ref : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

end Cert.Ffn12
end
-- ==== Proof.Ffn.Call13.lean ====
/-
  The product of call 13: what its grid leaves in the result, as one sum over the contracted axis.
-/
module

public import proofs.«01_k».proof.Proof.Gen.Kernel13Ideal.Value
public import proofs.«01_k».proof.Proof.Ffn.Sum
public import Idealize.ShloMosaic.Lib.Pointwise

@[expose] public section

set_option maxRecDepth 16384

noncomputable section

namespace Cert.Ffn13

open Cert.Kernel13Ideal Cert.Kernel13Ideal.Gen Cert.Ffn
open Idealize.ShloMosaic Idealize.ShloMosaic.TcCoe Idealize.ShloMosaic.Tactic Idealize.SL.Sem

/-! ## The vector operations at an index -/

theorem pay1_at (i : Fin 1024) (j : Fin 1024) : k0_pay1 (F := Ideal) (ix2 i j) = 0 := by
  pointwise [k0_pay1]
theorem pay2_at (a : Vec Ideal S1024x1024 .f32) (x : Vec Ideal S1024x1024 .bf16) (y : Vec Ideal S1024x1024 .bf16) (i : Fin 1024) (j : Fin 1024) :
    k0_pay2 (F := Ideal) a x y (ix2 i j) = a (ix2 i j) + ∑ k : Fin 1024, x (ix2 i k) * y (ix2 k j) := by
  pointwise [k0_pay2]
theorem pay3_at (a r : Vec Ideal S1024x1024 .f32) (i : Fin 1024) (j : Fin 1024) :
    k0_pay3 (F := Ideal) a r (ix2 i j) = a (ix2 i j) * Ideal.ofBits .f32 0x3F800000#32 + r (ix2 i j) := by
  pointwise [k0_pay3]
/-! ## The cases of the body -/

theorem hz : (![0, 0] : Fin 2 → Nat) = fun _ => 0 := funext fun a => by fin_cases a <;> rfl

theorem scr_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i) (x0 : Vec Ideal S1024x1024 .bf16) (x1 : Vec Ideal S1024x1024 .bf16) (x2 : Vec Ideal S1024x1024 .f32) :
    sout0_A_0 c i a3 h3 a4 h4 a5 h5 a6 h6 a7 h7 hc0 hc1 x0 x1 x2 = k0_pay2 (F := Ideal) (k0_pay1 (F := Ideal)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz]
  simp only [View.readCov_unit_zero (S := S1024x1024) _ hz, View.readAt_eq_ld, h3.read_unread, h4.read_unread, h5.read_unread, h6.read_unread, h7.read_unread, View.ld_unit_zero (S := S1024x1024) hz]
theorem scr_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i) (x0 : Vec Ideal S1024x1024 .bf16) (x1 : Vec Ideal S1024x1024 .bf16) (x2 : Vec Ideal S1024x1024 .f32) (s : Vec Ideal S1024x1024 .f32) :
    sout0_B_0 c i a3 h3 a4 h4 a5 h5 a6 h6 a7 h7 hc0 hc1 x0 x1 x2 s = k0_pay2 (F := Ideal) (s) x0 x1 := by
  unfold sout0_B_0
  rw [View.read_writes_eq_canon _ _ _ (scover0_B_0 c i a3 h3 a4 h4 a5 h5 a6 h6 a7 h7 hc0 hc1 x0 x1 x2 s)]
  unfold kernelRun0_B
  dsimp only
  sl_unfold_words
  rw [View.canon_cons_unit_zero (S := S1024x1024) hz]
  simp only [View.readCov_unit_zero (S := S1024x1024) _ hz, View.readAt_eq_ld, h3.read_unread, h4.read_unread, h5.read_unread, h6.read_unread, h7.read_unread, View.ld_unit_zero (S := S1024x1024) hz]
theorem out_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i) (x0 : Vec Ideal S1024x1024 .bf16) (x1 : Vec Ideal S1024x1024 .bf16) (x2 : Vec Ideal S1024x1024 .f32) (s : Vec Ideal S1024x1024 .f32) :
    out0_B_3 c i a3 h3 a4 h4 a5 h5 a6 h6 a7 h7 hc0 hc1 x0 x1 x2 s = k0_pay3 (F := Ideal) (k0_pay2 (F := Ideal) (s) x0 x1) x2 := by
  unfold out0_B_3
  rw [View.read_writes_eq_canon _ _ _ (cover0_B_3 c i a3 h3 a4 h4 a5 h5 a6 h6 a7 h7 hc0 hc1 x0 x1 x2 s)]
  unfold kernelRun0_B
  dsimp only
  sl_unfold_words
  rw [View.canon_cons_unit_zero (S := S1024x1024) hz]
  simp only [View.readCov_unit_zero (S := S1024x1024) _ hz, View.readAt_eq_ld, h3.read_unread, h4.read_unread, h5.read_unread, h6.read_unread, h7.read_unread, View.ld_unit_zero (S := S1024x1024) hz]

/-! ## The blocks a point reads -/

variable (m : (ℓ : Loc nD τ sig) → Buf (Elt Ideal) ℓ) (c : Dev nD)

theorem lt_N (t : Fin cfg0.N) : t.val < 16 := lt_of_lt_of_eq t.isLt (show cfg0.N = 16 from N_0)
/-- Operand 0, at a row and a column. -/
def M0 : Fin 4096 → Fin 2048 → EReal := fun i j => (V m c (Pipeline.arrRef spec0 0) : FVec Ideal S4096x2048 .bf16) (ix2 i j)

theorem index_0 : ∀ t : Fin cfg0.N, win0_0.index t (0 : Fin 2) = t.val / 4 ∧ win0_0.index t (1 : Fin 2) = t.val % 2 :=
  (by decide +kernel : ∀ t : Fin grid0.N, _)

theorem emb_0 (t : Fin cfg0.N) (i : Fin 1024) (j : Fin 1024) (hi : t.val / 4 * 1024 + i.val < 4096) (hj : t.val % 2 * 1024 + j.val < 2048) :
    ((cfg0.win 0).rect t).emb (ix2 i j) = (ix2 ⟨t.val / 4 * 1024 + i.val, hi⟩ ⟨t.val % 2 * 1024 + j.val, hj⟩ : S4096x2048.Idx) := by
  funext a
  refine Fin.ext ((Pipeline.Window.rect_emb_val _ t _ a).trans ?_)
  match a with
  | ⟨0, _⟩ => show win0_0.index t (0 : Fin 2) * 1024 + i.val = _; rw [(index_0 t).1]; rfl
  | ⟨1, _⟩ => show win0_0.index t (1 : Fin 2) * 1024 + j.val = _; rw [(index_0 t).2]; rfl

theorem blk_0 (t : Fin cfg0.N) (i : Fin 1024) (j : Fin 1024) :
    (iblk m c 0 t : Vec Ideal S1024x1024 .bf16) (ix2 i j) = rd (M0 m c) (t.val / 4 * 1024 + i.val) (t.val % 2 * 1024 + j.val) := by
  have ht := lt_N t
  have hi : t.val / 4 * 1024 + i.val < 4096 := by omega
  have hj : t.val % 2 * 1024 + j.val < 2048 := by omega
  rw [rd_of _ hi hj]
  unfold iblk M0
  refine Eq.trans ?_ (congrArg (V m c (Pipeline.arrRef spec0 0) : FVec Ideal S4096x2048 .bf16) (emb_0 t i j hi hj))
  rfl
/-- Operand 1, at a row and a column. -/
def M1 : Fin 2048 → Fin 2048 → EReal := fun i j => (V m c (Pipeline.arrRef spec0 1) : FVec Ideal S2048x2048 .bf16) (ix2 i j)

theorem index_1 : ∀ t : Fin cfg0.N, win0_1.index t (0 : Fin 2) = t.val % 2 ∧ win0_1.index t (1 : Fin 2) = t.val / 2 % 2 :=
  (by decide +kernel : ∀ t : Fin grid0.N, _)

theorem emb_1 (t : Fin cfg0.N) (i : Fin 1024) (j : Fin 1024) (hi : t.val % 2 * 1024 + i.val < 2048) (hj : t.val / 2 % 2 * 1024 + j.val < 2048) :
    ((cfg0.win 1).rect t).emb (ix2 i j) = (ix2 ⟨t.val % 2 * 1024 + i.val, hi⟩ ⟨t.val / 2 % 2 * 1024 + j.val, hj⟩ : S2048x2048.Idx) := by
  funext a
  refine Fin.ext ((Pipeline.Window.rect_emb_val _ t _ a).trans ?_)
  match a with
  | ⟨0, _⟩ => show win0_1.index t (0 : Fin 2) * 1024 + i.val = _; rw [(index_1 t).1]; rfl
  | ⟨1, _⟩ => show win0_1.index t (1 : Fin 2) * 1024 + j.val = _; rw [(index_1 t).2]; rfl

theorem blk_1 (t : Fin cfg0.N) (i : Fin 1024) (j : Fin 1024) :
    (iblk m c 1 t : Vec Ideal S1024x1024 .bf16) (ix2 i j) = rd (M1 m c) (t.val % 2 * 1024 + i.val) (t.val / 2 % 2 * 1024 + j.val) := by
  have ht := lt_N t
  have hi : t.val % 2 * 1024 + i.val < 2048 := by omega
  have hj : t.val / 2 % 2 * 1024 + j.val < 2048 := by omega
  rw [rd_of _ hi hj]
  unfold iblk M1
  refine Eq.trans ?_ (congrArg (V m c (Pipeline.arrRef spec0 1) : FVec Ideal S2048x2048 .bf16) (emb_1 t i j hi hj))
  rfl
/-- Operand 2, at a row and a column. -/
def M2 : Fin 4096 → Fin 2048 → EReal := fun i j => (V m c (Pipeline.arrRef spec0 2) : FVec Ideal S4096x2048 .f32) (ix2 i j)

theorem index_2 : ∀ t : Fin cfg0.N, win0_2.index t (0 : Fin 2) = t.val / 4 ∧ win0_2.index t (1 : Fin 2) = t.val / 2 % 2 :=
  (by decide +kernel : ∀ t : Fin grid0.N, _)

theorem emb_2 (t : Fin cfg0.N) (i : Fin 1024) (j : Fin 1024) (hi : t.val / 4 * 1024 + i.val < 4096) (hj : t.val / 2 % 2 * 1024 + j.val < 2048) :
    ((cfg0.win 2).rect t).emb (ix2 i j) = (ix2 ⟨t.val / 4 * 1024 + i.val, hi⟩ ⟨t.val / 2 % 2 * 1024 + j.val, hj⟩ : S4096x2048.Idx) := by
  funext a
  refine Fin.ext ((Pipeline.Window.rect_emb_val _ t _ a).trans ?_)
  match a with
  | ⟨0, _⟩ => show win0_2.index t (0 : Fin 2) * 1024 + i.val = _; rw [(index_2 t).1]; rfl
  | ⟨1, _⟩ => show win0_2.index t (1 : Fin 2) * 1024 + j.val = _; rw [(index_2 t).2]; rfl

theorem blk_2 (t : Fin cfg0.N) (i : Fin 1024) (j : Fin 1024) :
    (iblk m c 2 t : Vec Ideal S1024x1024 .f32) (ix2 i j) = rd (M2 m c) (t.val / 4 * 1024 + i.val) (t.val / 2 % 2 * 1024 + j.val) := by
  have ht := lt_N t
  have hi : t.val / 4 * 1024 + i.val < 4096 := by omega
  have hj : t.val / 2 % 2 * 1024 + j.val < 2048 := by omega
  rw [rd_of _ hi hj]
  unfold iblk M2
  refine Eq.trans ?_ (congrArg (V m c (Pipeline.arrRef spec0 2) : FVec Ideal S4096x2048 .f32) (emb_2 t i j hi hj))
  rfl
/-! ## The accumulator -/

/-- A term of the product at row `a` and column `b`. -/
def tm (a b k : ℕ) : EReal := rd (M0 m c) a k * rd (M1 m c) k b

/-- One point adds its block of terms. -/
theorem add_block (t : Fin cfg0.N) (s : Vec Ideal S1024x1024 .f32) (i : Fin 1024) (j : Fin 1024)
    (hs : s (ix2 i j) = psum (tm m c (t.val / 4 * 1024 + i.val) (t.val / 2 % 2 * 1024 + j.val)) (t.val % 2 * 1024)) :
    k0_pay2 (F := Ideal) (s) (iblk m c 0 t) (iblk m c 1 t) (ix2 i j)
      = psum (tm m c (t.val / 4 * 1024 + i.val) (t.val / 2 % 2 * 1024 + j.val)) ((t.val % 2 + 1) * 1024) := by
  rw [pay2_at, hs, ← psum_step]
  simp only [blk_0, blk_1]
  unfold tm
  rfl

theorem scr_first (t : Fin cfg0.N) (h : t.val % 2 = 0) : (outsAt0 m c t.val t.isLt).2 = k0_pay2 (F := Ideal) (k0_pay1 (F := Ideal)) (iblk m c 0 t) (iblk m c 1 t) := by
  rw [outsAt0_A m c t h (by omega)]
  dsimp only
  rw [scr_A]

theorem scr_next (t : Fin cfg0.N) (h : ¬ t.val % 2 = 0) :
    (outsAt0 m c t.val t.isLt).2 = k0_pay2 (F := Ideal) ((outsAt0 m c (t.val - 1) (Nat.lt_of_le_of_lt (Nat.sub_le _ _) t.isLt)).2) (iblk m c 0 t) (iblk m c 1 t) := by
  rw [outsAt0_B m c t (by omega) (by omega)]
  dsimp only
  rw [scr_B]
theorem out_last (t : Fin cfg0.N) (h : t.val % 2 = 1) :
    (outsAt0 m c t.val t.isLt).1 = k0_pay3 (F := Ideal) (outsAt0 m c t.val t.isLt).2 (iblk m c 2 t) := by
  rw [scr_next m c t (by omega), outsAt0_B m c t (by omega) h]
  dsimp only
  rw [out_B]

/-- What the accumulator holds after each point. -/
theorem scr_holds : ∀ (n : ℕ) (hn : n < cfg0.N) (i : Fin 1024) (j : Fin 1024),
    (outsAt0 m c n hn).2 (ix2 i j) = psum (tm m c (n / 4 * 1024 + i.val) (n / 2 % 2 * 1024 + j.val)) ((n % 2 + 1) * 1024) := by
  have first : ∀ (t : Fin cfg0.N) (h : t.val % 2 = 0) (i : Fin 1024) (j : Fin 1024),
      (outsAt0 m c t.val t.isLt).2 (ix2 i j) = psum (tm m c (t.val / 4 * 1024 + i.val) (t.val / 2 % 2 * 1024 + j.val)) ((t.val % 2 + 1) * 1024) := fun t h i j => by
    rw [scr_first m c t h]
    refine add_block m c t _ i j ?_
    rw [h, Nat.zero_mul, psum_zero, pay1_at]
  intro n
  induction n with
  | zero => exact fun hn i j => first ⟨0, hn⟩ rfl i j
  | succ n ih =>
    intro hn i j
    by_cases h : (n + 1) % 2 = 0
    · exact first ⟨n + 1, hn⟩ h i j
    · rw [scr_next m c ⟨n + 1, hn⟩ h]
      refine add_block m c ⟨n + 1, hn⟩ _ i j ?_
      refine (ih (Nat.lt_of_succ_lt hn) i j).trans ?_
      have e1 : (n + 1) / 4 = n / 4 := by omega
      have e2 : (n + 1) / 2 % 2 = n / 2 % 2 := by omega
      have e3 : (n + 1) % 2 = n % 2 + 1 := by omega
      dsimp only
      rw [e1, e2, e3]

/-! ## The result -/

/-- The result array. -/
def G : FVec Ideal S4096x2048 .f32 := fun x => psum (tm m c (x 0).val (x 1).val) 2048 * Ideal.ofBits .f32 0x3F800000#32 + rd (M2 m c) (x 0).val (x 1).val

theorem index_out : ∀ t : Fin cfg0.N, win0_3.index t (0 : Fin 2) = t.val / 4 ∧ win0_3.index t (1 : Fin 2) = t.val / 2 % 2 :=
  (by decide +kernel : ∀ t : Fin grid0.N, _)

theorem emb_out (t : Fin cfg0.N) (i : Fin 1024) (j : Fin 1024) (hi : t.val / 4 * 1024 + i.val < 4096) (hj : t.val / 2 % 2 * 1024 + j.val < 2048) :
    ((cfg0.win 3).rect t).emb (ix2 i j) = (ix2 ⟨t.val / 4 * 1024 + i.val, hi⟩ ⟨t.val / 2 % 2 * 1024 + j.val, hj⟩ : S4096x2048.Idx) := by
  funext a
  refine Fin.ext ((Pipeline.Window.rect_emb_val _ t _ a).trans ?_)
  match a with
  | ⟨0, _⟩ => show win0_3.index t (0 : Fin 2) * 1024 + i.val = _; rw [(index_out t).1]; rfl
  | ⟨1, _⟩ => show win0_3.index t (1 : Fin 2) * 1024 + j.val = _; rw [(index_out t).2]; rfl

theorem read_out (Z : FVec Ideal S4096x2048 .f32) (t : Fin cfg0.N) (i : Fin 1024) (j : Fin 1024) (hi : t.val / 4 * 1024 + i.val < 4096) (hj : t.val / 2 % 2 * 1024 + j.val < 2048) :
    ((cfg0.win 3).blk t).view.read (Elt Ideal) Z (ix2 i j) = Z (ix2 ⟨t.val / 4 * 1024 + i.val, hi⟩ ⟨t.val / 2 % 2 * 1024 + j.val, hj⟩) := by
  refine Eq.trans ?_ (congrArg Z (emb_out t i j hi hj))
  rfl

theorem flushed (t : Fin cfg0.N) (hf : (cfg0.win 3).flush t = true) :
    (dats m 0 c).flushed 3 t = ((cfg0.win 3).blk t).view.read (Elt Ideal) (G m c) := by
  have h := (flush0_3 t).mp hf
  have ht := lt_N t
  rw [Value.flushed3]
  refine funext fun (y : S1024x1024.Idx) => ?_
  obtain ⟨i, j, rfl⟩ : ∃ i j, y = ix2 i j := ⟨y 0, y 1, funext fun a => by match a with | ⟨0, _⟩ => rfl | ⟨1, _⟩ => rfl⟩
  refine Eq.trans ?_ (read_out (G m c) t i j (by omega) (by omega)).symm
  show (outsAt0 m c t.val t.isLt).1 (ix2 i j) = _
  rw [out_last m c t h, pay3_at, scr_holds m c t.val t.isLt, h]
  rw [blk_2]
  rfl

/-- The result array after the run. -/
theorem final : (dats m 0 c).arrAt 3 cfg0.N = G m c :=
  (dats m 0 c).arrAt_eq_of_cover 3 (G m c) (fun t hf => flushed m c t hf) (fun i => (Value.covered_iff3 i).2 (by
    have h0 : (i 0).val < 4096 := (i 0).isLt; have h1 : (i 1).val < 2048 := (i 1).isLt; omega))

end Cert.Ffn13
end
-- ==== Proof.Ffn.Claim13.lean ====
/-
  Call 13 and its reference return the same array over the extended reals.
-/
module

public import proofs.«01_k».proof.Defs
public import proofs.«01_k».proof.Proof.Ffn.Call13
public import proofs.«01_k».proof.Proof.Gen.Kernel13.Frame
public import proofs.«01_k».proof.Proof.Gen.Reference13Ideal.Run
public import Idealize.ShloMosaic.Lib.Quiescent

@[expose] public section

set_option maxRecDepth 16384

noncomputable section

namespace Cert.Ffn13

open Cert.Ffn
open Idealize.ShloMosaic Idealize.ShloMosaic.TcCoe Idealize.ShloMosaic.Tactic Idealize.SL.Sem

section
open Cert.Reference13Ideal Cert.Reference13Ideal.Gen

/-- The reference's result. -/
def rout (z0 : FVec Ideal S4096x2048 .f32) (z1 : FVec Ideal S4096x2048 .bf16) (z2 : FVec Ideal S2048x2048 .bf16) : FVec Ideal S4096x2048 .f32 :=
  addf z0 (Host.dotGeneral dot_S4096x2048_S2048x2048_S4096x2048_1_0_0_1_n_n none (extf .f32 z1 bitsLt_bf16_f32) (extf .f32 z2 bitsLt_bf16_f32))

theorem rout_at (z0 : FVec Ideal S4096x2048 .f32) (z1 : FVec Ideal S4096x2048 .bf16) (z2 : FVec Ideal S2048x2048 .bf16) (a : Fin 4096) (b : Fin 2048) :
    rout z0 z1 z2 (ix2 a b) = z0 (ix2 a b) + ∑ k : Fin 2048, z1 (ix2 a k) * z2 (ix2 k b) := by
  pointwise [rout]

end

section
open Cert.Kernel13Ideal Cert.Kernel13Ideal.Gen

variable (m : (ℓ : Loc nD τ sig) → Buf (Elt Ideal) ℓ) (c : Dev nD)

theorem G_at (a : Fin 4096) (b : Fin 2048) :
    G m c (ix2 a b) = (∑ k, M0 m c a k * M1 m c k b) * Ideal.ofBits .f32 0x3F800000#32 + M2 m c a b := by
  show psum (tm m c a.val b.val) 2048 * _ + rd (M2 m c) a.val b.val = _
  rw [psum_all]
  unfold tm
  simp only [rd_val]

end

theorem algebraic : Cert.algebraic_Kernel13Ideal_Reference13Ideal := by
  intro m g m' g' _ ha
  refine ⟨fun c => G m c, ?_, ?_⟩
  · exact (θ_run Cert.Kernel13Ideal.defs _ _).mono (fun r h c => ⟨(h c).1.trans (final m c), (h c).2⟩) (Cert.Kernel13Ideal.Value.run_blocks (F := Ideal) m g)
  · refine (θ_run Cert.Reference13Ideal.defs _ _).mono (fun r h c => ⟨(h c).1.trans ?_, (h c).2⟩) (Cert.Reference13Ideal.Value.run (F := Ideal) m' g')
    obtain ⟨e0, e1, e2⟩ := ha c
    show rout (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) = G m c
    refine funext fun (x : Cert.Kernel13Ideal.S4096x2048.Idx) => ?_
    obtain ⟨a, b, rfl⟩ : ∃ a b, x = ix2 a b := ⟨x 0, x 1, funext fun q => by match q with | ⟨0, _⟩ => rfl | ⟨1, _⟩ => rfl⟩
    rw [G_at]
    refine (rout_at _ _ _ a b).trans ?_
    rw [one_word, mul_one, add_comm _ (M2 m c a b)]
    refine congrArg₂ (fun x y : EReal => x + y) (congrFun e0 (ix2 a b)) (Finset.sum_congr rfl fun k _ => ?_)
    exact congrArg₂ (fun x y : EReal => x * y) (congrFun e1 (ix2 a k)) (congrFun e2 (ix2 k b))

theorem frame_kernel : Cert.quiescent_Kernel13 := fun m ρ _ => Cert.Kernel13.Gen.frame (F := Bits) m ρ

theorem frame_ideal : Cert.quiescent_Kernel13Ideal := fun m ρ _ => Cert.Kernel13Ideal.Gen.frame (F := Ideal) m ρ

theorem frame_ref : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

end Cert.Ffn13
end
-- ==== Proof.lean ====
/-
  The certificate's claims, put together.
-/
module

public import proofs.«01_k».proof.Defs
public import proofs.«01_k».proof.Proof.Frames
public import proofs.«01_k».proof.Proof.FoxQ.Algebraic
public import proofs.«01_k».proof.Proof.Ffn.Claim2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Ffn.Claim3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Ffn.Claim4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Ffn.Claim5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Ffn.Claim6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Ffn.Claim7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Ffn.Claim8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Ffn.Claim9
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Ffn.Claim10
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Ffn.Claim11
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Ffn.Claim12
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Ffn.Claim13
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.FoxQ.preFacts, Cert.Ffn7.preFacts,
    frame_kernel, frame_ideal, fun m ρ _ => frame_ideal m ρ trivial, frame_ref, fun m ρ _ => frame_ref m ρ trivial,
    Cert.Ffn2.frame_kernel, Cert.Ffn2.frame_ideal, Cert.Ffn2.frame_ref,
    Cert.Ffn3.frame_kernel, Cert.Ffn3.frame_ideal, Cert.Ffn3.frame_ref,
    Cert.Ffn4.frame_kernel, Cert.Ffn4.frame_ideal, Cert.Ffn4.frame_ref,
    Cert.Ffn5.frame_kernel, Cert.Ffn5.frame_ideal, Cert.Ffn5.frame_ref,
    Cert.Ffn6.frame_kernel, Cert.Ffn6.frame_ideal, Cert.Ffn6.frame_ref,
    Cert.Ffn7.frame_kernel, Cert.Ffn7.frame_ideal, fun m ρ _ => Cert.Ffn7.frame_ideal m ρ trivial,
    Cert.Ffn7.frame_ref, fun m ρ _ => Cert.Ffn7.frame_ref m ρ trivial,
    Cert.Ffn8.frame_kernel, Cert.Ffn8.frame_ideal, Cert.Ffn8.frame_ref,
    Cert.Ffn9.frame_kernel, Cert.Ffn9.frame_ideal, Cert.Ffn9.frame_ref,
    Cert.Ffn10.frame_kernel, Cert.Ffn10.frame_ideal, Cert.Ffn10.frame_ref,
    Cert.Ffn11.frame_kernel, Cert.Ffn11.frame_ideal, Cert.Ffn11.frame_ref,
    Cert.Ffn12.frame_kernel, Cert.Ffn12.frame_ideal, Cert.Ffn12.frame_ref,
    Cert.Ffn13.frame_kernel, Cert.Ffn13.frame_ideal, Cert.Ffn13.frame_ref,
    trivial, algebraic Cert.FoxQ.preFacts,
    trivial, Cert.Ffn2.algebraic, trivial, Cert.Ffn3.algebraic, trivial, Cert.Ffn4.algebraic,
    trivial, Cert.Ffn5.algebraic, trivial, Cert.Ffn6.algebraic, trivial, Cert.Ffn7.algebraic Cert.Ffn7.preFacts,
    trivial, Cert.Ffn8.algebraic, trivial, Cert.Ffn9.algebraic,
    trivial, Cert.Ffn10.algebraic, trivial, Cert.Ffn11.algebraic,
    trivial, Cert.Ffn12.algebraic, trivial, Cert.Ffn13.algebraic⟩

end Cert.Proof

end
